-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_v41) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x8x96 .f32) (main_arg1 : FVec F S16384x8x96 .f32) (main_arg2 : FVec F S16384x8x64 .f32) (main_arg3 : FVec F S16384x512 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_finite6.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S16384x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024 .f32) (main_arg2 : FVec F S1024x5632 .f32) (main_arg3 : FVec F S2816x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16x1x1024 : Shape := ⟨4, ![8, 16, 1, 1024]⟩
abbrev S16384x8 : Shape := ⟨2, ![16384, 8]⟩
abbrev S16384x768 : Shape := ⟨2, ![16384, 768]⟩
abbrev S16384x8x32 : Shape := ⟨3, ![16384, 8, 32]⟩
abbrev S16384x8x128 : Shape := ⟨3, ![16384, 8, 128]⟩
abbrev S16384x1024 : Shape := ⟨2, ![16384, 1024]⟩
abbrev S16x1024x8x64 : Shape := ⟨4, ![16, 1024, 8, 64]⟩
abbrev S8x16x64x1024 : Shape := ⟨4, ![8, 16, 64, 1024]⟩
abbrev S8x16x8x1024 : Shape := ⟨4, ![8, 16, 8, 1024]⟩
abbrev S8x16x128x1024 : Shape := ⟨4, ![8, 16, 128, 1024]⟩
abbrev S1024x128 : Shape := ⟨2, ![1024, 128]⟩
abbrev S1x1x64x1024 : Shape := ⟨4, ![1, 1, 64, 1024]⟩
abbrev S16384x128 : Shape := ⟨2, ![16384, 128]⟩
abbrev S1x16x64x1024 : Shape := ⟨4, ![1, 16, 64, 1024]⟩
abbrev S1x16x8x1024 : Shape := ⟨4, ![1, 16, 8, 1024]⟩
abbrev S1x16x128x1024 : Shape := ⟨4, ![1, 16, 128, 1024]⟩
abbrev S128x1024 : Shape := ⟨2, ![128, 1024]⟩
abbrev S64x1024 : Shape := ⟨2, ![64, 1024]⟩
abbrev S1024x1024 : Shape := ⟨2, ![1024, 1024]⟩
abbrev S1x1x8x1024 : Shape := ⟨4, ![1, 1, 8, 1024]⟩
abbrev S8x1024 : Shape := ⟨2, ![8, 1024]⟩
abbrev S1x1024 : Shape := ⟨2, ![1, 1024]⟩
abbrev S1x1x128x1024 : Shape := ⟨4, ![1, 1, 128, 1024]⟩

abbrev nBuf : Space → Nat
  | .hbm => 79
  | .vmem => 18
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x512, .f32⟩
  | .hbm, ⟨4, _⟩ => ⟨S16384x8x64, .f32⟩
  | .hbm, ⟨5, _⟩ => ⟨S_, .f32⟩
  | .hbm, ⟨6, _⟩ => ⟨S16384x8x96, .f32⟩
  | .hbm, ⟨7, _⟩ => ⟨S16384x8x96, .f32⟩
  | .hbm, ⟨8, _⟩ => ⟨S8x16384x16384, .f32⟩
  | .hbm, ⟨9, _⟩ => ⟨S_, .f32⟩
  | .hbm, ⟨10, _⟩ => ⟨S8x16384, .f32⟩
  | .hbm, ⟨11, _⟩ => ⟨S8x16384x1, .f32⟩
  | .hbm, ⟨12, _⟩ => ⟨S8x16384x16384, .f32⟩
  | .hbm, ⟨13, _⟩ => ⟨S8x16384x16384, .f32⟩
  | .hbm, ⟨14, _⟩ => ⟨S8x16384x16384, .f32⟩
  | .hbm, ⟨15, _⟩ => ⟨S_, .f32⟩
  | .hbm, ⟨16, _⟩ => ⟨S8x16384, .f32⟩
  | .hbm, ⟨17, _⟩ => ⟨S_, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x64x16384, .f32⟩
  | .hbm, ⟨32, _⟩ => ⟨S16384x8x64, .f32⟩
  | .hbm, ⟨33, _⟩ => ⟨S8x16384, .f32⟩
  | .hbm, ⟨34, _⟩ => ⟨S8x16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x16384, .f32⟩
  | .hbm, ⟨39, _⟩ => ⟨S8x16384, .f32⟩
  | .hbm, ⟨40, _⟩ => ⟨S8x16x1x1024, .f32⟩
  | .hbm, ⟨41, _⟩ => ⟨S16384x8x64, .f32⟩
  | .hbm, ⟨42, _⟩ => ⟨S_, .f32⟩
  | .hbm, ⟨43, _⟩ => ⟨S16384x8, .f32⟩
  | .hbm, ⟨44, _⟩ => ⟨S8x16384, .f32⟩
  | .hbm, ⟨45, _⟩ => ⟨S8x16x1x1024, .f32⟩
  | .hbm, ⟨46, _⟩ => ⟨S_, .f32⟩
  | .hbm, ⟨47, _⟩ => ⟨S16384x8x96, .f32⟩
  | .hbm, ⟨48, _⟩ => ⟨S16384x8x96, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16384x8x96, .f32⟩
  | .hbm, ⟨53, _⟩ => ⟨S16384x8x96, .f32⟩
  | .hbm, ⟨54, _⟩ => ⟨S16384x768, .f32⟩
  | .hbm, ⟨55, _⟩ => ⟨S16384x8x96, .f32⟩
  | .hbm, ⟨56, _⟩ => ⟨S_, .f32⟩
  | .hbm, ⟨57, _⟩ => ⟨S16384x8x32, .f32⟩
  | .hbm, ⟨58, _⟩ => ⟨S16384x8x128, .f32⟩
  | .hbm, ⟨59, _⟩ => ⟨S16384x1024, .f32⟩
  | .hbm, ⟨60, _⟩ => ⟨S16384x1024, .bf16⟩
  | .hbm, ⟨61, _⟩ => ⟨S16384x768, .f32⟩
  | .hbm, ⟨62, _⟩ => ⟨S16384x8x96, .f32⟩
  | .hbm, ⟨63, _⟩ => ⟨S_, .f32⟩
  | .hbm, ⟨64, _⟩ => ⟨S16384x8x32, .f32⟩
  | .hbm, ⟨65, _⟩ => ⟨S16384x8x128, .f32⟩
  | .hbm, ⟨66, _⟩ => ⟨S16384x1024, .f32⟩
  | .hbm, ⟨67, _⟩ => ⟨S16384x1024, .bf16⟩
  | .hbm, ⟨68, _⟩ => ⟨S16x1024x8x64, .f32⟩
  | .hbm, ⟨69, _⟩ => ⟨S8x16x64x1024, .f32⟩
  | .hbm, ⟨70, _⟩ => ⟨S8x16x64x1024, .bf16⟩
  | .hbm, ⟨71, _⟩ => ⟨S16x1024x8x64, .f32⟩
  | .hbm, ⟨72, _⟩ => ⟨S8x16x64x1024, .f32⟩
  | .hbm, ⟨73, _⟩ => ⟨S8x16x64x1024, .bf16⟩
  | .hbm, ⟨74, _⟩ => ⟨S8x16x8x1024, .f32⟩
  | .hbm, ⟨75, _⟩ => ⟨S8x16x8x1024, .f32⟩
  | .hbm, ⟨76, _⟩ => ⟨S8x16x128x1024, .f32⟩
  | .hbm, ⟨77, _⟩ => ⟨S16384x1024, .f32⟩
  | .hbm, ⟨78, _⟩ => ⟨S8x16x64x1024, .f32⟩
  | .local _ .vmem, ⟨0, _⟩ => ⟨S1024x128, .bf16⟩
  | .local _ .vmem, ⟨1, _⟩ => ⟨S1024x128, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S16384x128, .bf16⟩
  | .local _ .vmem, ⟨5, _⟩ => ⟨S16384x128, .bf16⟩
  | .local _ .vmem, ⟨6, _⟩ => ⟨S1x16x64x1024, .bf16⟩
  | .local _ .vmem, ⟨7, _⟩ => ⟨S1x16x64x1024, .bf16⟩
  | .local _ .vmem, ⟨8, _⟩ => ⟨S1x16x8x1024, .f32⟩
  | .local _ .vmem, ⟨9, _⟩ => ⟨S1x16x8x1024, .f32⟩
  | .local _ .vmem, ⟨10, _⟩ => ⟨S1x16x8x1024, .f32⟩
  | .local _ .vmem, ⟨11, _⟩ => ⟨S1x16x8x1024, .f32⟩
  | .local _ .vmem, ⟨12, _⟩ => ⟨S1x16x128x1024, .f32⟩
  | .local _ .vmem, ⟨13, _⟩ => ⟨S1x16x128x1024, .f32⟩
  | .local _ .vmem, ⟨14, _⟩ => ⟨S1024x128, .f32⟩
  | .local _ .vmem, ⟨15, _⟩ => ⟨S1024x128, .f32⟩
  | .local _ .vmem, ⟨16, _⟩ => ⟨S1x1x64x1024, .f32⟩
  | .local _ .vmem, ⟨17, _⟩ => ⟨S1x1x64x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_13 : BitVec 32 := 0#32
  let c16_i32 : BitVec 32 := 16#32
  let v14 : BitVec 32 := Scalar.addi c0_i32_13 c16_i32
  let c1_i32 : BitVec 32 := 1#32
  ⟨c0_i32_13, v14, c1_i32⟩
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c1024_i32 : BitVec 32 := 1024#32
  let v20 : BitVec 32 := Scalar.muli arg11 c1024_i32
  v20
def k0_off1 (k0_t1 : Fin k0_t1_loop.trips) : Fin 2 → Nat :=
  let c0_i32_13 : BitVec 32 := 0#32
  let c1_i32 : BitVec 32 := 1#32
  let arg11 : BitVec 32 := Scf.iv c0_i32_13 c1_i32 k0_t1
  let c1024_i32 : BitVec 32 := 1024#32
  let v20 : BitVec 32 := Scalar.muli arg11 c1024_i32
  let v21 : BitVec 32 := v20
  let v22 : Index := Scalar.indexCast v21
  let c0_20 : Index := 0#32
  ![v22.toNat, 0]
def k0_off2 (k0_t1 : Fin k0_t1_loop.trips) : Fin 4 → Nat :=
  let c0_21 : Index := 0#32
  let c0_i32_13 : BitVec 32 := 0#32
  let c1_i32 : BitVec 32 := 1#32
  let arg11 : BitVec 32 := Scf.iv c0_i32_13 c1_i32 k0_t1
  let v25 : Index := Scalar.indexCast arg11
  let c0_22 : Index := 0#32
  let c0_23 : Index := 0#32
  ![0, v25.toNat, 0, 0]
def k0_off3 (k0_t1 : Fin k0_t1_loop.trips) : Fin 4 → Nat :=
  let c0_25 : Index := 0#32
  let c0_i32_13 : BitVec 32 := 0#32
  let c1_i32 : BitVec 32 := 1#32
  let arg11 : BitVec 32 := Scf.iv c0_i32_13 c1_i32 k0_t1
  let v29 : Index := Scalar.indexCast arg11
  let c0_26 : Index := 0#32
  let c0_27 : Index := 0#32
  ![0, v29.toNat, 0, 0]
def k0_off4 (k0_t1 : Fin k0_t1_loop.trips) : Fin 4 → Nat :=
  let c0_46 : Index := 0#32
  let c0_i32_13 : BitVec 32 := 0#32
  let c1_i32 : BitVec 32 := 1#32
  let arg11 : BitVec 32 := Scf.iv c0_i32_13 c1_i32 k0_t1
  let v58 : Index := Scalar.indexCast arg11
  let c0_47 : Index := 0#32
  let c0_48 : Index := 0#32
  ![0, v58.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x32 : Shape := ⟨3, ![16384, 8, 32]⟩
abbrev S16384x8x128 : Shape := ⟨3, ![16384, 8, 128]⟩
abbrev S16x1024x8x128 : Shape := ⟨4, ![16, 1024, 8, 128]⟩
abbrev S8x16x128x1024 : Shape := ⟨4, ![8, 16, 128, 1024]⟩
abbrev S16384x1024 : Shape := ⟨2, ![16384, 1024]⟩
abbrev S16x1024x8x64 : Shape := ⟨4, ![16, 1024, 8, 64]⟩
abbrev S8x16x64x1024 : Shape := ⟨4, ![8, 16, 64, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x512, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .i1⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .i1⟩
  | .hbm, ⟨22, _⟩ => ⟨S_, .f32⟩
  | .hbm, ⟨23, _⟩ => ⟨S8x16384, .f32⟩
  | .hbm, ⟨24, _⟩ => ⟨S8x16384, .i1⟩
  | .hbm, ⟨25, _⟩ => ⟨S_, .f32⟩
  | .hbm, ⟨26, _⟩ => ⟨S8x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x1, .f32⟩
  | .hbm, ⟨43, _⟩ => ⟨S_, .f32⟩
  | .hbm, ⟨44, _⟩ => ⟨S8x16384x1, .f32⟩
  | .hbm, ⟨45, _⟩ => ⟨S8x16384x1, .f32⟩
  | .hbm, ⟨46, _⟩ => ⟨S8x64x16384, .f32⟩
  | .hbm, ⟨47, _⟩ => ⟨S16384x8x64, .f32⟩
  | .hbm, ⟨48, _⟩ => ⟨S16384x512, .f32⟩
  | .hbm, ⟨49, _⟩ => ⟨S16384x8x64, .f32⟩
  | .hbm, ⟨50, _⟩ => ⟨S8x64x16384, .f32⟩
  | .hbm, ⟨51, _⟩ => ⟨S8x16384x16384, .f32⟩
  | .hbm, ⟨52, _⟩ => ⟨S8x64x16384, .f32⟩
  | .hbm, ⟨53, _⟩ => ⟨S16384x8x64, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x1, .f32⟩
  | .hbm, ⟨61, _⟩ => ⟨S8x16384x16384, .f32⟩
  | .hbm, ⟨62, _⟩ => ⟨S8x16384x16384, .f32⟩
  | .hbm, ⟨63, _⟩ => ⟨S_, .f32⟩
  | .hbm, ⟨64, _⟩ => ⟨S8x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S8x16384x96, .f32⟩
  | .hbm, ⟨69, _⟩ => ⟨S16384x8x96, .f32⟩
  | .hbm, ⟨70, _⟩ => ⟨S8x16384x96, .f32⟩
  | .hbm, ⟨71, _⟩ => ⟨S16384x8x96, .f32⟩
  | .hbm, ⟨72, _⟩ => ⟨S_, .f32⟩
  | .hbm, ⟨73, _⟩ => ⟨S16384x8x32, .f32⟩
  | .hbm, ⟨74, _⟩ => ⟨S16384x8x128, .f32⟩
  | .hbm, ⟨75, _⟩ => ⟨S16x1024x8x128, .f32⟩
  | .hbm, ⟨76, _⟩ => ⟨S8x16x128x1024, .f32⟩
  | .hbm, ⟨77, _⟩ => ⟨S_, .f32⟩
  | .hbm, ⟨78, _⟩ => ⟨S16384x8x32, .f32⟩
  | .hbm, ⟨79, _⟩ => ⟨S16384x8x128, .f32⟩
  | .hbm, ⟨80, _⟩ => ⟨S16384x1024, .f32⟩
  | .hbm, ⟨81, _⟩ => ⟨S16x1024x8x64, .f32⟩
  | .hbm, ⟨82, _⟩ => ⟨S8x16x64x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S1x1024 : Shape := ⟨2, ![1, 1024]⟩
abbrev S5632x1024 : Shape := ⟨2, ![5632, 1024]⟩
abbrev S512x1024 : Shape := ⟨2, ![512, 1024]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .f32⟩
  | .hbm, ⟨4, _⟩ => ⟨S16384x2816, .f32⟩
  | .hbm, ⟨5, _⟩ => ⟨S16384x1024, .f32⟩
  | .hbm, ⟨6, _⟩ => ⟨S1x1024, .f32⟩
  | .hbm, ⟨7, _⟩ => ⟨S1024x5632, .bf16⟩
  | .hbm, ⟨8, _⟩ => ⟨S5632x1024, .bf16⟩
  | .hbm, ⟨9, _⟩ => ⟨S16384x2816, .bf16⟩
  | .hbm, ⟨10, _⟩ => ⟨S16384x2816, .bf16⟩
  | .hbm, ⟨11, _⟩ => ⟨S16384x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x5632, .f32⟩
  | .hbm, ⟨27, _⟩ => ⟨S16384x5632, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S1024x2816, .f32⟩
  | .hbm, ⟨12, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1024x2816, .bf16⟩
  | .hbm, ⟨9, _⟩ => ⟨S16384x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x1024, .bf16⟩
  | .hbm, ⟨53, _⟩ => ⟨S16384x2816, .bf16⟩
  | .hbm, ⟨54, _⟩ => ⟨S16384x2816, .bf16⟩
  | .hbm, ⟨55, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x1280 : Shape := ⟨2, ![1024, 1280]⟩
abbrev S16384x1280 : Shape := ⟨2, ![16384, 1280]⟩
abbrev S1x1024 : Shape := ⟨2, ![1, 1024]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1280, .f32⟩
  | .hbm, ⟨3, _⟩ => ⟨S16384x1280, .f32⟩
  | .hbm, ⟨4, _⟩ => ⟨S16384x1024, .f32⟩
  | .hbm, ⟨5, _⟩ => ⟨S1x1024, .f32⟩
  | .hbm, ⟨6, _⟩ => ⟨S1024x1280, .bf16⟩
  | .hbm, ⟨7, _⟩ => ⟨S16384x1280, .bf16⟩
  | .hbm, ⟨8, _⟩ => ⟨S16384x1024, .f32⟩
  | .hbm, ⟨9, _⟩ => ⟨S1024x1280, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x1280, .bf16⟩
  | .local _ .vmem, ⟨5, _⟩ => ⟨S512x1280, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1280, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S16384x1024 : Shape := ⟨2, ![16384, 1024]⟩
abbrev S1024 : Shape := ⟨1, ![1024]⟩
abbrev S1024x1280 : Shape := ⟨2, ![1024, 1280]⟩
abbrev S16384x1280 : Shape := ⟨2, ![16384, 1280]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1280x1024 : Shape := ⟨2, ![1280, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1280, .f32⟩
  | .hbm, ⟨3, _⟩ => ⟨S16384x1280, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1280, .f32⟩
  | .hbm, ⟨26, _⟩ => ⟨S1280x1024, .f32⟩
  | .hbm, ⟨27, _⟩ => ⟨S1024x1280, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel8.lean ====
abbrev S8x4096x704 : Shape := ⟨3, ![8, 4096, 704]⟩
abbrev S4096x704 : Shape := ⟨2, ![4096, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S8x4096x704, .bf16⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
abbrev S8x4096x704 : Shape := ⟨3, ![8, 4096, 704]⟩
abbrev S4096x704 : Shape := ⟨2, ![4096, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S8x4096x704, .bf16⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x4096x704 : Shape := ⟨3, ![8, 4096, 704]⟩
abbrev S4096x704 : Shape := ⟨2, ![4096, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S_, .f32⟩
  | .hbm, ⟨7, _⟩ => ⟨S4096x704, .f32⟩
  | .hbm, ⟨8, _⟩ => ⟨S4096x704, .f32⟩
  | .hbm, ⟨9, _⟩ => ⟨S_, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S_, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S_, .f32⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S_, .f32⟩
  | .hbm, ⟨22, _⟩ => ⟨S4096x704, .f32⟩
  | .hbm, ⟨23, _⟩ => ⟨S4096x704, .f32⟩
  | .hbm, ⟨24, _⟩ => ⟨S_, .f32⟩
  | .hbm, ⟨25, _⟩ => ⟨S4096x704, .f32⟩
  | .hbm, ⟨26, _⟩ => ⟨S4096x704, .f32⟩
  | .hbm, ⟨27, _⟩ => ⟨S4096x704, .f32⟩
  | .hbm, ⟨28, _⟩ => ⟨S_, .f32⟩
  | .hbm, ⟨29, _⟩ => ⟨S4096x704, .f32⟩
  | .hbm, ⟨30, _⟩ => ⟨S4096x704, .f32⟩
  | .hbm, ⟨31, _⟩ => ⟨S4096x704, .f32⟩
  | .hbm, ⟨32, _⟩ => ⟨S_, .f32⟩
  | .hbm, ⟨33, _⟩ => ⟨S4096x704, .f32⟩
  | .hbm, ⟨34, _⟩ => ⟨S4096x704, .f32⟩
  | .hbm, ⟨35, _⟩ => ⟨S4096x704, .f32⟩
  | .hbm, ⟨36, _⟩ => ⟨S_, .f32⟩
  | .hbm, ⟨37, _⟩ => ⟨S4096x704, .f32⟩
  | .hbm, ⟨38, _⟩ => ⟨S4096x704, .f32⟩
  | _, _ => ⟨S8x4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x1408x1024, .bf16⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel9Ideal.lean ====
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x1408x1024, .bf16⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1408x1024 : Shape := ⟨3, ![8, 1408, 1024]⟩
abbrev S1408x1024 : Shape := ⟨2, ![1408, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S8x1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8x4096x148 : Shape := ⟨3, ![8, 4096, 148]⟩
abbrev S4096x148 : Shape := ⟨2, ![4096, 148]⟩
abbrev S8x512x148 : Shape := ⟨3, ![8, 512, 148]⟩
abbrev S512x148 : Shape := ⟨2, ![512, 148]⟩
abbrev S1x512x148 : Shape := ⟨3, ![1, 512, 148]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x148, .f32⟩
  | .hbm, ⟨1, _⟩ => ⟨S4096x148, .f32⟩
  | .hbm, ⟨2, _⟩ => ⟨S4096x148, .f32⟩
  | .hbm, ⟨3, _⟩ => ⟨S4096x148, .f32⟩
  | .hbm, ⟨4, _⟩ => ⟨S8x4096x148, .bf16⟩
  | .hbm, ⟨5, _⟩ => ⟨S4096x148, .f32⟩
  | .hbm, ⟨6, _⟩ => ⟨S4096x148, .f32⟩
  | .hbm, ⟨7, _⟩ => ⟨S4096x148, .f32⟩
  | .hbm, ⟨8, _⟩ => ⟨S4096x148, .f32⟩
  | .local _ .vmem, ⟨0, _⟩ => ⟨S8x512x148, .bf16⟩
  | .local _ .vmem, ⟨1, _⟩ => ⟨S8x512x148, .bf16⟩
  | .local _ .vmem, ⟨2, _⟩ => ⟨S512x148, .f32⟩
  | .local _ .vmem, ⟨3, _⟩ => ⟨S512x148, .f32⟩
  | .local _ .vmem, ⟨4, _⟩ => ⟨S512x148, .f32⟩
  | .local _ .vmem, ⟨5, _⟩ => ⟨S512x148, .f32⟩
  | .local _ .vmem, ⟨6, _⟩ => ⟨S512x148, .f32⟩
  | .local _ .vmem, ⟨7, _⟩ => ⟨S512x148, .f32⟩
  | .local _ .vmem, ⟨8, _⟩ => ⟨S512x148, .f32⟩
  | .local _ .vmem, ⟨9, _⟩ => ⟨S512x148, .f32⟩
  | .local _ .vmem, ⟨10, _⟩ => ⟨S512x148, .f32⟩
  | .local _ .vmem, ⟨11, _⟩ => ⟨S512x148, .f32⟩
  | .local _ .vmem, ⟨12, _⟩ => ⟨S512x148, .f32⟩
  | .local _ .vmem, ⟨13, _⟩ => ⟨S512x148, .f32⟩
  | .local _ .vmem, ⟨14, _⟩ => ⟨S512x148, .f32⟩
  | .local _ .vmem, ⟨15, _⟩ => ⟨S512x148, .f32⟩
  | _, _ => ⟨S8x4096x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x148 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x148 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x148 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x148 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x148 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x148 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
abbrev S8x4096x148 : Shape := ⟨3, ![8, 4096, 148]⟩
abbrev S4096x148 : Shape := ⟨2, ![4096, 148]⟩
abbrev S8x512x148 : Shape := ⟨3, ![8, 512, 148]⟩
abbrev S512x148 : Shape := ⟨2, ![512, 148]⟩
abbrev S1x512x148 : Shape := ⟨3, ![1, 512, 148]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x148, .f32⟩
  | .hbm, ⟨1, _⟩ => ⟨S4096x148, .f32⟩
  | .hbm, ⟨2, _⟩ => ⟨S4096x148, .f32⟩
  | .hbm, ⟨3, _⟩ => ⟨S4096x148, .f32⟩
  | .hbm, ⟨4, _⟩ => ⟨S8x4096x148, .bf16⟩
  | .hbm, ⟨5, _⟩ => ⟨S4096x148, .f32⟩
  | .hbm, ⟨6, _⟩ => ⟨S4096x148, .f32⟩
  | .hbm, ⟨7, _⟩ => ⟨S4096x148, .f32⟩
  | .hbm, ⟨8, _⟩ => ⟨S4096x148, .f32⟩
  | .local _ .vmem, ⟨0, _⟩ => ⟨S8x512x148, .bf16⟩
  | .local _ .vmem, ⟨1, _⟩ => ⟨S8x512x148, .bf16⟩
  | .local _ .vmem, ⟨2, _⟩ => ⟨S512x148, .f32⟩
  | .local _ .vmem, ⟨3, _⟩ => ⟨S512x148, .f32⟩
  | .local _ .vmem, ⟨4, _⟩ => ⟨S512x148, .f32⟩
  | .local _ .vmem, ⟨5, _⟩ => ⟨S512x148, .f32⟩
  | .local _ .vmem, ⟨6, _⟩ => ⟨S512x148, .f32⟩
  | .local _ .vmem, ⟨7, _⟩ => ⟨S512x148, .f32⟩
  | .local _ .vmem, ⟨8, _⟩ => ⟨S512x148, .f32⟩
  | .local _ .vmem, ⟨9, _⟩ => ⟨S512x148, .f32⟩
  | .local _ .vmem, ⟨10, _⟩ => ⟨S512x148, .f32⟩
  | .local _ .vmem, ⟨11, _⟩ => ⟨S512x148, .f32⟩
  | .local _ .vmem, ⟨12, _⟩ => ⟨S512x148, .f32⟩
  | .local _ .vmem, ⟨13, _⟩ => ⟨S512x148, .f32⟩
  | .local _ .vmem, ⟨14, _⟩ => ⟨S512x148, .f32⟩
  | .local _ .vmem, ⟨15, _⟩ => ⟨S512x148, .f32⟩
  | _, _ => ⟨S8x4096x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x148 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x148 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x148 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x148 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x148 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x148 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x4096x148 : Shape := ⟨3, ![8, 4096, 148]⟩
abbrev S4096x148 : Shape := ⟨2, ![4096, 148]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x148, .f32⟩
  | .hbm, ⟨1, _⟩ => ⟨S4096x148, .f32⟩
  | .hbm, ⟨2, _⟩ => ⟨S4096x148, .f32⟩
  | .hbm, ⟨3, _⟩ => ⟨S4096x148, .f32⟩
  | .hbm, ⟨4, _⟩ => ⟨S_, .f32⟩
  | .hbm, ⟨5, _⟩ => ⟨S4096x148, .f32⟩
  | .hbm, ⟨6, _⟩ => ⟨S_, .f32⟩
  | .hbm, ⟨7, _⟩ => ⟨S4096x148, .f32⟩
  | .hbm, ⟨8, _⟩ => ⟨S4096x148, .f32⟩
  | .hbm, ⟨9, _⟩ => ⟨S_, .f32⟩
  | .hbm, ⟨10, _⟩ => ⟨S4096x148, .f32⟩
  | .hbm, ⟨11, _⟩ => ⟨S4096x148, .f32⟩
  | .hbm, ⟨12, _⟩ => ⟨S4096x148, .f32⟩
  | .hbm, ⟨13, _⟩ => ⟨S_, .f32⟩
  | .hbm, ⟨14, _⟩ => ⟨S4096x148, .f32⟩
  | .hbm, ⟨15, _⟩ => ⟨S4096x148, .f32⟩
  | .hbm, ⟨16, _⟩ => ⟨S4096x148, .f32⟩
  | .hbm, ⟨17, _⟩ => ⟨S_, .f32⟩
  | .hbm, ⟨18, _⟩ => ⟨S4096x148, .f32⟩
  | .hbm, ⟨19, _⟩ => ⟨S4096x148, .f32⟩
  | .hbm, ⟨20, _⟩ => ⟨S4096x148, .f32⟩
  | .hbm, ⟨21, _⟩ => ⟨S_, .f32⟩
  | .hbm, ⟨22, _⟩ => ⟨S4096x148, .f32⟩
  | .hbm, ⟨23, _⟩ => ⟨S4096x148, .f32⟩
  | .hbm, ⟨24, _⟩ => ⟨S_, .f32⟩
  | .hbm, ⟨25, _⟩ => ⟨S4096x148, .f32⟩
  | .hbm, ⟨26, _⟩ => ⟨S4096x148, .f32⟩
  | .hbm, ⟨27, _⟩ => ⟨S4096x148, .f32⟩
  | .hbm, ⟨28, _⟩ => ⟨S_, .f32⟩
  | .hbm, ⟨29, _⟩ => ⟨S4096x148, .f32⟩
  | .hbm, ⟨30, _⟩ => ⟨S4096x148, .f32⟩
  | .hbm, ⟨31, _⟩ => ⟨S4096x148, .f32⟩
  | .hbm, ⟨32, _⟩ => ⟨S_, .f32⟩
  | .hbm, ⟨33, _⟩ => ⟨S4096x148, .f32⟩
  | .hbm, ⟨34, _⟩ => ⟨S4096x148, .f32⟩
  | .hbm, ⟨35, _⟩ => ⟨S4096x148, .f32⟩
  | .hbm, ⟨36, _⟩ => ⟨S_, .f32⟩
  | .hbm, ⟨37, _⟩ => ⟨S4096x148, .f32⟩
  | .hbm, ⟨38, _⟩ => ⟨S4096x148, .f32⟩
  | _, _ => ⟨S8x4096x148, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S8x1536x96 : Shape := ⟨3, ![8, 1536, 96]⟩
abbrev S1536x96 : Shape := ⟨2, ![1536, 96]⟩
abbrev S8x768x96 : Shape := ⟨3, ![8, 768, 96]⟩
abbrev S768x96 : Shape := ⟨2, ![768, 96]⟩
abbrev S1x768x96 : Shape := ⟨3, ![1, 768, 96]⟩

abbrev nBuf : Space → Nat
  | .hbm => 9
  | .vmem => 16
  | .smem => 0
  | _ => 0

abbrev bufTy : (tb : Table) → Fin (tcTables nBuf tb) → BufTy
  | .hbm, ⟨0, _⟩ => ⟨S8x1536x96, .f32⟩
  | .hbm, ⟨1, _⟩ => ⟨S1536x96, .f32⟩
  | .hbm, ⟨2, _⟩ => ⟨S1536x96, .f32⟩
  | .hbm, ⟨3, _⟩ => ⟨S1536x96, .f32⟩
  | .hbm, ⟨4, _⟩ => ⟨S8x1536x96, .bf16⟩
  | .hbm, ⟨5, _⟩ => ⟨S1536x96, .f32⟩
  | .hbm, ⟨6, _⟩ => ⟨S1536x96, .f32⟩
  | .hbm, ⟨7, _⟩ => ⟨S1536x96, .f32⟩
  | .hbm, ⟨8, _⟩ => ⟨S1536x96, .f32⟩
  | .local _ .vmem, ⟨0, _⟩ => ⟨S8x768x96, .bf16⟩
  | .local _ .vmem, ⟨1, _⟩ => ⟨S8x768x96, .bf16⟩
  | .local _ .vmem, ⟨2, _⟩ => ⟨S768x96, .f32⟩
  | .local _ .vmem, ⟨3, _⟩ => ⟨S768x96, .f32⟩
  | .local _ .vmem, ⟨4, _⟩ => ⟨S768x96, .f32⟩
  | .local _ .vmem, ⟨5, _⟩ => ⟨S768x96, .f32⟩
  | .local _ .vmem, ⟨6, _⟩ => ⟨S768x96, .f32⟩
  | .local _ .vmem, ⟨7, _⟩ => ⟨S768x96, .f32⟩
  | .local _ .vmem, ⟨8, _⟩ => ⟨S768x96, .f32⟩
  | .local _ .vmem, ⟨9, _⟩ => ⟨S768x96, .f32⟩
  | .local _ .vmem, ⟨10, _⟩ => ⟨S768x96, .f32⟩
  | .local _ .vmem, ⟨11, _⟩ => ⟨S768x96, .f32⟩
  | .local _ .vmem, ⟨12, _⟩ => ⟨S768x96, .f32⟩
  | .local _ .vmem, ⟨13, _⟩ => ⟨S768x96, .f32⟩
  | .local _ .vmem, ⟨14, _⟩ => ⟨S768x96, .f32⟩
  | .local _ .vmem, ⟨15, _⟩ => ⟨S768x96, .f32⟩
  | _, _ => ⟨S8x1536x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x768x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
abbrev S8x1536x96 : Shape := ⟨3, ![8, 1536, 96]⟩
abbrev S1536x96 : Shape := ⟨2, ![1536, 96]⟩
abbrev S8x768x96 : Shape := ⟨3, ![8, 768, 96]⟩
abbrev S768x96 : Shape := ⟨2, ![768, 96]⟩
abbrev S1x768x96 : Shape := ⟨3, ![1, 768, 96]⟩

abbrev nBuf : Space → Nat
  | .hbm => 9
  | .vmem => 16
  | .smem => 0
  | _ => 0

abbrev bufTy : (tb : Table) → Fin (tcTables nBuf tb) → BufTy
  | .hbm, ⟨0, _⟩ => ⟨S8x1536x96, .f32⟩
  | .hbm, ⟨1, _⟩ => ⟨S1536x96, .f32⟩
  | .hbm, ⟨2, _⟩ => ⟨S1536x96, .f32⟩
  | .hbm, ⟨3, _⟩ => ⟨S1536x96, .f32⟩
  | .hbm, ⟨4, _⟩ => ⟨S8x1536x96, .bf16⟩
  | .hbm, ⟨5, _⟩ => ⟨S1536x96, .f32⟩
  | .hbm, ⟨6, _⟩ => ⟨S1536x96, .f32⟩
  | .hbm, ⟨7, _⟩ => ⟨S1536x96, .f32⟩
  | .hbm, ⟨8, _⟩ => ⟨S1536x96, .f32⟩
  | .local _ .vmem, ⟨0, _⟩ => ⟨S8x768x96, .bf16⟩
  | .local _ .vmem, ⟨1, _⟩ => ⟨S8x768x96, .bf16⟩
  | .local _ .vmem, ⟨2, _⟩ => ⟨S768x96, .f32⟩
  | .local _ .vmem, ⟨3, _⟩ => ⟨S768x96, .f32⟩
  | .local _ .vmem, ⟨4, _⟩ => ⟨S768x96, .f32⟩
  | .local _ .vmem, ⟨5, _⟩ => ⟨S768x96, .f32⟩
  | .local _ .vmem, ⟨6, _⟩ => ⟨S768x96, .f32⟩
  | .local _ .vmem, ⟨7, _⟩ => ⟨S768x96, .f32⟩
  | .local _ .vmem, ⟨8, _⟩ => ⟨S768x96, .f32⟩
  | .local _ .vmem, ⟨9, _⟩ => ⟨S768x96, .f32⟩
  | .local _ .vmem, ⟨10, _⟩ => ⟨S768x96, .f32⟩
  | .local _ .vmem, ⟨11, _⟩ => ⟨S768x96, .f32⟩
  | .local _ .vmem, ⟨12, _⟩ => ⟨S768x96, .f32⟩
  | .local _ .vmem, ⟨13, _⟩ => ⟨S768x96, .f32⟩
  | .local _ .vmem, ⟨14, _⟩ => ⟨S768x96, .f32⟩
  | .local _ .vmem, ⟨15, _⟩ => ⟨S768x96, .f32⟩
  | _, _ => ⟨S8x1536x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x768x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x1536x96 : Shape := ⟨3, ![8, 1536, 96]⟩
abbrev S1536x96 : Shape := ⟨2, ![1536, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1536x96, .f32⟩
  | .hbm, ⟨1, _⟩ => ⟨S1536x96, .f32⟩
  | .hbm, ⟨2, _⟩ => ⟨S1536x96, .f32⟩
  | .hbm, ⟨3, _⟩ => ⟨S1536x96, .f32⟩
  | .hbm, ⟨4, _⟩ => ⟨S_, .f32⟩
  | .hbm, ⟨5, _⟩ => ⟨S1536x96, .f32⟩
  | .hbm, ⟨6, _⟩ => ⟨S_, .f32⟩
  | .hbm, ⟨7, _⟩ => ⟨S1536x96, .f32⟩
  | .hbm, ⟨8, _⟩ => ⟨S1536x96, .f32⟩
  | .hbm, ⟨9, _⟩ => ⟨S_, .f32⟩
  | .hbm, ⟨10, _⟩ => ⟨S1536x96, .f32⟩
  | .hbm, ⟨11, _⟩ => ⟨S1536x96, .f32⟩
  | .hbm, ⟨12, _⟩ => ⟨S1536x96, .f32⟩
  | .hbm, ⟨13, _⟩ => ⟨S_, .f32⟩
  | .hbm, ⟨14, _⟩ => ⟨S1536x96, .f32⟩
  | .hbm, ⟨15, _⟩ => ⟨S1536x96, .f32⟩
  | .hbm, ⟨16, _⟩ => ⟨S1536x96, .f32⟩
  | .hbm, ⟨17, _⟩ => ⟨S_, .f32⟩
  | .hbm, ⟨18, _⟩ => ⟨S1536x96, .f32⟩
  | .hbm, ⟨19, _⟩ => ⟨S1536x96, .f32⟩
  | .hbm, ⟨20, _⟩ => ⟨S1536x96, .f32⟩
  | .hbm, ⟨21, _⟩ => ⟨S_, .f32⟩
  | .hbm, ⟨22, _⟩ => ⟨S1536x96, .f32⟩
  | .hbm, ⟨23, _⟩ => ⟨S1536x96, .f32⟩
  | .hbm, ⟨24, _⟩ => ⟨S_, .f32⟩
  | .hbm, ⟨25, _⟩ => ⟨S1536x96, .f32⟩
  | .hbm, ⟨26, _⟩ => ⟨S1536x96, .f32⟩
  | .hbm, ⟨27, _⟩ => ⟨S1536x96, .f32⟩
  | .hbm, ⟨28, _⟩ => ⟨S_, .f32⟩
  | .hbm, ⟨29, _⟩ => ⟨S1536x96, .f32⟩
  | .hbm, ⟨30, _⟩ => ⟨S1536x96, .f32⟩
  | .hbm, ⟨31, _⟩ => ⟨S1536x96, .f32⟩
  | .hbm, ⟨32, _⟩ => ⟨S_, .f32⟩
  | .hbm, ⟨33, _⟩ => ⟨S1536x96, .f32⟩
  | .hbm, ⟨34, _⟩ => ⟨S1536x96, .f32⟩
  | .hbm, ⟨35, _⟩ => ⟨S1536x96, .f32⟩
  | .hbm, ⟨36, _⟩ => ⟨S_, .f32⟩
  | .hbm, ⟨37, _⟩ => ⟨S1536x96, .f32⟩
  | .hbm, ⟨38, _⟩ => ⟨S1536x96, .f32⟩
  | _, _ => ⟨S8x1536x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S8x1024x64 : Shape := ⟨3, ![8, 1024, 64]⟩
abbrev S1024x64 : Shape := ⟨2, ![1024, 64]⟩
abbrev S1x1024x64 : Shape := ⟨3, ![1, 1024, 64]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x1024x64, .bf16⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .local _ .vmem, ⟨0, _⟩ => ⟨S8x1024x64, .bf16⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
abbrev S8x1024x64 : Shape := ⟨3, ![8, 1024, 64]⟩
abbrev S1024x64 : Shape := ⟨2, ![1024, 64]⟩
abbrev S1x1024x64 : Shape := ⟨3, ![1, 1024, 64]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x1024x64, .bf16⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .local _ .vmem, ⟨0, _⟩ => ⟨S8x1024x64, .bf16⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x1024x64 : Shape := ⟨3, ![8, 1024, 64]⟩
abbrev S1024x64 : Shape := ⟨2, ![1024, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S_, .f32⟩
  | .hbm, ⟨7, _⟩ => ⟨S1024x64, .f32⟩
  | .hbm, ⟨8, _⟩ => ⟨S1024x64, .f32⟩
  | .hbm, ⟨9, _⟩ => ⟨S_, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S_, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024x64, .f32⟩
  | .hbm, ⟨38, _⟩ => ⟨S1024x64, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.FF.All.lean ====
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
-- ==== Proof.KV.Pay.lean ====
/- The kernel's payloads read at an index, over the extended reals: each store's value as a sum of products. -/
module

public import proofs.«01_k».proof.Proof.Gen.KernelIdeal.Skeleton
public import Idealize.ShloMosaic.Lib.Pointwise

@[expose] public section

set_option maxRecDepth 65536

noncomputable section

open scoped BigOperators

namespace Cert.AttnBwd

open Cert.KernelIdeal Cert.KernelIdeal.Gen Idealize.ShloMosaic

/-- The probability tile, transposed: two to the power of a score less the query's logarithmic sum. -/
theorem pay11_apply (v1 : FVec Ideal S1024x128 .bf16) (v23 : Vec Ideal S1024x128 .bf16) (v30 : Vec Ideal S1x1x8x1024 .f32) (y x : Fin 1024) :
    (k0_pay11 v1 v23 v30 : FVec Ideal S1024x1024 .bf16) (ix2 y x)
      = Ideal.exp2 ((∑ d : Fin 128, v1 (ix2 y d) * v23 (ix2 x d)) - v30 (ix4 0 0 0 x)) := by
  unfold k0_pay11 k0_pay9
  pointwise
  rfl

/-- The score gradient's tile: the probability times (the product with the cotangent less the query's own sum). -/
theorem pay12_apply (v1 : FVec Ideal S1024x128 .bf16) (v6 : FVec Ideal S64x1024 .bf16) (v23 : Vec Ideal S1024x128 .bf16)
    (v26 : Vec Ideal S1x1x64x1024 .bf16) (v30 v39 : Vec Ideal S1x1x8x1024 .f32) (y x : Fin 1024) :
    (k0_pay12 v1 v6 v23 v26 v30 v39 : FVec Ideal S1024x1024 .bf16) (ix2 y x)
      = k0_pay11 v1 v23 v30 (ix2 y x) * ((∑ e : Fin 64, v6 (ix2 e y) * v26 (ix4 0 0 e x)) - v39 (ix4 0 0 0 x)) := by
  unfold k0_pay12 k0_pay10
  generalize k0_pay11 v1 v23 v30 = P
  pointwise

/-- The value gradient's block after one more chunk of queries. -/
theorem pay13_apply (v1 : FVec Ideal S1024x128 .bf16) (v23 : Vec Ideal S1024x128 .bf16)
    (v26 : Vec Ideal S1x1x64x1024 .bf16) (v30 : Vec Ideal S1x1x8x1024 .f32) (v46 : Vec Ideal S1x1x64x1024 .f32) (e : Fin 64) (y : Fin 1024) :
    (k0_pay13 v1 v23 v26 v30 v46 : FVec Ideal S1x1x64x1024 .f32) (ix4 0 0 e y)
      = v46 (ix4 0 0 e y) + ∑ x : Fin 1024, v26 (ix4 0 0 e x) * k0_pay11 v1 v23 v30 (ix2 y x) := by
  unfold k0_pay13 k0_pay10
  generalize k0_pay11 v1 v23 v30 = P
  pointwise

/-- The key gradient's block after one more chunk of queries (before its closing factor). -/
theorem pay6_apply (v24 : FVec Ideal S1024x128 .bf16) (v45 : FVec Ideal S1024x1024 .bf16) (v53 : Vec Ideal S1024x128 .f32) (y : Fin 1024) (d : Fin 128) :
    (k0_pay6 v24 v45 v53 : FVec Ideal S1024x128 .f32) (ix2 y d) = v53 (ix2 y d) + ∑ x : Fin 1024, v45 (ix2 y x) * v24 (ix2 x d) := by
  unfold k0_pay6
  pointwise

/-- The query gradient's chunk after one more chunk of keys. -/
theorem pay7_apply (v0 : Vec Ideal S1024x128 .bf16) (v45 : FVec Ideal S1024x1024 .bf16) (v59 : Vec Ideal S1x1x128x1024 .f32) (d : Fin 128) (x : Fin 1024) :
    (k0_pay7 v0 v45 v59 : FVec Ideal S1x1x128x1024 .f32) (ix4 0 0 d x)
      = v59 (ix4 0 0 d x) + ∑ y : Fin 1024, v0 (ix2 y d) * v45 (ix2 y x) := by
  unfold k0_pay7 k0_pay1
  pointwise

/-- The key gradient's closing factor, the natural logarithm of two. -/
theorem pay8_apply (v15 : Vec Ideal S1024x128 .f32) (y : Fin 1024) (d : Fin 128) :
    (k0_pay8 v15 : FVec Ideal S1024x128 .f32) (ix2 y d) = v15 (ix2 y d) * ((Real.log 2 : ℝ) : EReal) := by
  unfold k0_pay8
  pointwise
  rw [IdealRules.named_const.ideal_named_scalar _ _ _ _ rfl]

/-- The stores that clear the key gradient, … -/
theorem pay3_apply (j : S1024x128.Idx) : (k0_pay3 : FVec Ideal S1024x128 .f32) j = 0 := by
  unfold k0_pay3
  pointwise

/-- … the value gradient … -/
theorem pay4_apply (j : S1x1x64x1024.Idx) : (k0_pay4 : FVec Ideal S1x1x64x1024 .f32) j = 0 := by
  unfold k0_pay4
  pointwise

/-- … and the query gradient write zero. -/
theorem pay5_apply (j : S1x16x128x1024.Idx) : (k0_pay5 : FVec Ideal S1x16x128x1024 .f32) j = 0 := by
  unfold k0_pay5
  pointwise

end Cert.AttnBwd
-- ==== Proof.KV.Trip.lean ====
/- One trip of the kernel's loop over the query chunks, and all of them: what the three output blocks hold after the
   trips before `n`, as the contents at loop entry plus sums over the chunks. -/
module

public import proofs.«01_k».proof.Proof.Gen.KernelIdeal.Loops
public import proofs.«01_k».proof.Proof.KV.Pay
public import Idealize.ShloMosaic.Lib.Pipeline.ValueKit.Tiles
public import Idealize.ShloMosaic.Lib.Pipeline.Value

@[expose] public section

set_option maxRecDepth 65536

noncomputable section

open scoped BigOperators

namespace Cert.AttnBwd

open Cert.KernelIdeal Cert.KernelIdeal.Gen Idealize.ShloMosaic Idealize.ShloMosaic.TcCoe Idealize.ShloMosaic.Tactic

/-- The probability of query `x` of chunk `i` at key `y`: the operands are the blocks of keys and of queries and the
    queries' logarithmic sums. -/
def ptB (x0 : Vec Ideal S1024x128 .bf16) (x2 : Vec Ideal S16384x128 .bf16) (x4 : Vec Ideal S1x16x8x1024 .f32) (i : Fin 16) (y x : Fin 1024) : EReal :=
  Ideal.exp2 ((∑ d : Fin 128, x0 (ix2 y d) * x2 (ix2 (⟨1024 * i.val + x.val, by omega⟩ : Fin 16384) d)) - x4 (ix4 0 i 0 x))

/-- The score's gradient at the same place. -/
def dstB (x0 : Vec Ideal S1024x128 .bf16) (x1 : Vec Ideal S1x1x64x1024 .bf16) (x2 : Vec Ideal S16384x128 .bf16) (x3 : Vec Ideal S1x16x64x1024 .bf16)
    (x4 x5 : Vec Ideal S1x16x8x1024 .f32) (i : Fin 16) (y x : Fin 1024) : EReal :=
  ptB x0 x2 x4 i y x * ((∑ e : Fin 64, x1 (ix4 0 0 e y) * x3 (ix4 0 i e x)) - x5 (ix4 0 i 0 x))

section
variable (c : Dev nD) (i : grid0.Coords)
    (a2 : Memref sig .tc .vmem S1024x128 .bf16) (h2 : a2.IsWhole) (a3 : Memref sig .tc .vmem S1x1x64x1024 .bf16) (h3 : a3.IsWhole)
    (a4 : Memref sig .tc .vmem S16384x128 .bf16) (h4 : a4.IsWhole) (a5 : Memref sig .tc .vmem S1x16x64x1024 .bf16) (h5 : a5.IsWhole)
    (a6 : Memref sig .tc .vmem S1x16x8x1024 .f32) (h6 : a6.IsWhole) (a7 : Memref sig .tc .vmem S1x16x8x1024 .f32) (h7 : a7.IsWhole)
    (a8 : Memref sig .tc .vmem S1x16x128x1024 .f32) (h8 : a8.IsWhole) (a9 : Memref sig .tc .vmem S1024x128 .f32) (h9 : a9.IsWhole)
    (a10 : Memref sig .tc .vmem S1x1x64x1024 .f32) (h10 : a10.IsWhole)
    (x0 : Vec Ideal S1024x128 .bf16) (x1 : Vec Ideal S1x1x64x1024 .bf16) (x2 : Vec Ideal S16384x128 .bf16) (x3 : Vec Ideal S1x16x64x1024 .bf16)
    (x4 x5 : Vec Ideal S1x16x8x1024 .f32)

/-- The query chunk's rows of the block of queries, … -/
def qRows (x2 : Vec Ideal S16384x128 .bf16) (k : Fin k0_t1_loop.trips) : Vec Ideal S1024x128 .bf16 :=
  View.ld (Val := Elt Ideal) (e' := .bf16) x2 (Rect.unit (s := S16384x128) (k0_off1 k) S1024x128.size (k0_off1_inb k))
/-- … its columns of the cotangent's block … -/
def cRows (x3 : Vec Ideal S1x16x64x1024 .bf16) (k : Fin k0_t1_loop.trips) : Vec Ideal S1x1x64x1024 .bf16 :=
  View.ld (Val := Elt Ideal) (e' := .bf16) x3 (Rect.unit (s := S1x16x64x1024) (k0_off2 k) S1x1x64x1024.size (k0_off2_inb k))
/-- … and of a block of per-query scalars, as a trip loads them. -/
def sRows (x4 : Vec Ideal S1x16x8x1024 .f32) (k : Fin k0_t1_loop.trips) : Vec Ideal S1x1x8x1024 .f32 :=
  View.ld (Val := Elt Ideal) (e' := .f32) x4 (Rect.unit (s := S1x16x8x1024) (k0_off3 k) S1x1x8x1024.size (k0_off3_inb k))

/-- What one trip stores, of the blocks and of the contents it finds. -/
theorem trip_read (k : Fin k0_t1_loop.trips) (f8 : BufTy.Contents (Elt Ideal) a8.view.ty)
    (f9 : BufTy.Contents (Elt Ideal) a9.view.ty) (f10 : BufTy.Contents (Elt Ideal) a10.view.ty) :
    tripL_k0_t1 (F := Ideal) Variants.none c none i a2 h2 a3 h3 a4 h4 a5 h5 a6 h6 a7 h7 a8 h8 a9 h9 a10 h10 x0 x1
        (h4.unread x2) (h5.unread x3) (h6.unread x4) (h7.unread x5) k f8 f9 f10
      = ([⟨Rect.unit (s := S1x16x128x1024) (k0_off4 k) S1x1x128x1024.size (k0_off4_inb k),
            k0_pay7 x0 (k0_pay12 (k0_pay1 x0) (k0_pay2 x1) (qRows x2 k) (cRows x3 k) (sRows x4 k) (sRows x5 k))
              (View.ld (a8.view.read (Elt Ideal) f8) (Rect.unit (s := S1x16x128x1024) (k0_off4 k) S1x1x128x1024.size (k0_off4_inb k)))⟩],
         [⟨Rect.unit (s := S1024x128) ![0, 0] S1024x128.size inb_S1024x128_S1024x128_0_0,
            k0_pay6 (k0_pay9 (qRows x2 k)) (k0_pay12 (k0_pay1 x0) (k0_pay2 x1) (qRows x2 k) (cRows x3 k) (sRows x4 k) (sRows x5 k))
              (a9.view.read (Elt Ideal) f9)⟩],
         [⟨Rect.unit (s := S1x1x64x1024) ![0, 0, 0, 0] S1x1x64x1024.size inb_S1x1x64x1024_S1x1x64x1024_0_0_0_0,
            k0_pay13 (k0_pay1 x0) (qRows x2 k) (cRows x3 k) (sRows x4 k) (a10.view.read (Elt Ideal) f10)⟩]) := by
  unfold tripL_k0_t1 trip_k0_t1
  dsimp only
  sl_unfold_words
  simp only [View.readAt_eq_ld, h4.read_unread, h5.read_unread, h6.read_unread, h7.read_unread]
  rw [View.ld_unit_zero (S := S1024x128) (off := ![0, 0]) (by decide), View.ld_unit_zero (S := S1x1x64x1024) (off := ![0, 0, 0, 0]) (by decide)]
  rfl

/-- The loop makes sixteen trips. -/
theorem trips_eq : k0_t1_loop.trips = 16 := by decide

/-- Trip `k` of sixteen as a trip of the loop. -/
abbrev trip (k : Fin 16) : Fin k0_t1_loop.trips := k.cast trips_eq.symm

theorem qRows_apply (k : Fin 16) (x : Fin 1024) (d : Fin 128) :
    qRows x2 (trip k) (ix2 x d) = x2 (ix2 (⟨1024 * k.val + x.val, by omega⟩ : Fin 16384) d) :=
  View.ld_unit_apply_of (Val := Elt Ideal) (e := .bf16) x2 _ _ _ _ _ fun a => match a with
    | ⟨0, _⟩ => (congrArg (· + x.val) (congrFun (k0_off1_eq (trip k)) 0)).symm
    | ⟨1, _⟩ => ((congrArg (· + d.val) (congrFun (k0_off1_eq (trip k)) 1)).trans (Nat.zero_add _)).symm

theorem cRows_apply (k : Fin 16) (e : Fin 64) (x : Fin 1024) :
    cRows x3 (trip k) (ix4 0 0 e x) = x3 (ix4 0 k e x) :=
  View.ld_unit_apply_of (Val := Elt Ideal) (e := .bf16) x3 _ _ _ _ _ fun a => match a with
    | ⟨0, _⟩ => (congrArg (· + 0) (congrFun (k0_off2_eq (trip k)) 0)).symm
    | ⟨1, _⟩ => (congrArg (· + 0) (congrFun (k0_off2_eq (trip k)) 1)).symm
    | ⟨2, _⟩ => ((congrArg (· + e.val) (congrFun (k0_off2_eq (trip k)) 2)).trans (Nat.zero_add _)).symm
    | ⟨3, _⟩ => ((congrArg (· + x.val) (congrFun (k0_off2_eq (trip k)) 3)).trans (Nat.zero_add _)).symm

theorem sRows_apply (k : Fin 16) (x : Fin 1024) :
    sRows x4 (trip k) (ix4 0 0 0 x) = x4 (ix4 0 k 0 x) :=
  View.ld_unit_apply_of (Val := Elt Ideal) (e := .f32) x4 _ _ _ _ _ fun a => match a with
    | ⟨0, _⟩ => (congrArg (· + 0) (congrFun (k0_off3_eq (trip k)) 0)).symm
    | ⟨1, _⟩ => (congrArg (· + 0) (congrFun (k0_off3_eq (trip k)) 1)).symm
    | ⟨2, _⟩ => (congrArg (· + 0) (congrFun (k0_off3_eq (trip k)) 2)).symm
    | ⟨3, _⟩ => ((congrArg (· + x.val) (congrFun (k0_off3_eq (trip k)) 3)).trans (Nat.zero_add _)).symm

/-- A trip's probabilities. -/
theorem pt_trip (k : Fin 16) (y x : Fin 1024) :
    k0_pay11 (k0_pay1 x0) (qRows x2 (trip k)) (sRows x4 (trip k)) (ix2 y x) = ptB x0 x2 x4 k y x := by
  rw [pay11_apply]
  unfold ptB k0_pay1
  simp only [qRows_apply, sRows_apply, shapeCast_self]

theorem pay2_apply (v5 : Vec Ideal S1x1x64x1024 .bf16) (e : Fin 64) (y : Fin 1024) :
    (k0_pay2 v5 : FVec Ideal S64x1024 .bf16) (ix2 e y) = v5 (ix4 0 0 e y) := by
  unfold k0_pay2
  pointwise

/-- A trip's score gradients. -/
theorem dst_trip (k : Fin 16) (y x : Fin 1024) :
    k0_pay12 (k0_pay1 x0) (k0_pay2 x1) (qRows x2 (trip k)) (cRows x3 (trip k)) (sRows x4 (trip k)) (sRows x5 (trip k)) (ix2 y x)
      = dstB x0 x1 x2 x3 x4 x5 k y x := by
  rw [pay12_apply, pt_trip]
  unfold dstB
  simp only [pay2_apply, cRows_apply, sRows_apply]

variable (G8 : BufTy.Contents (Elt Ideal) a8.view.ty) (G9 : BufTy.Contents (Elt Ideal) a9.view.ty) (G10 : BufTy.Contents (Elt Ideal) a10.view.ty)

/-- The stores of the trips before `n`. -/
abbrev pb (n : ℕ) :=
  pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 n

/-- What the value gradient's block, … -/
def in10 (n : ℕ) : Vec Ideal S1x1x64x1024 .f32 :=
  a10.view.read (Elt Ideal) (a10.view.writes (Elt Ideal) G10 (pb c i a2 h2 a3 h3 a4 h4 a5 h5 a6 h6 a7 h7 a8 h8 a9 h9 a10 h10 x0 x1 x2 x3 x4 x5 G8 G9 G10 n).2.2)
/-- … the key gradient's … -/
def in9 (n : ℕ) : Vec Ideal S1024x128 .f32 :=
  a9.view.read (Elt Ideal) (a9.view.writes (Elt Ideal) G9 (pb c i a2 h2 a3 h3 a4 h4 a5 h5 a6 h6 a7 h7 a8 h8 a9 h9 a10 h10 x0 x1 x2 x3 x4 x5 G8 G9 G10 n).2.1)
/-- … and the query gradient's hold before trip `n`. -/
def in8 (n : ℕ) : Vec Ideal S1x16x128x1024 .f32 :=
  a8.view.read (Elt Ideal) (a8.view.writes (Elt Ideal) G8 (pb c i a2 h2 a3 h3 a4 h4 a5 h5 a6 h6 a7 h7 a8 h8 a9 h9 a10 h10 x0 x1 x2 x3 x4 x5 G8 G9 G10 n).1)

/-- A rectangle over a whole shape places an index at itself. -/
theorem emb_whole {s : Shape} {off : Fin s.rank → ℕ} (h : off = fun _ => 0) (inb : ∀ a, off a + s.size a ≤ s.size a) (j : s.Idx) :
    (Rect.unit off s.size inb).emb j = j := by
  subst h; funext a; apply Fin.ext; simp [Rect.emb_apply]

theorem step10 (k : Fin 16) (e : Fin 64) (y : Fin 1024) :
    in10 c i a2 h2 a3 h3 a4 h4 a5 h5 a6 h6 a7 h7 a8 h8 a9 h9 a10 h10 x0 x1 x2 x3 x4 x5 G8 G9 G10 (k.val + 1) (ix4 0 0 e y)
      = in10 c i a2 h2 a3 h3 a4 h4 a5 h5 a6 h6 a7 h7 a8 h8 a9 h9 a10 h10 x0 x1 x2 x3 x4 x5 G8 G9 G10 k.val (ix4 0 0 e y) + ∑ x : Fin 1024, x3 (ix4 0 k e x) * ptB x0 x2 x4 k y x := by
  unfold in10 pb
  rw [show pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 (k.val + 1) = _ from pb_k0_t1_succ (F := Ideal) Variants.none c none i a2 h2 a3 h3 a4 h4 a5 h5 a6 h6 a7 h7 a8 h8 a9 h9 a10 h10 x0 x1
    (h4.unread x2) (h5.unread x3) (h6.unread x4) (h7.unread x5) G8 G9 G10 (trip k), trip_read]
  rw [show (trip k).val = k.val from rfl]
  generalize pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 k.val = L
  dsimp only [List.cons_append, List.nil_append]
  rw [← emb_whole (s := S1x1x64x1024) (off := ![0, 0, 0, 0]) (by decide) inb_S1x1x64x1024_S1x1x64x1024_0_0_0_0 (ix4 0 0 e y),
    View.read_writes_cons_emb, emb_whole (s := S1x1x64x1024) (off := ![0, 0, 0, 0]) (by decide), pay13_apply]
  simp only [pt_trip, cRows_apply]

theorem step9 (k : Fin 16) (y : Fin 1024) (d : Fin 128) :
    in9 c i a2 h2 a3 h3 a4 h4 a5 h5 a6 h6 a7 h7 a8 h8 a9 h9 a10 h10 x0 x1 x2 x3 x4 x5 G8 G9 G10 (k.val + 1) (ix2 y d)
      = in9 c i a2 h2 a3 h3 a4 h4 a5 h5 a6 h6 a7 h7 a8 h8 a9 h9 a10 h10 x0 x1 x2 x3 x4 x5 G8 G9 G10 k.val (ix2 y d)
        + ∑ x : Fin 1024, dstB x0 x1 x2 x3 x4 x5 k y x * x2 (ix2 (⟨1024 * k.val + x.val, by omega⟩ : Fin 16384) d) := by
  unfold in9 pb
  rw [show pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 (k.val + 1) = _ from pb_k0_t1_succ (F := Ideal) Variants.none c none i a2 h2 a3 h3 a4 h4 a5 h5 a6 h6 a7 h7 a8 h8 a9 h9 a10 h10 x0 x1
    (h4.unread x2) (h5.unread x3) (h6.unread x4) (h7.unread x5) G8 G9 G10 (trip k), trip_read]
  rw [show (trip k).val = k.val from rfl]
  generalize pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 k.val = L
  dsimp only [List.cons_append, List.nil_append]
  rw [← emb_whole (s := S1024x128) (off := ![0, 0]) (by decide) inb_S1024x128_S1024x128_0_0 (ix2 y d),
    View.read_writes_cons_emb, emb_whole (s := S1024x128) (off := ![0, 0]) (by decide), pay6_apply]
  unfold k0_pay9
  simp only [dst_trip, qRows_apply, shapeCast_self]

theorem step8 (k i' : Fin 16) (d : Fin 128) (x : Fin 1024) :
    in8 c i a2 h2 a3 h3 a4 h4 a5 h5 a6 h6 a7 h7 a8 h8 a9 h9 a10 h10 x0 x1 x2 x3 x4 x5 G8 G9 G10 (k.val + 1) (ix4 0 i' d x)
      = in8 c i a2 h2 a3 h3 a4 h4 a5 h5 a6 h6 a7 h7 a8 h8 a9 h9 a10 h10 x0 x1 x2 x3 x4 x5 G8 G9 G10 k.val (ix4 0 i' d x)
        + if k = i' then ∑ y : Fin 1024, x0 (ix2 y d) * dstB x0 x1 x2 x3 x4 x5 k y x else 0 := by
  unfold in8 pb
  rw [show pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 (k.val + 1) = _ from pb_k0_t1_succ (F := Ideal) Variants.none c none i a2 h2 a3 h3 a4 h4 a5 h5 a6 h6 a7 h7 a8 h8 a9 h9 a10 h10 x0 x1
    (h4.unread x2) (h5.unread x3) (h6.unread x4) (h7.unread x5) G8 G9 G10 (trip k), trip_read]
  rw [show (trip k).val = k.val from rfl]
  generalize pb_k0_t1 (F := Ideal) Variants.none c none i a2 h2 a3 h3 a4 h4 a5 h5 a6 h6 a7 h7 a8 h8 a9 h9 a10 h10 x0 x1
    (h4.unread x2) (h5.unread x3) (h6.unread x4) (h7.unread x5) G8 G9 G10 k.val = L
  dsimp only [List.cons_append, List.nil_append]
  by_cases h : k = i'
  · subst h
    have hp : (Rect.unit (s := S1x16x128x1024) (k0_off4 (trip k)) S1x1x128x1024.size (k0_off4_inb (trip k))).emb (ix4 0 0 d x) = ix4 0 k d x := by
      funext a; apply Fin.ext
      exact (Rect.idx_unit_val _ _ _ _ a).trans (match a with
        | ⟨0, _⟩ => congrArg (· + 0) (congrFun (k0_off4_eq (trip k)) 0)
        | ⟨1, _⟩ => congrArg (· + 0) (congrFun (k0_off4_eq (trip k)) 1)
        | ⟨2, _⟩ => (congrArg (· + d.val) (congrFun (k0_off4_eq (trip k)) 2)).trans (Nat.zero_add _)
        | ⟨3, _⟩ => (congrArg (· + x.val) (congrFun (k0_off4_eq (trip k)) 3)).trans (Nat.zero_add _))
    rw [if_pos rfl, ← hp, View.read_writes_cons_emb, pay7_apply]
    simp only [dst_trip]
    rfl
  · rw [if_neg h, add_zero]
    refine View.read_writes_cons_miss _ _ _ _ _ fun hm => h (Fin.ext ?_)
    have hm' := (Rect.mem_set_unit (inb := k0_off4_inb (trip k))).1 hm 1
    have e := congrFun (k0_off4_eq (trip k)) 1
    have h1 : k0_off4 (trip k) 1 ≤ i'.val := hm'.1
    have h2 : i'.val < k0_off4 (trip k) 1 + 1 := hm'.2
    have h3 : k0_off4 (trip k) 1 = k.val := e
    omega

/-- A quantity that every step raises by that step's term ends at its start plus the sum of the terms. -/
theorem acc_sum {n : ℕ} (g : ℕ → EReal) (f : Fin n → EReal) (h : ∀ k : Fin n, g (k.val + 1) = g k.val + f k) : g n = g 0 + ∑ k, f k := by
  induction n with
  | zero => simp
  | succ n ih =>
    rw [Fin.sum_univ_castSucc, ← add_assoc, ← ih (fun k => f k.castSucc) fun k => h k.castSucc]
    exact h (Fin.last n)

/-- The value gradient's block after the loop, … -/
theorem loop10 (e : Fin 64) (y : Fin 1024) :
    in10 c i a2 h2 a3 h3 a4 h4 a5 h5 a6 h6 a7 h7 a8 h8 a9 h9 a10 h10 x0 x1 x2 x3 x4 x5 G8 G9 G10 16 (ix4 0 0 e y)
      = a10.view.read (Elt Ideal) G10 (ix4 0 0 e y) + ∑ k : Fin 16, ∑ x : Fin 1024, x3 (ix4 0 k e x) * ptB x0 x2 x4 k y x :=
  acc_sum (fun n => in10 c i a2 h2 a3 h3 a4 h4 a5 h5 a6 h6 a7 h7 a8 h8 a9 h9 a10 h10 x0 x1 x2 x3 x4 x5 G8 G9 G10 n (ix4 0 0 e y)) _ fun k => step10 c i a2 h2 a3 h3 a4 h4 a5 h5 a6 h6 a7 h7 a8 h8 a9 h9 a10 h10 x0 x1 x2 x3 x4 x5 G8 G9 G10 k e y

/-- … the key gradient's … -/
theorem loop9 (y : Fin 1024) (d : Fin 128) :
    in9 c i a2 h2 a3 h3 a4 h4 a5 h5 a6 h6 a7 h7 a8 h8 a9 h9 a10 h10 x0 x1 x2 x3 x4 x5 G8 G9 G10 16 (ix2 y d)
      = a9.view.read (Elt Ideal) G9 (ix2 y d)
        + ∑ k : Fin 16, ∑ x : Fin 1024, dstB x0 x1 x2 x3 x4 x5 k y x * x2 (ix2 (⟨1024 * k.val + x.val, by omega⟩ : Fin 16384) d) :=
  acc_sum (fun n => in9 c i a2 h2 a3 h3 a4 h4 a5 h5 a6 h6 a7 h7 a8 h8 a9 h9 a10 h10 x0 x1 x2 x3 x4 x5 G8 G9 G10 n (ix2 y d)) _ fun k => step9 c i a2 h2 a3 h3 a4 h4 a5 h5 a6 h6 a7 h7 a8 h8 a9 h9 a10 h10 x0 x1 x2 x3 x4 x5 G8 G9 G10 k y d

/-- … and the query gradient's. -/
theorem loop8 (i' : Fin 16) (d : Fin 128) (x : Fin 1024) :
    in8 c i a2 h2 a3 h3 a4 h4 a5 h5 a6 h6 a7 h7 a8 h8 a9 h9 a10 h10 x0 x1 x2 x3 x4 x5 G8 G9 G10 16 (ix4 0 i' d x)
      = a8.view.read (Elt Ideal) G8 (ix4 0 i' d x) + ∑ y : Fin 1024, x0 (ix2 y d) * dstB x0 x1 x2 x3 x4 x5 i' y x := by
  refine (acc_sum (fun n => in8 c i a2 h2 a3 h3 a4 h4 a5 h5 a6 h6 a7 h7 a8 h8 a9 h9 a10 h10 x0 x1 x2 x3 x4 x5 G8 G9 G10 n (ix4 0 i' d x)) _ fun k => step8 c i a2 h2 a3 h3 a4 h4 a5 h5 a6 h6 a7 h7 a8 h8 a9 h9 a10 h10 x0 x1 x2 x3 x4 x5 G8 G9 G10 k i' d x).trans ?_
  rw [Finset.sum_ite_eq' Finset.univ i' fun k => ∑ y : Fin 1024, x0 (ix2 y d) * dstB x0 x1 x2 x3 x4 x5 k y x]
  simp only [Finset.mem_univ, if_true]
  rfl

end
end Cert.AttnBwd
-- ==== Proof.KV.Out.lean ====
/- What the kernel leaves at one grid point in its three output blocks, as sums over the query chunks: at a head's first
   key chunk (case A) and at the later ones (case B), where the query gradient's block keeps what the point before left. -/
module

public import proofs.«01_k».proof.Proof.Gen.KernelIdeal.Frame
public import proofs.«01_k».proof.Proof.KV.Trip

@[expose] public section

set_option maxRecDepth 65536

noncomputable section

open scoped BigOperators

namespace Cert.AttnBwd

open Cert.KernelIdeal Cert.KernelIdeal.Gen Idealize.ShloMosaic Idealize.ShloMosaic.TcCoe Idealize.ShloMosaic.Tactic

variable (c : Dev nD) (i : grid0.Coords)
    (a2 : Memref sig .tc .vmem S1024x128 .bf16) (h2 : a2.IsWhole) (a3 : Memref sig .tc .vmem S1x1x64x1024 .bf16) (h3 : a3.IsWhole)
    (a4 : Memref sig .tc .vmem S16384x128 .bf16) (h4 : a4.IsWhole) (a5 : Memref sig .tc .vmem S1x16x64x1024 .bf16) (h5 : a5.IsWhole)
    (a6 : Memref sig .tc .vmem S1x16x8x1024 .f32) (h6 : a6.IsWhole) (a7 : Memref sig .tc .vmem S1x16x8x1024 .f32) (h7 : a7.IsWhole)
    (a8 : Memref sig .tc .vmem S1x16x128x1024 .f32) (h8 : a8.IsWhole) (a9 : Memref sig .tc .vmem S1024x128 .f32) (h9 : a9.IsWhole)
    (a10 : Memref sig .tc .vmem S1x1x64x1024 .f32) (h10 : a10.IsWhole)
    (x0 : Vec Ideal S1024x128 .bf16) (x1 : Vec Ideal S1x1x64x1024 .bf16) (x2 : Vec Ideal S16384x128 .bf16) (x3 : Vec Ideal S1x16x64x1024 .bf16)
    (x4 x5 : Vec Ideal S1x16x8x1024 .f32)

/-- A whole block of zeros read back is zero. -/
theorem zeros9 (v : View sig .tc .vmem S1024x128 .f32) (f) (y : Fin 1024) (d : Fin 128) :
    v.read (Elt Ideal) (v.writes (Elt Ideal) f [⟨Rect.unit ![0, 0] S1024x128.size inb_S1024x128_S1024x128_0_0, k0_pay3 (F := Ideal)⟩]) (ix2 y d) = 0 := by
  rw [← emb_whole (s := S1024x128) (off := ![0, 0]) (by decide) inb_S1024x128_S1024x128_0_0 (ix2 y d), View.read_writes_cons_emb, pay3_apply]

theorem zeros10 (v : View sig .tc .vmem S1x1x64x1024 .f32) (f) (e : Fin 64) (y : Fin 1024) :
    v.read (Elt Ideal) (v.writes (Elt Ideal) f [⟨Rect.unit ![0, 0, 0, 0] S1x1x64x1024.size inb_S1x1x64x1024_S1x1x64x1024_0_0_0_0, k0_pay4 (F := Ideal)⟩]) (ix4 0 0 e y) = 0 := by
  rw [← emb_whole (s := S1x1x64x1024) (off := ![0, 0, 0, 0]) (by decide) inb_S1x1x64x1024_S1x1x64x1024_0_0_0_0 (ix4 0 0 e y), View.read_writes_cons_emb, pay4_apply]

theorem zeros8 (v : View sig .tc .vmem S1x16x128x1024 .f32) (f) (i' : Fin 16) (d : Fin 128) (x : Fin 1024) :
    v.read (Elt Ideal) (v.writes (Elt Ideal) f [⟨Rect.unit ![0, 0, 0, 0] S1x16x128x1024.size inb_S1x16x128x1024_S1x16x128x1024_0_0_0_0, k0_pay5 (F := Ideal)⟩]) (ix4 0 i' d x) = 0 := by
  rw [← emb_whole (s := S1x16x128x1024) (off := ![0, 0, 0, 0]) (by decide) inb_S1x16x128x1024_S1x16x128x1024_0_0_0_0 (ix4 0 i' d x), View.read_writes_cons_emb, pay5_apply]

/-- The key gradient's block at a point: all query chunks' products, and the factor of the logarithm's base. -/
def dkB (y : Fin 1024) (d : Fin 128) : EReal :=
  (∑ k : Fin 16, ∑ x : Fin 1024, dstB x0 x1 x2 x3 x4 x5 k y x * x2 (ix2 (⟨1024 * k.val + x.val, by omega⟩ : Fin 16384) d)) * ((Real.log 2 : ℝ) : EReal)

/-- The value gradient's block at a point. -/
def dvB (e : Fin 64) (y : Fin 1024) : EReal :=
  ∑ k : Fin 16, ∑ x : Fin 1024, x3 (ix4 0 k e x) * ptB x0 x2 x4 k y x

/-- What a point adds to the query gradient's block. -/
def dqB (i' : Fin 16) (d : Fin 128) (x : Fin 1024) : EReal :=
  ∑ y : Fin 1024, x0 (ix2 y d) * dstB x0 x1 x2 x3 x4 x5 i' y x

theorem outA8 (hc : cond0_0 i) (e : Fin 64) (y : Fin 1024) :
    out0_A_8 c i a2 h2 a3 h3 a4 h4 a5 h5 a6 h6 a7 h7 a8 h8 a9 h9 a10 h10 hc x0 x1 x2 x3 x4 x5 (ix4 0 0 e y) = dvB x0 x2 x3 x4 e y := by
  unfold out0_A_8
  rw [View.read_writes_of_cover VO0_8 VO0_8.junk a10.view a10.view.junk _ (cover0_A_8 c i a2 h2 a3 h3 a4 h4 a5 h5 a6 h6 a7 h7 a8 h8 a9 h9 a10 h10 hc x0 x1 x2 x3 x4 x5)]
  unfold kernelRun0_A
  dsimp only
  rw [View.readAt_eq_ld, View.readAt_eq_ld, h2.read_unread, h3.read_unread, View.ld_unit_zero (S := S1024x128) (off := ![0, 0]) (by decide),
    View.ld_unit_zero (S := S1x1x64x1024) (off := ![0, 0, 0, 0]) (by decide)]
  rw [View.writes_append]
  refine (loop10 c i a2 h2 a3 h3 a4 h4 a5 h5 a6 h6 a7 h7 a8 h8 a9 h9 a10 h10 x0 x1 x2 x3 x4 x5
    (a8.view.writes (Elt Ideal) a8.view.junk kernelRun0_A.sl.H6_1) (a9.view.writes (Elt Ideal) a9.view.junk kernelRun0_A.sl.H7_1) (a10.view.writes (Elt Ideal) a10.view.junk kernelRun0_A.sl.H8_1) e y).trans ?_
  unfold kernelRun0_A.sl.H8_1 dvB
  rw [zeros10, zero_add]

theorem outA7 (hc : cond0_0 i) (y : Fin 1024) (d : Fin 128) :
    out0_A_7 c i a2 h2 a3 h3 a4 h4 a5 h5 a6 h6 a7 h7 a8 h8 a9 h9 a10 h10 hc x0 x1 x2 x3 x4 x5 (ix2 y d) = dkB x0 x1 x2 x3 x4 x5 y d := by
  unfold out0_A_7 kernelRun0_A
  dsimp only
  rw [← emb_whole (s := S1024x128) (off := ![0, 0]) (by decide) inb_S1024x128_S1024x128_0_0 (ix2 y d), View.read_writes_cons_emb, pay8_apply]
  unfold kernelRun0_A.sl.v15 View.readCov dkB
  simp only [View.readAt_eq_ld, h2.read_unread, h3.read_unread]
  rw [View.ld_unit_zero (S := S1024x128) (off := ![0, 0]) (by decide) _ x0,
    View.ld_unit_zero (S := S1x1x64x1024) (off := ![0, 0, 0, 0]) (by decide) _ x1,
    View.ld_unit_zero (S := S1024x128) (off := ![0, 0]) (by decide), View.writes_append]
  refine congrArg (· * ((Real.log 2 : ℝ) : EReal)) ((loop9 c i a2 h2 a3 h3 a4 h4 a5 h5 a6 h6 a7 h7 a8 h8 a9 h9 a10 h10 x0 x1 x2 x3 x4 x5
    (a8.view.writes (Elt Ideal) a8.view.junk kernelRun0_A.sl.H6_1) (a9.view.writes (Elt Ideal) a9.view.junk kernelRun0_A.sl.H7_1) (a10.view.writes (Elt Ideal) a10.view.junk kernelRun0_A.sl.H8_1) y d).trans ?_)
  unfold kernelRun0_A.sl.H7_1
  rw [zeros9, zero_add]

theorem outA6 (hc : cond0_0 i) (i' : Fin 16) (d : Fin 128) (x : Fin 1024) :
    out0_A_6 c i a2 h2 a3 h3 a4 h4 a5 h5 a6 h6 a7 h7 a8 h8 a9 h9 a10 h10 hc x0 x1 x2 x3 x4 x5 (ix4 0 i' d x) = dqB x0 x1 x2 x3 x4 x5 i' d x := by
  unfold out0_A_6
  rw [View.read_writes_of_cover VO0_6 VO0_6.junk a8.view a8.view.junk _ (cover0_A_6 c i a2 h2 a3 h3 a4 h4 a5 h5 a6 h6 a7 h7 a8 h8 a9 h9 a10 h10 hc x0 x1 x2 x3 x4 x5)]
  unfold kernelRun0_A
  dsimp only
  rw [View.readAt_eq_ld, View.readAt_eq_ld, h2.read_unread, h3.read_unread, View.ld_unit_zero (S := S1024x128) (off := ![0, 0]) (by decide),
    View.ld_unit_zero (S := S1x1x64x1024) (off := ![0, 0, 0, 0]) (by decide)]
  rw [View.writes_append]
  refine (loop8 c i a2 h2 a3 h3 a4 h4 a5 h5 a6 h6 a7 h7 a8 h8 a9 h9 a10 h10 x0 x1 x2 x3 x4 x5
    (a8.view.writes (Elt Ideal) a8.view.junk kernelRun0_A.sl.H6_1) (a9.view.writes (Elt Ideal) a9.view.junk kernelRun0_A.sl.H7_1) (a10.view.writes (Elt Ideal) a10.view.junk kernelRun0_A.sl.H8_1) i' d x).trans ?_
  unfold kernelRun0_A.sl.H6_1 dqB
  rw [zeros8, zero_add]

theorem outB8 (hc : ¬cond0_0 i) (xo6 : Vec Ideal S1x16x128x1024 .f32) (e : Fin 64) (y : Fin 1024) :
    out0_B_8 c i a2 h2 a3 h3 a4 h4 a5 h5 a6 h6 a7 h7 a8 h8 a9 h9 a10 h10 hc x0 x1 x2 x3 x4 x5 xo6 (ix4 0 0 e y) = dvB x0 x2 x3 x4 e y := by
  unfold out0_B_8
  rw [View.read_writes_of_cover VO0_8 VO0_8.junk a10.view a10.view.junk _ (cover0_B_8 c i a2 h2 a3 h3 a4 h4 a5 h5 a6 h6 a7 h7 a8 h8 a9 h9 a10 h10 hc x0 x1 x2 x3 x4 x5 xo6)]
  unfold kernelRun0_B
  dsimp only
  rw [View.readAt_eq_ld, View.readAt_eq_ld, h2.read_unread, h3.read_unread, View.ld_unit_zero (S := S1024x128) (off := ![0, 0]) (by decide),
    View.ld_unit_zero (S := S1x1x64x1024) (off := ![0, 0, 0, 0]) (by decide)]
  rw [View.writes_append]
  refine (loop10 c i a2 h2 a3 h3 a4 h4 a5 h5 a6 h6 a7 h7 a8 h8 a9 h9 a10 h10 x0 x1 x2 x3 x4 x5
    (h8.unread xo6) (a9.view.writes (Elt Ideal) a9.view.junk kernelRun0_B.sl.H7_1) (a10.view.writes (Elt Ideal) a10.view.junk kernelRun0_B.sl.H8_1) e y).trans ?_
  unfold kernelRun0_B.sl.H8_1 dvB
  rw [zeros10, zero_add]

theorem outB7 (hc : ¬cond0_0 i) (xo6 : Vec Ideal S1x16x128x1024 .f32) (y : Fin 1024) (d : Fin 128) :
    out0_B_7 c i a2 h2 a3 h3 a4 h4 a5 h5 a6 h6 a7 h7 a8 h8 a9 h9 a10 h10 hc x0 x1 x2 x3 x4 x5 xo6 (ix2 y d) = dkB x0 x1 x2 x3 x4 x5 y d := by
  unfold out0_B_7 kernelRun0_B
  dsimp only
  rw [← emb_whole (s := S1024x128) (off := ![0, 0]) (by decide) inb_S1024x128_S1024x128_0_0 (ix2 y d), View.read_writes_cons_emb, pay8_apply]
  unfold kernelRun0_B.sl.v15 View.readCov dkB
  simp only [View.readAt_eq_ld, h2.read_unread, h3.read_unread]
  rw [View.ld_unit_zero (S := S1024x128) (off := ![0, 0]) (by decide) _ x0,
    View.ld_unit_zero (S := S1x1x64x1024) (off := ![0, 0, 0, 0]) (by decide) _ x1,
    View.ld_unit_zero (S := S1024x128) (off := ![0, 0]) (by decide), View.writes_append]
  refine congrArg (· * ((Real.log 2 : ℝ) : EReal)) ((loop9 c i a2 h2 a3 h3 a4 h4 a5 h5 a6 h6 a7 h7 a8 h8 a9 h9 a10 h10 x0 x1 x2 x3 x4 x5
    (h8.unread xo6) (a9.view.writes (Elt Ideal) a9.view.junk kernelRun0_B.sl.H7_1) (a10.view.writes (Elt Ideal) a10.view.junk kernelRun0_B.sl.H8_1) y d).trans ?_)
  unfold kernelRun0_B.sl.H7_1
  rw [zeros9, zero_add]

theorem outB6 (hc : ¬cond0_0 i) (xo6 : Vec Ideal S1x16x128x1024 .f32) (i' : Fin 16) (d : Fin 128) (x : Fin 1024) :
    out0_B_6 c i a2 h2 a3 h3 a4 h4 a5 h5 a6 h6 a7 h7 a8 h8 a9 h9 a10 h10 hc x0 x1 x2 x3 x4 x5 xo6 (ix4 0 i' d x) = xo6 (ix4 0 i' d x) + dqB x0 x1 x2 x3 x4 x5 i' d x := by
  unfold out0_B_6
  rw [View.read_writes_of_cover VO0_6 VO0_6.junk a8.view (h8.unread xo6) _ (cover0_B_6 c i a2 h2 a3 h3 a4 h4 a5 h5 a6 h6 a7 h7 a8 h8 a9 h9 a10 h10 hc x0 x1 x2 x3 x4 x5 xo6)]
  unfold kernelRun0_B
  dsimp only
  rw [View.readAt_eq_ld, View.readAt_eq_ld, h2.read_unread, h3.read_unread, View.ld_unit_zero (S := S1024x128) (off := ![0, 0]) (by decide),
    View.ld_unit_zero (S := S1x1x64x1024) (off := ![0, 0, 0, 0]) (by decide)]
  refine (loop8 c i a2 h2 a3 h3 a4 h4 a5 h5 a6 h6 a7 h7 a8 h8 a9 h9 a10 h10 x0 x1 x2 x3 x4 x5
    (h8.unread xo6) (a9.view.writes (Elt Ideal) a9.view.junk kernelRun0_B.sl.H7_1) (a10.view.writes (Elt Ideal) a10.view.junk kernelRun0_B.sl.H8_1) i' d x).trans ?_
  rw [h8.read_unread]
  rfl

end Cert.AttnBwd
-- ==== Proof.KV.Blocks.lean ====
/- The blocks the grid points read, at coordinates of the arrays the call is handed, and the three result arrays after
   the run, index by index. -/
module

public import proofs.«01_k».proof.Proof.Gen.KernelIdeal.Value
public import proofs.«01_k».proof.Proof.KV.Out
public import Idealize.ShloMosaic.Lib.Pipeline.ValueKit.Point

@[expose] public section

set_option maxRecDepth 65536

noncomputable section

open scoped BigOperators

namespace Cert.AttnBwd

open Cert.KernelIdeal Cert.KernelIdeal.Gen Idealize.ShloMosaic Idealize.ShloMosaic.TcCoe Idealize.ShloMosaic.Tactic
open Idealize.ShloMosaic.Pipeline (Dat)

/-- Head `h`, key chunk `j`, as a grid point. -/
def pnt (h : Fin 8) (j : Fin 16) : Fin cfg0.N := ⟨16 * h.val + j.val, by have := N_0; show _ < grid0.N; omega⟩

theorem pnt_val (h : Fin 8) (j : Fin 16) : (pnt h j).val = 16 * h.val + j.val := rfl

theorem exists_pnt (t : Fin cfg0.N) : ∃ h j, t = pnt h j := by
  have ht : t.val < 128 := lt_of_lt_of_eq t.isLt (show cfg0.N = 128 from N_0)
  exact ⟨⟨t.val / 16, by omega⟩, ⟨t.val % 16, by omega⟩, Fin.ext (by rw [pnt_val]; dsimp only; omega)⟩

theorem idx0 : ∀ h j, win0_0.index (pnt h j) = ![j.val, h.val] := by decide +kernel
theorem idx1 : ∀ h j, win0_1.index (pnt h j) = ![h.val, j.val, 0, 0] := by decide +kernel
theorem idx2 : ∀ h j, win0_2.index (pnt h j) = ![0, h.val] := by decide +kernel
theorem idx3 : ∀ h j, win0_3.index (pnt h j) = ![h.val, 0, 0, 0] := by decide +kernel
theorem idx4 : ∀ h j, win0_4.index (pnt h j) = ![h.val, 0, 0, 0] := by decide +kernel
theorem idx5 : ∀ h j, win0_5.index (pnt h j) = ![h.val, 0, 0, 0] := by decide +kernel
theorem idx6 : ∀ h j, win0_6.index (pnt h j) = ![h.val, 0, 0, 0] := by decide +kernel
theorem idx7 : ∀ h j, win0_7.index (pnt h j) = ![j.val, h.val] := by decide +kernel
theorem idx8 : ∀ h j, win0_8.index (pnt h j) = ![h.val, j.val, 0, 0] := by decide +kernel

/-- Row `y` of chunk `j`, as a position of the sequence. -/
def pos (j : Fin 16) (y : Fin 1024) : Fin 16384 := ⟨1024 * j.val + y.val, by omega⟩
/-- Lane `d` of head `h`, as a column of the padded arrays. -/
def col (h : Fin 8) (d : Fin 128) : Fin 1024 := ⟨128 * h.val + d.val, by omega⟩

variable (m : (ℓ : Loc nD τ sig) → Buf (Elt Ideal) ℓ) (c : Dev nD)

/-- The arrays handed to the call: keys, … -/
def Kp : Vec Ideal S16384x1024 .bf16 := V m c main_v51
/-- … values, … -/
def Vt : Vec Ideal S8x16x64x1024 .bf16 := V m c main_v54
/-- … queries, … -/
def Qp : Vec Ideal S16384x1024 .bf16 := V m c main_v45
/-- … cotangents, … -/
def Dt : Vec Ideal S8x16x64x1024 .bf16 := V m c main_v57
/-- … logarithmic sums … -/
def Ls : Vec Ideal S8x16x8x1024 .f32 := V m c main_v58
/-- … and sums of output times cotangent. -/
def De : Vec Ideal S8x16x8x1024 .f32 := V m c main_v59

variable (h : Fin 8) (j : Fin 16)

theorem blk0 (y : Fin 1024) (d : Fin 128) : iblk m c 0 (pnt h j) (ix2 y d) = Kp m c (ix2 (pos j y) (col h d)) := by
  unfold Kp pos col; blk_ext [iblk, idx0]
theorem blk1 (e : Fin 64) (y : Fin 1024) : iblk m c 1 (pnt h j) (ix4 0 0 e y) = Vt m c (ix4 h j e y) := by
  unfold Vt; blk_ext [iblk, idx1]
theorem blk2 (x : Fin 16384) (d : Fin 128) : iblk m c 2 (pnt h j) (ix2 x d) = Qp m c (ix2 x (col h d)) := by
  unfold Qp col; blk_ext [iblk, idx2]
theorem blk3 (i : Fin 16) (e : Fin 64) (x : Fin 1024) : iblk m c 3 (pnt h j) (ix4 0 i e x) = Dt m c (ix4 h i e x) := by
  unfold Dt; blk_ext [iblk, idx3]
theorem blk4 (i : Fin 16) (x : Fin 1024) : iblk m c 4 (pnt h j) (ix4 0 i 0 x) = Ls m c (ix4 h i 0 x) := by
  unfold Ls; blk_ext [iblk, idx4]
theorem blk5 (i : Fin 16) (x : Fin 1024) : iblk m c 5 (pnt h j) (ix4 0 i 0 x) = De m c (ix4 h i 0 x) := by
  unfold De; blk_ext [iblk, idx5]

/-- The probability of query `x` of chunk `i` at key `y` of chunk `j`, head `h`. -/
def pt (y : Fin 1024) (i : Fin 16) (x : Fin 1024) : EReal :=
  Ideal.exp2 ((∑ d : Fin 128, Kp m c (ix2 (pos j y) (col h d)) * Qp m c (ix2 (pos i x) (col h d))) - Ls m c (ix4 h i 0 x))

/-- The score's gradient there. -/
def dst (y : Fin 1024) (i : Fin 16) (x : Fin 1024) : EReal :=
  pt m c h j y i x * ((∑ e : Fin 64, Vt m c (ix4 h j e y) * Dt m c (ix4 h i e x)) - De m c (ix4 h i 0 x))

theorem ptB_pnt (i : Fin 16) (y x : Fin 1024) :
    ptB (iblk m c 0 (pnt h j)) (iblk m c 2 (pnt h j)) (iblk m c 4 (pnt h j)) i y x = pt m c h j y i x := by
  unfold ptB pt
  simp only [blk0, blk2, blk4]
  rfl

theorem dstB_pnt (i : Fin 16) (y x : Fin 1024) :
    dstB (iblk m c 0 (pnt h j)) (iblk m c 1 (pnt h j)) (iblk m c 2 (pnt h j)) (iblk m c 3 (pnt h j)) (iblk m c 4 (pnt h j)) (iblk m c 5 (pnt h j)) i y x
      = dst m c h j y i x := by
  unfold dstB dst
  simp only [ptB_pnt, blk1, blk3, blk5]

/-- The value gradient, … -/
def dvA (e : Fin 64) (y : Fin 1024) : EReal :=
  ∑ i : Fin 16, ∑ x : Fin 1024, Dt m c (ix4 h i e x) * pt m c h j y i x
/-- … the key gradient … -/
def dkA (y : Fin 1024) (d : Fin 128) : EReal :=
  (∑ i : Fin 16, ∑ x : Fin 1024, dst m c h j y i x * Qp m c (ix2 (pos i x) (col h d))) * ((Real.log 2 : ℝ) : EReal)
/-- … and key chunk `j`'s part of the query gradient. -/
def dqA (i : Fin 16) (d : Fin 128) (x : Fin 1024) : EReal :=
  ∑ y : Fin 1024, Kp m c (ix2 (pos j y) (col h d)) * dst m c h j y i x

theorem dvB_pnt (e : Fin 64) (y : Fin 1024) :
    dvB (iblk m c 0 (pnt h j)) (iblk m c 2 (pnt h j)) (iblk m c 3 (pnt h j)) (iblk m c 4 (pnt h j)) e y = dvA m c h j e y := by
  unfold dvB dvA
  simp only [ptB_pnt, blk3]

theorem dkB_pnt (y : Fin 1024) (d : Fin 128) :
    dkB (iblk m c 0 (pnt h j)) (iblk m c 1 (pnt h j)) (iblk m c 2 (pnt h j)) (iblk m c 3 (pnt h j)) (iblk m c 4 (pnt h j)) (iblk m c 5 (pnt h j)) y d
      = dkA m c h j y d := by
  unfold dkB dkA
  simp only [dstB_pnt, blk2]
  rfl

theorem dqB_pnt (i : Fin 16) (d : Fin 128) (x : Fin 1024) :
    dqB (iblk m c 0 (pnt h j)) (iblk m c 1 (pnt h j)) (iblk m c 2 (pnt h j)) (iblk m c 3 (pnt h j)) (iblk m c 4 (pnt h j)) (iblk m c 5 (pnt h j)) i d x
      = dqA m c h j i d x := by
  unfold dqB dqA
  simp only [dstB_pnt, blk0]

theorem cond_iff : (pnt h j).val % 16 = 0 ↔ j = 0 := by
  rw [pnt_val]; constructor
  · intro e; apply Fin.ext; show j.val = 0; omega
  · rintro rfl; show (16 * h.val + 0) % 16 = 0; omega

/-- What a point leaves in the value gradient's block … -/
theorem left8 (e : Fin 64) (y : Fin 1024) : (outsAt0 m c (pnt h j).val (pnt h j).isLt).2.2 (ix4 0 0 e y) = dvA m c h j e y := by
  by_cases h0 : (pnt h j).val % 16 = 0
  · rw [outsAt0_A m c _ h0]; dsimp only; rw [outA8, dvB_pnt]
  · rw [outsAt0_B m c _ h0]; dsimp only; rw [outB8, dvB_pnt]

/-- … and in the key gradient's. -/
theorem left7 (y : Fin 1024) (d : Fin 128) : (outsAt0 m c (pnt h j).val (pnt h j).isLt).2.1 (ix2 y d) = dkA m c h j y d := by
  by_cases h0 : (pnt h j).val % 16 = 0
  · rw [outsAt0_A m c _ h0]; dsimp only; rw [outA7, dkB_pnt]
  · rw [outsAt0_B m c _ h0]; dsimp only; rw [outB7, dkB_pnt]

/-- The query gradient's block after key chunk `n` of a head: the parts of the chunks so far. -/
theorem left6 (i : Fin 16) (d : Fin 128) (x : Fin 1024) (n : ℕ) (hn : n < 16) :
    (outsAt0 m c (pnt h ⟨n, hn⟩).val (pnt h ⟨n, hn⟩).isLt).1 (ix4 0 i d x)
      = ∑ k : Fin (n + 1), dqA m c h ⟨k.val, by omega⟩ i d x := by
  induction n with
  | zero =>
    rw [outsAt0_A m c (pnt h ⟨0, hn⟩) ((cond_iff h ⟨0, hn⟩).2 rfl)]; dsimp only; rw [outA6, dqB_pnt]; simp
  | succ n ih =>
    have h0 : ¬(pnt h ⟨n + 1, hn⟩).val % 16 = 0 := fun e => by
      have := congrArg Fin.val ((cond_iff h _).1 e); simp at this
    rw [outsAt0_B m c _ h0]; dsimp only
    rw [outB6, dqB_pnt, Fin.sum_univ_castSucc]
    exact congrArg (· + dqA m c h ⟨n + 1, hn⟩ i d x) (ih (by omega))

/-- The value gradient's array after the run. -/
theorem arr8 (e : Fin 64) (y : Fin 1024) : (dats m 0 c).arrAt 8 cfg0.N (ix4 h j e y) = dvA m c h j e y := by
  have e1 := congrFun (Cert.KernelIdeal.Value.blocks8 m c (pnt h j) (flush0_8 _)) (ix4 0 0 e y)
  rw [Cert.KernelIdeal.Value.flushed8] at e1
  refine Eq.trans ?_ (e1.trans (left8 m c h j e y))
  blk_ext [idx8]

/-- The key gradient's array. -/
theorem arr7 (y : Fin 1024) (d : Fin 128) : (dats m 0 c).arrAt 7 cfg0.N (ix2 (pos j y) (col h d)) = dkA m c h j y d := by
  have e1 := congrFun (Cert.KernelIdeal.Value.blocks7 m c (pnt h j) (flush0_7 _)) (ix2 y d)
  rw [Cert.KernelIdeal.Value.flushed7] at e1
  refine Eq.trans ?_ (e1.trans (left7 m c h j y d))
  unfold pos col
  blk_ext [idx7]

/-- A head's block of the query gradient is written back once, after its last key chunk. -/
theorem disj6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun e => hne ?_
  have h1 := (flush0_6 t).1 hf
  have h2 := (flush0_6 t').1 hf'
  obtain ⟨a, b, rfl⟩ := exists_pnt t
  obtain ⟨a', b', rfl⟩ := exists_pnt t'
  have e' : win0_6.index (pnt a b) = win0_6.index (pnt a' b') := e
  rw [idx6, idx6] at e'
  have e0 : a.val = a'.val := congrFun e' 0
  apply Fin.ext
  have p1 := pnt_val a b
  have p2 := pnt_val a' b'
  omega

/-- The query gradient's array. -/
theorem arr6 (i : Fin 16) (d : Fin 128) (x : Fin 1024) :
    (dats m 0 c).arrAt 6 cfg0.N (ix4 h i d x) = ∑ j : Fin 16, dqA m c h j i d x := by
  have e1 := congrFun ((dats m 0 c).read_blk_arrAt_eq_flushed 6 disj6 cfg0.N (pnt h 15) (pnt h 15).isLt
    ((flush0_6 _).2 (by rw [pnt_val]; show (16 * h.val + 15) % 16 = 15; omega))) (ix4 0 i d x)
  rw [Cert.KernelIdeal.Value.flushed6] at e1
  refine Eq.trans ?_ (e1.trans (left6 m c h i d x 15 (by omega)))
  blk_ext [idx6]

end Cert.AttnBwd
-- ==== Proof.KV.Host.lean ====
/- What the kernel's host lines hand to the call, read at an index: the padded keys and the queries over the logarithm of
   two, the values and cotangents in chunks, the rows' logarithmic sums, and the rows' sums of output times cotangent. -/
module

public import proofs.«01_k».proof.Proof.KV.Blocks

@[expose] public section

set_option maxRecDepth 65536

noncomputable section

open scoped BigOperators

namespace Cert.AttnBwd

open Cert.KernelIdeal
open Cert.KernelIdeal.Gen
open Idealize.ShloMosaic
open Idealize.ShloMosaic.TcCoe
open Idealize.ShloMosaic.Tactic

variable (m : (ℓ : Loc nD τ sig) → Buf (Elt Ideal) ℓ) (c : Dev nD)

theorem pos_eq (i : Fin 16) (x : Fin 1024) (hx : i.val * 1024 + x.val < 16384) : (⟨i.val * 1024 + x.val, hx⟩ : Fin 16384) = pos i x :=
  Fin.ext (by show i.val * 1024 + x.val = 1024 * i.val + x.val; omega)

/-- Column `e` of head `h`, among the heads' value columns. -/
def vcol (h : Fin 8) (e : Fin 64) : Fin 512 := ⟨64 * h.val + e.val, by omega⟩

theorem vcol_eq (h : Fin 8) (e : Fin 64) (hx : h.val * 64 + e.val < 512) : (⟨h.val * 64 + e.val, hx⟩ : Fin 512) = vcol h e :=
  Fin.ext (by show h.val * 64 + e.val = 64 * h.val + e.val; omega)

section Stages

/-- Binary word of the scale `96 ^ (-1/2)`. -/
abbrev sclW : BitVec 32 := 1037108716#32
/-- Binary word of negative infinity. -/
abbrev ninfW : BitVec 32 := 4286578688#32

/-- The scores. -/
def scA (q k : FVec Ideal S16384x8x96 .f32) : FVec Ideal S8x16384x16384 .f32 :=
  Host.dotGeneral dot_S16384x8x96_S16384x8x96_S8x16384x16384_2_2_0_0_1_1 none
    (mulf q (broadcastInDim S16384x8x96 ![] bcast_S_S16384x8x96 (constant S_ FTy.f32 1037108716#32))) k

theorem scA_apply (q k) (h : Fin 8) (x y : Fin 16384) :
    scA q k (ix3 h x y) = ∑ d : Fin 96, q (ix3 x h d) * Ideal.ofBits .f32 1037108716#32 * k (ix3 y h d) := by
  unfold scA
  pointwise

/-- Their rows' maxima. -/
def mxA (s : FVec Ideal S8x16384x16384 .f32) : FVec Ideal S8x16384 .f32 :=
  Host.reduce FloatOps.maximumf s (constant (F := Ideal) S_ FTy.f32 4286578688#32) reducesTo_S8x16384x16384_S8x16384_d2 h_S_

theorem mxA_apply (s) (h : Fin 8) (x : Fin 16384) :
    mxA s (ix2 h x) = Finset.fold max (Ideal.ofBits .f32 4286578688#32) (fun y : Fin 16384 => s (ix3 h x y)) Finset.univ := by
  unfold mxA
  pointwise

/-- The exponentials of the scores less a row constant. -/
def exA (s : FVec Ideal S8x16384x16384 .f32) (w : FVec Ideal S8x16384 .f32) : FVec Ideal S8x16384x16384 .f32 :=
  Host.exp (subf s (broadcastInDim S8x16384x16384 ![0, 1, 2] bcast_S8x16384x1_S8x16384x16384_0_1_2
    (broadcastInDim S8x16384x1 ![0, 1] bcast_S8x16384_S8x16384x1_0_1 w)))

theorem exA_apply (s w) (h : Fin 8) (x y : Fin 16384) : exA s w (ix3 h x y) = Ideal.exp (s (ix3 h x y) - w (ix2 h x)) := by
  unfold exA
  pointwise

/-- Sums over the keys. -/
def smA (s : FVec Ideal S8x16384x16384 .f32) : FVec Ideal S8x16384 .f32 :=
  Host.reduceAdd s (constant (F := Ideal) S_ FTy.f32 0#32) reducesTo_S8x16384x16384_S8x16384_d2 h_S_

theorem smA_apply (s) (h : Fin 8) (x : Fin 16384) : smA s (ix2 h x) = ∑ y : Fin 16384, s (ix3 h x y) := by
  unfold smA
  pointwise

/-- The logarithmic sums over a constant, in chunks. -/
def lsA (z : FVec Ideal S_ .f32) (w l : FVec Ideal S8x16384 .f32) : FVec Ideal S8x16x8x1024 .f32 :=
  broadcastInDim S8x16x8x1024 ![0, 1, 2, 3] bcast_S8x16x1x1024_S8x16x8x1024_0_1_2_3
    (shapeCast S8x16x1x1024 (Host.divf (addf w (Host.log l)) (broadcastInDim S8x16384 ![] bcast_S_S8x16384 z)) shapeCasts_S8x16384_S8x16x1x1024)

theorem lsA_apply (z w l) (h : Fin 8) (i : Fin 16) (x : Fin 1024) :
    lsA z w l (ix4 h i 0 x) = Ideal.div (w (ix2 h (pos i x)) + Ideal.log (l (ix2 h (pos i x)))) (z ix0) := by
  unfold lsA
  pointwise
  simp only [pos_eq]

/-- The probabilities. -/
def prA (s : FVec Ideal S8x16384x16384 .f32) (w : FVec Ideal S8x16384 .f32) : FVec Ideal S8x16384x16384 .f32 :=
  Host.divf (exA s w) (broadcastInDim S8x16384x16384 ![0, 1, 2] bcast_S8x16384x1_S8x16384x16384_0_1_2
    (broadcastInDim S8x16384x1 ![0, 1] bcast_S8x16384_S8x16384x1_0_1 (smA (exA s w))))

theorem prA_apply (s w) (h : Fin 8) (x y : Fin 16384) :
    prA s w (ix3 h x y) = Ideal.div (exA s w (ix3 h x y)) (smA (exA s w) (ix2 h x)) := by
  unfold prA
  generalize exA s w = e
  generalize smA e = l
  pointwise

/-- The rows' maxima, not below a constant. -/
def mxA' (z : FVec Ideal S_ .f32) (w : FVec Ideal S8x16384 .f32) : FVec Ideal S8x16384 .f32 :=
  maximumf (broadcastInDim S8x16384 ![] bcast_S_S8x16384 z) w

theorem mxA'_apply (z w) (h : Fin 8) (x : Fin 16384) : mxA' z w (ix2 h x) = max (z ix0) (w (ix2 h x)) := by
  unfold mxA'
  pointwise

/-- The rows' sums of output times cotangent, in chunks. -/
def deA (p : FVec Ideal S8x16384x16384 .f32) (v : FVec Ideal S16384x8x64 .f32) (g : FVec Ideal S16384x512 .f32) : FVec Ideal S8x16x8x1024 .f32 :=
  broadcastInDim S8x16x8x1024 ![0, 1, 2, 3] bcast_S8x16x1x1024_S8x16x8x1024_0_1_2_3
    (shapeCast S8x16x1x1024 (transpose S8x16384 [1, 0] (Host.reduceAdd (mulf (transpose S16384x8x64 [2, 0, 1]
      (Host.dotGeneral dot_S16384x8x64_S8x16384x16384_S8x64x16384_0_2_2_1_1_0 none v p) transposes_S8x64x16384_S16384x8x64_2_0_1) (shapeCast S16384x8x64 g shapeCasts_S16384x512_S16384x8x64)) (constant (F := Ideal) S_ FTy.f32 0#32) reducesTo_S16384x8x64_S16384x8_d2 h_S_) transposes_S16384x8_S8x16384_1_0) shapeCasts_S8x16384_S8x16x1x1024)

theorem deA_apply (p v g) (h : Fin 8) (i : Fin 16) (x : Fin 1024) :
    deA p v g (ix4 h i 0 x) = ∑ e : Fin 64, (∑ y : Fin 16384, v (ix3 y h e) * p (ix3 h (pos i x) y)) * g (ix2 (pos i x) (vcol h e)) := by
  unfold deA
  pointwise
  simp only [pos_eq, vcol_eq]

end Stages

/-- The arguments: queries, … -/
def aq : FVec Ideal S16384x8x96 .f32 := m (c, Proc.tc.devRef main_arg0)
/-- … keys, … -/
def ak : FVec Ideal S16384x8x96 .f32 := m (c, Proc.tc.devRef main_arg1)
/-- … values … -/
def av : FVec Ideal S16384x8x64 .f32 := m (c, Proc.tc.devRef main_arg2)
/-- … and the cotangent. -/
def ag : FVec Ideal S16384x512 .f32 := m (c, Proc.tc.devRef main_arg3)

/-- The logarithm of two, as the host computes it. -/
def lgA : FVec Ideal S_ .f32 := Host.log (constant (F := Ideal) S_ FTy.f32 1073741824#32)

theorem Ls_eq : Ls m c = lsA lgA (mxA (scA (aq m c) (ak m c))) (smA (exA (scA (aq m c) (ak m c)) (mxA (scA (aq m c) (ak m c))))) := by
  unfold Ls
  dsimp only [V, hostOps0]
  after_results
  rfl

theorem De_eq : De m c = deA (prA (scA (aq m c) (ak m c)) (mxA' (constant (F := Ideal) S_ FTy.f32 4286578688#32) (mxA (scA (aq m c) (ak m c))))) (av m c) (ag m c) := by
  unfold De
  dsimp only [V, hostOps0]
  after_results
  rfl

theorem Vt_apply (h : Fin 8) (j : Fin 16) (e : Fin 64) (y : Fin 1024) : Vt m c (ix4 h j e y) = av m c (ix3 (pos j y) h e) := by
  unfold Vt
  dsimp only [V, hostOps0]
  after_results
  pointwise
  rw [pos_eq]
  rfl

theorem Dt_apply (h : Fin 8) (i : Fin 16) (e : Fin 64) (x : Fin 1024) : Dt m c (ix4 h i e x) = ag m c (ix2 (pos i x) (vcol h e)) := by
  unfold Dt
  dsimp only [V, hostOps0]
  after_results
  pointwise
  rw [pos_eq, vcol_eq]
  rfl

theorem Kp_apply (x : Fin 16384) (h : Fin 8) (d : Fin 128) :
    Kp m c (ix2 x (col h d)) = if hd : d.val < 96 then ak m c (ix3 x h ⟨d.val, hd⟩) else 0 := by
  unfold Kp
  dsimp only [V, hostOps0]
  after_results
  pointwise
  have e1 : (col h d).val % 128 = d.val := by unfold col; show (128 * h.val + d.val) % 128 = _; omega
  have e2 : (col h d).val / 128 = h.val := by unfold col; show (128 * h.val + d.val) / 128 = _; omega
  simp only [e1, e2]
  rfl

theorem Qp_apply (x : Fin 16384) (h : Fin 8) (d : Fin 128) :
    Qp m c (ix2 x (col h d)) = if hd : d.val < 96 then Ideal.div (aq m c (ix3 x h ⟨d.val, hd⟩) * Ideal.ofBits .f32 1037108716#32) (lgA ix0) else 0 := by
  unfold Qp
  dsimp only [V, hostOps0]
  after_results
  pointwise
  have e1 : (col h d).val % 128 = d.val := by unfold col; show (128 * h.val + d.val) % 128 = _; omega
  have e2 : (col h d).val / 128 = h.val := by unfold col; show (128 * h.val + d.val) / 128 = _; omega
  simp only [e1, e2]
  rfl

end Cert.AttnBwd
-- ==== Proof.KV.Ref.lean ====
/- The reference's arrays read at an index: the softmax, its cotangent, and the three results. -/
module

public import proofs.«01_k».proof.Proof.KV.Host
public import proofs.«01_k».proof.Proof.Gen.ReferenceIdeal.Read

@[expose] public section

set_option maxRecDepth 65536

noncomputable section

open scoped BigOperators

namespace Cert.AttnBwd

open Cert.ReferenceIdeal
open Cert.ReferenceIdeal.Gen
open Cert.ReferenceIdeal.Read
open Idealize.ShloMosaic
open Idealize.ShloMosaic.TcCoe
open Idealize.ShloMosaic.Tactic

variable (q k : FVec Ideal S16384x8x96 .f32) (v : FVec Ideal S16384x8x64 .f32) (g : FVec Ideal S16384x512 .f32)

theorem r1 (x : Fin 16384) (h : Fin 8) (d : Fin 96) :
    val_main_v1 (F := Ideal) q (ix3 x h d) = q (ix3 x h d) * Ideal.ofBits .f32 1037108716#32 := by
  unfold val_main_v1
  unfold val_main_v0
  unfold val_main_cst
  pointwise

theorem r2 (h : Fin 8) (x y : Fin 16384) :
    val_main_v2 (F := Ideal) q k (ix3 h x y) = ∑ d : Fin 96, val_main_v1 (F := Ideal) q (ix3 x h d) * k (ix3 y h d) := by
  unfold val_main_v2
  generalize val_main_v1 (F := Ideal) q = y0
  pointwise

theorem r3 (h : Fin 8) (x : Fin 16384) :
    val_main_v3 (F := Ideal) q k (ix2 h x) = Finset.fold max (Ideal.ofBits .f32 4286578688#32) (fun y : Fin 16384 => val_main_v2 (F := Ideal) q k (ix3 h x y)) Finset.univ := by
  unfold val_main_v3
  unfold val_main_cst_0
  generalize val_main_v2 (F := Ideal) q k = y0
  pointwise

theorem r9 (h : Fin 8) (x : Fin 16384) :
    val_main_v9 (F := Ideal) (ix2 h x) = Ideal.ofBits .f32 4286578688#32 := by
  unfold val_main_v9
  unfold val_main_cst_2
  pointwise

theorem max_apply (a b : FVec Ideal S8x16384 .f32) (i) : maximumf a b i = max (a i) (b i) := by
  pointwise

theorem r10 (h : Fin 8) (x : Fin 16384) :
    val_main_v10 (F := Ideal) q k (ix2 h x) = max (val_main_v9 (F := Ideal) (ix2 h x)) (val_main_v3 (F := Ideal) q k (ix2 h x)) := by
  unfold val_main_v10
  rw [max_apply]

theorem r23 (h : Fin 8) (x y : Fin 16384) :
    val_main_v23 (F := Ideal) q k (ix3 h x y) = Ideal.exp (val_main_v2 (F := Ideal) q k (ix3 h x y) - val_main_v10 (F := Ideal) q k (ix2 h x)) := by
  unfold val_main_v23
  unfold val_main_v22
  unfold val_main_v21
  unfold val_main_v20
  generalize val_main_v2 (F := Ideal) q k = y0
  generalize val_main_v10 (F := Ideal) q k = y1
  pointwise

theorem r24 (h : Fin 8) (x : Fin 16384) :
    val_main_v24 (F := Ideal) q k (ix2 h x) = ∑ y : Fin 16384, val_main_v23 (F := Ideal) q k (ix3 h x y) := by
  unfold val_main_v24
  unfold val_main_cst_8
  generalize val_main_v23 (F := Ideal) q k = y0
  pointwise

theorem r27 (h : Fin 8) (x y : Fin 16384) :
    val_main_v27 (F := Ideal) q k (ix3 h x y) = Ideal.div (val_main_v23 (F := Ideal) q k (ix3 h x y)) (val_main_v24 (F := Ideal) q k (ix2 h x)) := by
  unfold val_main_v27
  unfold val_main_v26
  unfold val_main_v25
  generalize val_main_v23 (F := Ideal) q k = y0
  generalize val_main_v24 (F := Ideal) q k = y1
  pointwise

theorem r30 (h : Fin 8) (x y : Fin 16384) :
    val_main_v39 (F := Ideal) q k (ix3 h x y) = Ideal.div (Ideal.ofBits .f32 1065353216#32) (val_main_v24 (F := Ideal) q k (ix2 h x) * val_main_v24 (F := Ideal) q k (ix2 h x)) := by
  unfold val_main_v39
  unfold val_main_v30
  unfold val_main_v29
  unfold val_main_v28
  unfold val_main_v25
  unfold val_main_cst_9
  generalize val_main_v24 (F := Ideal) q k = y0
  pointwise

theorem r35 (h : Fin 8) (e : Fin 64) (x : Fin 16384) :
    val_main_v35 (F := Ideal) g (ix3 h e x) = g (ix2 x (vcol h e)) := by
  unfold val_main_v35
  unfold val_main_v34
  pointwise
  simp only [vcol_eq]

theorem r36 (h : Fin 8) (x y : Fin 16384) :
    val_main_v36 (F := Ideal) v g (ix3 h x y) = ∑ e : Fin 64, g (ix2 x (vcol h e)) * v (ix3 y h e) := by
  unfold val_main_v36
  pointwise
  simp only [r35]

theorem r40 (h : Fin 8) (x y : Fin 16384) :
    val_main_v41 (F := Ideal) q k v g (ix3 h x y) = val_main_v36 (F := Ideal) v g (ix3 h x y) * val_main_v39 (F := Ideal) q k (ix3 h x y) * val_main_v23 (F := Ideal) q k (ix3 h x y) := by
  unfold val_main_v41
  unfold val_main_v40
  generalize val_main_v36 (F := Ideal) v g = y0
  generalize val_main_v39 (F := Ideal) q k = y1
  generalize val_main_v23 (F := Ideal) q k = y2
  pointwise

theorem r48 (h : Fin 8) (x y : Fin 16384) :
    val_main_v48 (F := Ideal) q k v g (ix3 h x y) = -∑ y : Fin 16384, val_main_v41 (F := Ideal) q k v g (ix3 h x y) := by
  unfold val_main_v48
  unfold val_main_v47
  unfold val_main_v44
  unfold val_main_v43
  unfold val_main_v42
  unfold val_main_cst_11
  unfold val_main_cst_10
  generalize val_main_v41 (F := Ideal) q k v g = y0
  pointwise
  rw [Fin.sum_univ_one]

theorem r50 (h : Fin 8) (x y : Fin 16384) :
    val_main_v50 (F := Ideal) q k v g (ix3 h x y) = (Ideal.div (val_main_v36 (F := Ideal) v g (ix3 h x y)) (val_main_v24 (F := Ideal) q k (ix2 h x)) + val_main_v48 (F := Ideal) q k v g (ix3 h x y)) * val_main_v23 (F := Ideal) q k (ix3 h x y) := by
  unfold val_main_v50
  unfold val_main_v49
  unfold val_main_v46
  unfold val_main_v45
  unfold val_main_v25
  generalize val_main_v36 (F := Ideal) v g = y0
  generalize val_main_v48 (F := Ideal) q k v g = y1
  generalize val_main_v23 (F := Ideal) q k = y2
  generalize val_main_v24 (F := Ideal) q k = y3
  pointwise

theorem r52 (y : Fin 16384) (h : Fin 8) (d : Fin 96) :
    val_main_v52 (F := Ideal) q k v g (ix3 y h d) = ∑ x : Fin 16384, val_main_v50 (F := Ideal) q k v g (ix3 h x y) * val_main_v1 (F := Ideal) q (ix3 x h d) := by
  unfold val_main_v52
  unfold val_main_v51
  generalize val_main_v50 (F := Ideal) q k v g = y0
  generalize val_main_v1 (F := Ideal) q = y1
  pointwise

theorem r54 (x : Fin 16384) (h : Fin 8) (d : Fin 96) :
    val_main_v54 (F := Ideal) q k v g (ix3 x h d) = ∑ y : Fin 16384, val_main_v50 (F := Ideal) q k v g (ix3 h x y) * k (ix3 y h d) := by
  unfold val_main_v54
  unfold val_main_v53
  generalize val_main_v50 (F := Ideal) q k v g = y0
  pointwise

theorem r63 (h : Fin 8) (j : Fin 16) (e : Fin 64) (y : Fin 1024) :
    val_main_v63 (F := Ideal) q k g (ix4 h j e y) = ∑ x : Fin 16384, g (ix2 x (vcol h e)) * val_main_v27 (F := Ideal) q k (ix3 h x (pos j y)) := by
  unfold val_main_v63
  unfold val_main_v62
  unfold val_main_v38
  unfold val_main_v37
  generalize val_main_v27 (F := Ideal) q k = y0
  pointwise
  simp only [pos_eq, r35]

theorem r58 (h : Fin 8) (i : Fin 16) (d : Fin 128) (x : Fin 1024) :
    val_main_v58 (F := Ideal) q k v g (ix4 h i d x) = if hd : d.val < 96 then val_main_v54 (F := Ideal) q k v g (ix3 (pos i x) h ⟨d.val, hd⟩) else 0 := by
  unfold val_main_v58
  unfold val_main_v57
  unfold val_main_v56
  unfold val_main_v55
  unfold val_main_cst_12
  generalize val_main_v54 (F := Ideal) q k v g = y0
  pointwise
  simp only [pos_eq]

theorem r61 (y : Fin 16384) (h : Fin 8) (d : Fin 128) :
    val_main_v61 (F := Ideal) q k v g (ix2 y (col h d)) = if hd : d.val < 96 then val_main_v52 (F := Ideal) q k v g (ix3 y h ⟨d.val, hd⟩) else 0 := by
  unfold val_main_v61
  unfold val_main_v60
  unfold val_main_v59
  unfold val_main_cst_13
  generalize val_main_v52 (F := Ideal) q k v g = y0
  pointwise
  have e1 : (col h d).val % 128 = d.val := by unfold col; show (128 * h.val + d.val) % 128 = _; omega
  have e2 : (col h d).val / 128 = h.val := by unfold col; show (128 * h.val + d.val) / 128 = _; omega
  simp only [e1, e2]

end Cert.AttnBwd
-- ==== Proof.KV.Math.lean ====
/- The real arithmetic of a row of attention and its gradient: chunked sums, the softmax free of its shift, the exponent to
   base two, and the two writings of the score's cotangent. -/
module

public import Idealize.ShloMosaic.PureOps.Ideal.Laws
public import Mathlib.Analysis.SpecialFunctions.Pow.Real

@[expose] public section

noncomputable section

open scoped BigOperators

namespace Cert.AttnBwd

open Idealize.ShloMosaic

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, started from negative infinity, is a real. -/
theorem fold_max_real {n : ℕ} (f : Fin (n + 1) → ℝ) :
    ∃ M : ℝ, Finset.fold max (⊥ : EReal) (fun i => (f i : EReal)) Finset.univ = (M : EReal) := by
  classical
  have key : ∀ s : Finset (Fin (n + 1)), s.Nonempty → ∃ M : ℝ, Finset.fold max (⊥ : EReal) (fun i => (f i : EReal)) s = (M : EReal) := by
    intro s
    induction s using Finset.induction_on with
    | empty => intro h; exact absurd h Finset.not_nonempty_empty
    | insert a s ha ih =>
      intro _
      rw [Finset.fold_insert ha]
      rcases s.eq_empty_or_nonempty with rfl | hs
      · exact ⟨f a, by simp⟩
      · obtain ⟨M, hM⟩ := ih hs
        exact ⟨max (f a) M, by rw [hM]; exact (EReal.coe_strictMono.monotone.map_max (a := f a) (b := M)).symm⟩
  exact key _ Finset.univ_nonempty

/-- A sum over all positions is the sum over the chunks of the sums within. -/
theorem sum_chunks (p : Fin 16 → Fin 1024 → Fin 16384) (hp : ∀ j y, (p j y).val = 1024 * j.val + y.val) (f : Fin 16384 → EReal) :
    ∑ j, ∑ y, f (p j y) = ∑ x, f x := by
  rw [← Fintype.sum_prod_type' (fun j y => f (p j y))]
  refine Fintype.sum_equiv (finProdFinEquiv (m := 16) (n := 1024)) _ _ fun a => congrArg f (Fin.ext ?_)
  rw [hp]
  show _ = a.2.val + 1024 * a.1.val
  omega

/-- A sum over a padded head whose padding contributes nothing. -/
theorem sum_pad (f : Fin 128 → EReal) (g : Fin 96 → EReal) (hf : ∀ d : Fin 128, f d = if hd : d.val < 96 then g ⟨d.val, hd⟩ else 0) :
    ∑ d, f d = ∑ d, g d := by
  have h := Fin.sum_univ_add (a := 96) (b := 32) f
  rw [show (∑ d, f d) = ∑ d : Fin (96 + 32), f d from rfl, h]
  have h1 : ∀ d : Fin 96, f (Fin.castAdd 32 d) = g d := fun d => by
    rw [hf, dif_pos (show (Fin.castAdd 32 d).val < 96 from d.isLt)]; rfl
  have h2 : ∀ d : Fin 32, f (Fin.natAdd 96 d) = 0 := fun d => by
    rw [hf, dif_neg (show ¬(Fin.natAdd 96 d).val < 96 by show ¬(96 + d.val < 96); omega)]
  rw [Finset.sum_congr rfl fun d _ => h1 d, Finset.sum_congr rfl fun d _ => h2 d, Finset.sum_const_zero, add_zero]

section Row

variable {n : ℕ} (S G : Fin (n + 1) → ℝ)

/-- A row's softmax. -/
def soft (y : Fin (n + 1)) : ℝ := Real.exp (S y) / ∑ z, Real.exp (S z)

theorem sum_exp_pos (M : ℝ) : 0 < ∑ y, Real.exp (S y - M) := Finset.sum_pos (fun y _ => Real.exp_pos _) Finset.univ_nonempty

/-- A shift of the row leaves the softmax as it is. -/
theorem soft_shift (M : ℝ) (y : Fin (n + 1)) : Real.exp (S y - M) / ∑ z, Real.exp (S z - M) = soft S y := by
  have h : ∀ z, Real.exp (S z - M) = Real.exp (S z) * Real.exp (-M) := fun z => by rw [← Real.exp_add]; ring_nf
  unfold soft
  simp only [h]
  rw [← Finset.sum_mul, mul_div_mul_right _ _ (Real.exp_pos _).ne']

/-- Two to the score over the logarithm of two, less the logarithmic sum over it, is the softmax. -/
theorem exp2_row (M : ℝ) (y : Fin (n + 1)) :
    Real.rpow 2 (S y / Real.log 2 - (M + Real.log (∑ z, Real.exp (S z - M))) / Real.log 2) = soft S y := by
  have h2 : Real.log 2 ≠ 0 := (Real.log_pos one_lt_two).ne'
  have hp := sum_exp_pos S M
  rw [Real.rpow_eq_pow, Real.rpow_def_of_pos two_pos, ← soft_shift S M y,
    show Real.log 2 * (S y / Real.log 2 - (M + Real.log (∑ z, Real.exp (S z - M))) / Real.log 2)
      = (S y - M) - Real.log (∑ z, Real.exp (S z - M)) by field_simp; ring,
    Real.exp_sub, Real.exp_log hp]

/-- The cotangent of a row's scores: the probability times its cotangent less the row's mean of the cotangents. -/
def dsoft (y : Fin (n + 1)) : ℝ := soft S y * (G y - ∑ z, soft S z * G z)

/-- The same, as the quotient's rule writes it. -/
theorem dsoft_quot (M : ℝ) (y : Fin (n + 1)) :
    (G y / (∑ z, Real.exp (S z - M)) + -∑ z, G z * (1 / ((∑ z, Real.exp (S z - M)) * ∑ z, Real.exp (S z - M))) * Real.exp (S z - M)) * Real.exp (S y - M)
      = dsoft S G y := by
  unfold dsoft
  simp only [← soft_shift S M]
  have hp := (sum_exp_pos S M).ne'
  generalize (∑ z, Real.exp (S z - M)) = L at *
  have h : ∀ z, G z * (1 / (L * L)) * Real.exp (S z - M) = (Real.exp (S z - M) / L * G z) * (1 / L) := fun z => by field_simp
  simp only [h]
  rw [← Finset.sum_mul]
  field_simp
  ring

end Row

end Cert.AttnBwd
-- ==== Proof.KV.Reals.lean ====
/- Both programs on real arguments: every intermediate is a real, and the two agree at each. -/
module

public import proofs.«01_k».proof.Proof.KV.Ref
public import proofs.«01_k».proof.Proof.KV.Math

@[expose] public section

set_option maxRecDepth 65536

noncomputable section

open scoped BigOperators

namespace Cert.AttnBwd

open Idealize.ShloMosaic
open Idealize.ShloMosaic.TcCoe
open Idealize.ShloMosaic.Tactic
open Cert.ReferenceIdeal.Read

theorem div_real {b : ℝ} (h : b ≠ 0) (a : ℝ) : Ideal.div (a : EReal) (b : EReal) = ((a / b : ℝ) : EReal) := by
  rw [Ideal.div_coe h, ← EReal.coe_mul, mul_one_div]

theorem log_real {b : ℝ} (h : 0 < b) : Ideal.log (b : EReal) = ((Real.log b : ℝ) : EReal) := by
  rw [Ideal.log_coe, if_neg (not_le.mpr h)]

theorem two_word : Ideal.ofBits .f32 1073741824#32 = ((2 : ℝ) : EReal) := by
  simp [Ideal.ofBits, Ideal.ieee, -EReal.coe_mul]; norm_num

theorem one_word : Ideal.ofBits .f32 1065353216#32 = ((1 : ℝ) : EReal) := by
  simp [Ideal.ofBits, Ideal.ieee, -EReal.coe_mul]; norm_num

theorem ninf_word : Ideal.ofBits .f32 4286578688#32 = ⊥ := by
  simp [Ideal.ofBits, Ideal.ieee]

/-- The scale is a real. -/
theorem scl_word : ∃ c0 : ℝ, Ideal.ofBits .f32 1037108716#32 = (c0 : EReal) := by
  refine ⟨13698540 / 134217728, ?_⟩
  simp [Ideal.ofBits, Ideal.ieee, -EReal.coe_mul]
  norm_num

/-- The scale. -/
def c0 : ℝ := scl_word.choose

theorem c0_eq : Ideal.ofBits .f32 1037108716#32 = (c0 : EReal) := scl_word.choose_spec

theorem hostLog_apply (z : FVec Ideal Cert.KernelIdeal.S_ .f32) : Host.log z ix0 = Ideal.log (z ix0) := by
  pointwise

theorem const_apply (w : BitVec 32) : constant (F := Ideal) Cert.KernelIdeal.S_ FTy.f32 w ix0 = Ideal.ofBits .f32 w := rfl

theorem lgA_eq : lgA ix0 = ((Real.log 2 : ℝ) : EReal) := by
  unfold lgA
  rw [hostLog_apply, const_apply, two_word, log_real two_pos]

theorem log_two_ne : Real.log 2 ≠ 0 := (Real.log_pos one_lt_two).ne'

section Defs

variable (Q K : Cert.KernelIdeal.S16384x8x96.Idx → ℝ) (W : Cert.KernelIdeal.S16384x8x64.Idx → ℝ) (D : Cert.KernelIdeal.S16384x512.Idx → ℝ)

/-- The score of query `x` and key `y` in head `h`. -/
def sc (h : Fin 8) (x y : Fin 16384) : ℝ := ∑ d : Fin 96, Q (ix3 x h d) * c0 * K (ix3 y h d)

/-- The cotangent of their probability. -/
def gp (h : Fin 8) (x y : Fin 16384) : ℝ := ∑ e : Fin 64, D (ix2 x (vcol h e)) * W (ix3 y h e)

/-- Their probability. -/
def pr (h : Fin 8) (x y : Fin 16384) : ℝ := soft (sc Q K h x) y

/-- The cotangent of their score. -/
def ds (h : Fin 8) (x y : Fin 16384) : ℝ := dsoft (sc Q K h x) (gp W D h x) y

end Defs

section Ref

variable {q k : FVec Ideal Cert.ReferenceIdeal.S16384x8x96 .f32} {v : FVec Ideal Cert.ReferenceIdeal.S16384x8x64 .f32} {g : FVec Ideal Cert.ReferenceIdeal.S16384x512 .f32}
variable {Q K : Cert.KernelIdeal.S16384x8x96.Idx → ℝ} {W : Cert.KernelIdeal.S16384x8x64.Idx → ℝ} {D : Cert.KernelIdeal.S16384x512.Idx → ℝ}
variable (hq : ∀ i, q i = (Q i : EReal)) (hk : ∀ i, k i = (K i : EReal)) (hv : ∀ i, v i = (W i : EReal)) (hg : ∀ i, g i = (D i : EReal))

include hq in
theorem f1 (x : Fin 16384) (h : Fin 8) (d : Fin 96) : val_main_v1 (F := Ideal) q (ix3 x h d) = ((Q (ix3 x h d) * c0 : ℝ) : EReal) := by
  rw [r1, hq, c0_eq, EReal.coe_mul]

include hq hk in
theorem f2 (h : Fin 8) (x y : Fin 16384) : val_main_v2 (F := Ideal) q k (ix3 h x y) = ((sc Q K h x y : ℝ) : EReal) := by
  rw [r2, sc, coe_sum]
  exact Finset.sum_congr rfl fun d _ => by rw [f1 hq, hk, ← EReal.coe_mul]

include hq hk in
theorem f10 (h : Fin 8) (x : Fin 16384) : ∃ M : ℝ, val_main_v10 (F := Ideal) q k (ix2 h x) = (M : EReal) := by
  obtain ⟨M, hM⟩ := fold_max_real (n := 16383) (sc Q K h x)
  refine ⟨M, ?_⟩
  rw [r10, r9, r3, ninf_word, max_eq_right bot_le]
  simp only [f2 hq hk]
  exact hM

include hq hk in
theorem f23 {h : Fin 8} {x : Fin 16384} {M : ℝ} (hM : val_main_v10 (F := Ideal) q k (ix2 h x) = (M : EReal)) (y : Fin 16384) :
    val_main_v23 (F := Ideal) q k (ix3 h x y) = ((Real.exp (sc Q K h x y - M) : ℝ) : EReal) := by
  rw [r23, hM, f2 hq hk, ← EReal.coe_sub, Ideal.exp_coe]

include hq hk in
theorem f24 {h : Fin 8} {x : Fin 16384} {M : ℝ} (hM : val_main_v10 (F := Ideal) q k (ix2 h x) = (M : EReal)) :
    val_main_v24 (F := Ideal) q k (ix2 h x) = ((∑ y : Fin 16384, Real.exp (sc Q K h x y - M) : ℝ) : EReal) := by
  rw [r24, coe_sum]
  exact Finset.sum_congr rfl fun y _ => f23 hq hk hM y

include hq hk in
/-- The reference's probabilities. -/
theorem f27 (h : Fin 8) (x y : Fin 16384) : val_main_v27 (F := Ideal) q k (ix3 h x y) = ((pr Q K h x y : ℝ) : EReal) := by
  obtain ⟨M, hM⟩ := f10 hq hk h x
  rw [r27, f23 hq hk hM, f24 hq hk hM, div_real (sum_exp_pos (n := 16383) (sc Q K h x) M).ne']
  exact congrArg _ (soft_shift (n := 16383) (sc Q K h x) M y)

include hv hg in
theorem f36 (h : Fin 8) (x y : Fin 16384) : val_main_v36 (F := Ideal) v g (ix3 h x y) = ((gp W D h x y : ℝ) : EReal) := by
  rw [r36, gp, coe_sum]
  exact Finset.sum_congr rfl fun e _ => by rw [hg, hv, ← EReal.coe_mul]

include hq hk hv hg in
/-- The reference's score cotangents. -/
theorem f50 (h : Fin 8) (x y : Fin 16384) : val_main_v50 (F := Ideal) q k v g (ix3 h x y) = ((ds Q K W D h x y : ℝ) : EReal) := by
  obtain ⟨M, hM⟩ := f10 hq hk h x
  have hp := sum_exp_pos (n := 16383) (sc Q K h x) M
  have h39 : ∀ z, val_main_v41 (F := Ideal) q k v g (ix3 h x z) = ((gp W D h x z * (1 / ((∑ y : Fin 16384, Real.exp (sc Q K h x y - M)) * ∑ y : Fin 16384, Real.exp (sc Q K h x y - M))) * Real.exp (sc Q K h x z - M) : ℝ) : EReal) := by
    intro z
    rw [r40, f36 hv hg, r30, f23 hq hk hM, f24 hq hk hM, one_word, ← EReal.coe_mul, div_real (mul_pos hp hp).ne', ← EReal.coe_mul, ← EReal.coe_mul]
  rw [r50, r48, f36 hv hg, f23 hq hk hM, f24 hq hk hM, div_real hp.ne', Finset.sum_congr rfl fun z _ => h39 z, ← coe_sum, ← EReal.coe_neg,
    ← EReal.coe_add, ← EReal.coe_mul]
  exact congrArg _ (dsoft_quot (n := 16383) (sc Q K h x) (gp W D h x) M y)

end Ref

section Ker

variable (m : (ℓ : Loc Cert.KernelIdeal.nD Cert.KernelIdeal.τ Cert.KernelIdeal.sig) → Buf (Elt Ideal) ℓ) (c : Dev Cert.KernelIdeal.nD)
variable {Q K : Cert.KernelIdeal.S16384x8x96.Idx → ℝ} {W : Cert.KernelIdeal.S16384x8x64.Idx → ℝ} {D : Cert.KernelIdeal.S16384x512.Idx → ℝ}
variable (hq : ∀ i, aq m c i = (Q i : EReal)) (hk : ∀ i, ak m c i = (K i : EReal)) (hv : ∀ i, av m c i = (W i : EReal)) (hg : ∀ i, ag m c i = (D i : EReal))

include hq hk in
theorem k2 (h : Fin 8) (x y : Fin 16384) : scA (aq m c) (ak m c) (ix3 h x y) = ((sc Q K h x y : ℝ) : EReal) := by
  rw [scA_apply, sc, coe_sum]
  exact Finset.sum_congr rfl fun d _ => by rw [hq, hk, c0_eq, ← EReal.coe_mul, ← EReal.coe_mul]

include hq hk in
theorem kmx (h : Fin 8) (x : Fin 16384) : ∃ M : ℝ, mxA (scA (aq m c) (ak m c)) (ix2 h x) = (M : EReal) := by
  obtain ⟨M, hM⟩ := fold_max_real (n := 16383) (sc Q K h x)
  refine ⟨M, ?_⟩
  rw [mxA_apply, ninf_word]
  simp only [k2 m c hq hk]
  exact hM

include hq hk in
theorem kex {h : Fin 8} {x : Fin 16384} {M : ℝ} {w : FVec Ideal Cert.KernelIdeal.S8x16384 .f32} (hM : w (ix2 h x) = (M : EReal)) (y : Fin 16384) :
    exA (scA (aq m c) (ak m c)) w (ix3 h x y) = ((Real.exp (sc Q K h x y - M) : ℝ) : EReal) := by
  rw [exA_apply, hM, k2 m c hq hk, ← EReal.coe_sub, Ideal.exp_coe]

include hq hk in
theorem ksm {h : Fin 8} {x : Fin 16384} {M : ℝ} {w : FVec Ideal Cert.KernelIdeal.S8x16384 .f32} (hM : w (ix2 h x) = (M : EReal)) :
    smA (exA (scA (aq m c) (ak m c)) w) (ix2 h x) = ((∑ y : Fin 16384, Real.exp (sc Q K h x y - M) : ℝ) : EReal) := by
  rw [smA_apply, coe_sum]
  exact Finset.sum_congr rfl fun y _ => kex m c hq hk hM y

include hq hk in
/-- The probabilities the kernel recomputes from the rows' logarithmic sums. -/
theorem kpt (h : Fin 8) (j : Fin 16) (y : Fin 1024) (i : Fin 16) (x : Fin 1024) :
    pt m c h j y i x = ((pr Q K h (pos i x) (pos j y) : ℝ) : EReal) := by
  obtain ⟨M, hM⟩ := kmx m c hq hk h (pos i x)
  have hp := sum_exp_pos (n := 16383) (sc Q K h (pos i x)) M
  have hs : (∑ d : Fin 128, Kp m c (ix2 (pos j y) (col h d)) * Qp m c (ix2 (pos i x) (col h d)))
      = ((sc Q K h (pos i x) (pos j y) / Real.log 2 : ℝ) : EReal) := by
    rw [sum_pad _ (fun d : Fin 96 => ((Q (ix3 (pos i x) h d) * c0 * K (ix3 (pos j y) h d) / Real.log 2 : ℝ) : EReal)), sc, Finset.sum_div, coe_sum]
    intro d
    rw [Kp_apply, Qp_apply]
    split
    · rw [hk, hq, c0_eq, lgA_eq, ← EReal.coe_mul, div_real log_two_ne, ← EReal.coe_mul]
      exact congrArg _ (by ring)
    · rw [zero_mul]
  unfold pt
  rw [hs, Ls_eq, lsA_apply, hM, ksm m c hq hk hM, log_real hp, lgA_eq, ← EReal.coe_add, div_real log_two_ne, ← EReal.coe_sub, Ideal.exp2_coe]
  exact congrArg _ (exp2_row (n := 16383) (sc Q K h (pos i x)) M (pos j y))

include hq hk hv hg in
theorem kde (h : Fin 8) (i : Fin 16) (x : Fin 1024) :
    De m c (ix4 h i 0 x) = ((∑ y : Fin 16384, pr Q K h (pos i x) y * gp W D h (pos i x) y : ℝ) : EReal) := by
  obtain ⟨M, hM⟩ := kmx m c hq hk h (pos i x)
  have hM' : mxA' (constant Cert.KernelIdeal.S_ FTy.f32 4286578688#32) (mxA (scA (aq m c) (ak m c))) (ix2 h (pos i x)) = (M : EReal) := by
    rw [mxA'_apply, hM, const_apply, ninf_word, max_eq_right bot_le]
  have hp := sum_exp_pos (n := 16383) (sc Q K h (pos i x)) M
  rw [De_eq, deA_apply]
  have h1 : ∀ y, prA (scA (aq m c) (ak m c)) (mxA' (constant Cert.KernelIdeal.S_ FTy.f32 4286578688#32) (mxA (scA (aq m c) (ak m c)))) (ix3 h (pos i x) y) = ((pr Q K h (pos i x) y : ℝ) : EReal) := by
    intro y
    rw [prA_apply, kex m c hq hk hM', ksm m c hq hk hM', div_real hp.ne']
    exact congrArg _ (soft_shift (n := 16383) (sc Q K h (pos i x)) M y)
  simp only [h1, hv, hg, ← EReal.coe_mul, ← coe_sum]
  refine congrArg _ ?_
  simp only [gp, Finset.mul_sum, Finset.sum_mul]
  rw [Finset.sum_comm]
  exact Finset.sum_congr rfl fun y _ => Finset.sum_congr rfl fun e _ => by ring

include hq hk hv hg in
/-- The score cotangents the kernel computes. -/
theorem kdst (h : Fin 8) (j : Fin 16) (y : Fin 1024) (i : Fin 16) (x : Fin 1024) :
    dst m c h j y i x = ((ds Q K W D h (pos i x) (pos j y) : ℝ) : EReal) := by
  unfold dst
  have hs : (∑ e : Fin 64, Vt m c (ix4 h j e y) * Dt m c (ix4 h i e x)) = ((gp W D h (pos i x) (pos j y) : ℝ) : EReal) := by
    rw [gp, coe_sum]
    exact Finset.sum_congr rfl fun e _ => by rw [Vt_apply, Dt_apply, hv, hg, ← EReal.coe_mul, mul_comm]
  rw [kpt m c hq hk, hs, kde m c hq hk hv hg, ← EReal.coe_sub, ← EReal.coe_mul]
  rfl

theorem pos_val (j : Fin 16) (y : Fin 1024) : (pos j y).val = 1024 * j.val + y.val := rfl

include hq hk hg in
/-- The values' gradient: both programs. -/
theorem dv_eq (h : Fin 8) (j : Fin 16) (e : Fin 64) (y : Fin 1024) :
    dvA m c h j e y = val_main_v63 (F := Ideal) (aq m c) (ak m c) (ag m c) (ix4 h j e y) := by
  rw [r63, dvA]
  refine Eq.trans ?_ (sum_chunks pos pos_val _)
  refine Finset.sum_congr rfl fun i _ => Finset.sum_congr rfl fun x _ => ?_
  rw [Dt_apply, kpt m c hq hk, f27 hq hk]

include hq hk hv hg in
/-- The keys' gradient: both programs. -/
theorem dk_eq (h : Fin 8) (j : Fin 16) (y : Fin 1024) (d : Fin 128) :
    dkA m c h j y d = val_main_v61 (F := Ideal) (aq m c) (ak m c) (av m c) (ag m c) (ix2 (pos j y) (col h d)) := by
  rw [r61, dkA]
  simp only [Qp_apply]
  split
  · rename_i hd
    rw [r52]
    have h1 : (∑ i : Fin 16, ∑ x : Fin 1024, dst m c h j y i x * Ideal.div (aq m c (ix3 (pos i x) h ⟨d.val, hd⟩) * Ideal.ofBits .f32 1037108716#32) (lgA ix0))
        = ((∑ x : Fin 16384, ds Q K W D h x (pos j y) * (Q (ix3 x h ⟨d.val, hd⟩) * c0 / Real.log 2) : ℝ) : EReal) := by
      rw [coe_sum]
      refine Eq.trans ?_ (sum_chunks pos pos_val _)
      refine Finset.sum_congr rfl fun i _ => Finset.sum_congr rfl fun x _ => ?_
      rw [kdst m c hq hk hv hg, hq, c0_eq, lgA_eq, ← EReal.coe_mul, div_real log_two_ne, ← EReal.coe_mul]
    rw [h1, ← EReal.coe_mul, Finset.sum_mul, coe_sum]
    refine Finset.sum_congr rfl fun x _ => ?_
    rw [f50 hq hk hv hg, f1 hq, ← EReal.coe_mul]
    refine congrArg _ ?_
    have := log_two_ne
    field_simp
  · simp

include hq hk hv hg in
/-- The queries' gradient: both programs. -/
theorem dq_eq (h : Fin 8) (i : Fin 16) (d : Fin 128) (x : Fin 1024) :
    ∑ j, dqA m c h j i d x = val_main_v58 (F := Ideal) (aq m c) (ak m c) (av m c) (ag m c) (ix4 h i d x) := by
  rw [r58]
  simp only [dqA, Kp_apply]
  split
  · rename_i hd
    rw [r54]
    refine Eq.trans ?_ (sum_chunks pos pos_val _)
    refine Finset.sum_congr rfl fun j _ => Finset.sum_congr rfl fun y _ => ?_
    rw [kdst m c hq hk hv hg, f50 hq hk hv hg, mul_comm]
  · simp

end Ker

end Cert.AttnBwd
-- ==== Proof.KV.Fin.lean ====
/- The stated precondition makes every argument an array of reals. -/
module

public import proofs.«01_k».proof.Defs
public import proofs.«01_k».proof.Proof.KV.Host
public import Idealize.ShloMosaic.Lib.ReduceAll

@[expose] public section

noncomputable section

namespace Cert.AttnBwd

open Idealize.ShloMosaic
open Idealize.ShloMosaic.TcCoe
open Idealize.ShloMosaic.Tactic

/-- The precondition's side conditions. -/
instance finFacts : Cert.Pre_finite.Facts where
  bcast_S_S16384x8x96 := by decide
  reducesTo_S16384x8x96_S_d0_1_2 := by decide
  h_S_ := by decide
  bcast_S_S16384x8x64 := by decide
  reducesTo_S16384x8x64_S_d0_1_2 := by decide
  bcast_S_S16384x512 := by decide
  reducesTo_S16384x512_S_d0_1 := by decide

theorem inf_word : Ideal.ofBits .f32 0x7F800000#32 = ⊤ := by simp [Ideal.ofBits, Ideal.ieee]

/-- A value whose magnitude is below infinity is a real. -/
theorem real_of_abs_lt (a : EReal) (h : max a (-a) < ⊤) : ∃ r : ℝ, a = (r : EReal) := by
  induction a with
  | bot => exact absurd h (by simp)
  | coe r => exact ⟨r, rfl⟩
  | top => exact absurd h (by simp)

theorem ofBool_eq_one {b : Bool} (h : BitVec.ofBool b = 1#1) : b = true := by
  cases b
  · exact absurd h (by decide)
  · rfl

theorem andi_eq_one {s : Shape} (a b : IVec s 1) (i : s.Idx) (h : andi a b i = 1#1) : a i = 1#1 ∧ b i = 1#1 := by
  have : a i &&& b i = 1#1 := h
  revert this
  generalize a i = x
  generalize b i = y
  revert x y
  decide

/-- One argument: all magnitudes below infinity. -/
theorem arg_real {s : Shape} (x : FVec Ideal s .f32) (z : FVec Ideal s .f32) (hz : ∀ i, z i = ⊤) {axes : List (Fin s.rank)}
    {h : s.ReducesTo axes Cert.Pre_finite.S_} {hu : 0 < Cert.Pre_finite.S_.numel}
    (e : Host.reduce IntOp.andi (cmpf .olt (Host.absf x) z) (constantI Cert.Pre_finite.S_ 1 1#1) h hu ix0 = 1#1) (i : s.Idx) :
    ∃ r : ℝ, x i = (r : EReal) := by
  haveI : Subsingleton Cert.Pre_finite.S_.Idx := ⟨fun a b => funext fun k => k.elim0⟩
  have e1 := Host.reduce_andi_all _ _ h hu ix0 e i
  have e2 : BitVec.ofBool (decide (max (x i) (-(x i)) < z i)) = 1#1 := e1
  have e3 := of_decide_eq_true (ofBool_eq_one e2)
  rw [hz] at e3
  exact real_of_abs_lt _ e3

theorem top_apply {s : Shape} (h : Cert.Pre_finite.S_.BroadcastsInDim s ![]) (i : s.Idx) :
    broadcastInDim s ![] h (constant (F := Ideal) Cert.Pre_finite.S_ .f32 0x7F800000#32) i = ⊤ := by
  rw [← inf_word]
  rfl

theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, aq m c i = (r : EReal)) ∧ (∀ i, ∃ r : ℝ, ak m c i = (r : EReal)) ∧ (∀ i, ∃ r : ℝ, av m c i = (r : EReal))
      ∧ (∀ i, ∃ r : ℝ, ag m c i = (r : EReal)) := by
  have h0 := congrFun (h c) ix0
  dsimp only [Cert.Pre_finite.fn, Cert.Pre_finite.fn_part1] at h0
  obtain ⟨h0, h3⟩ := andi_eq_one _ _ _ h0
  obtain ⟨h0, h2⟩ := andi_eq_one _ _ _ h0
  obtain ⟨h0, h1⟩ := andi_eq_one _ _ _ h0
  exact ⟨arg_real _ _ (top_apply _) h0, arg_real _ _ (top_apply _) h1, arg_real _ _ (top_apply _) h2, arg_real _ _ (top_apply _) h3⟩

end Cert.AttnBwd
-- ==== Proof.FF.Bwd.lean ====
/- The feed-forward layer's input gradient call: what a grid point leaves in its block of the input's gradient and in the gain's
   gradient, which all points add to. -/
module

public import proofs.«01_k».proof.Proof.Gen.Kernel2Ideal.Value
public import proofs.«01_k».proof.Defs
public import Idealize.ShloMosaic.Lib.Pointwise
public import Idealize.ShloMosaic.Lib.Pipeline.ValueKit.Point

@[expose] public section

set_option maxRecDepth 65536

noncomputable section

open scoped BigOperators

namespace Cert.Ffn.W2

open Cert.Kernel2Ideal Cert.Kernel2Ideal.Gen Idealize.ShloMosaic Idealize.ShloMosaic.TcCoe Idealize.ShloMosaic.Tactic

theorem hz : (![0, 0] : Fin 2 → Nat) = fun _ => 0 := funext fun a => by fin_cases a <;> rfl

/-- The rows of the transposed weight that belong to the gate … -/
def wg (w : Vec Ideal S5632x1024 .bf16) : Vec Ideal S2816x1024 .bf16 := View.ld w (Rect.unit (s := S5632x1024) ![0, 0] S2816x1024.size inb_S5632x1024_S2816x1024_0_0)
/-- … and the others. -/
def wu (w : Vec Ideal S5632x1024 .bf16) : Vec Ideal S2816x1024 .bf16 :=
  View.ld w (Rect.unit (s := S5632x1024) ![2816, 0] S2816x1024.size inb_S5632x1024_S2816x1024_2816_0)

theorem wg_apply (w : Vec Ideal S5632x1024 .bf16) (y : Fin 2816) (k : Fin 1024) : wg w (ix2 y k) = w (ix2 (⟨y.val, by omega⟩ : Fin 5632) k) := by
  unfold wg
  refine congrArg w (funext fun a => Fin.ext ?_)
  match a with
  | ⟨0, _⟩ => show 0 + 1 * y.val = y.val; omega
  | ⟨1, _⟩ => show 0 + 1 * k.val = k.val; omega

theorem wu_apply (w : Vec Ideal S5632x1024 .bf16) (y : Fin 2816) (k : Fin 1024) : wu w (ix2 y k) = w (ix2 (⟨2816 + y.val, by omega⟩ : Fin 5632) k) := by
  unfold wu
  refine congrArg w (funext fun a => Fin.ext ?_)
  match a with
  | ⟨0, _⟩ => show 2816 + 1 * y.val = 2816 + y.val; omega
  | ⟨1, _⟩ => show 0 + 1 * k.val = k.val; omega

variable (m : (ℓ : Loc nD τ sig) → Buf (Elt Ideal) ℓ) (c : Dev nD)

/-- A block's rows of the input gradient, from the blocks the point reads. -/
def dxB (t : Fin cfg0.N) : Vec Ideal S512x1024 .f32 :=
  k0_pay1 (k0_pay3 (iblk m c 3 t) (wg (iblk m c 2 t)) (iblk m c 4 t) (wu (iblk m c 2 t))) (k0_pay4 (iblk m c 0 t)) (k0_pay5 (iblk m c 0 t)) (iblk m c 5 t) (iblk m c 1 t)

/-- The gain's gradient after a block, from what it was before. -/
def dgB (t : Fin cfg0.N) (acc : Vec Ideal S1x1024 .f32) : Vec Ideal S1x1024 .f32 :=
  k0_pay6 (iblk m c 3 t) (wg (iblk m c 2 t)) (iblk m c 4 t) (wu (iblk m c 2 t)) (iblk m c 0 t) acc

theorem dx_first (t : Fin cfg0.N) (h0 : t.val % 32 = 0) : (outsAt0 m c t.val t.isLt).1 = dxB m c t := by
  rw [outsAt0_A m c t h0]
  dsimp only
  unfold out0_A_6
  rw [View.read_writes_eq_canon _ _ _ (cover0_A_6 (F := Ideal) c _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz,
    View.ld_unit_zero (S := S1x1024) hz, View.ld_unit_zero (S := S512x2816) hz, shapeCast_self]
  rfl

theorem dx_later (t : Fin cfg0.N) (h0 : ¬t.val % 32 = 0) : (outsAt0 m c t.val t.isLt).1 = dxB m c t := by
  rw [outsAt0_B m c t h0]
  dsimp only
  unfold out0_B_6
  rw [View.read_writes_eq_canon _ _ _ (cover0_B_6 (F := Ideal) c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_7 t).read_unread, View.ld_unit_zero (S := S512x1024) hz,
    View.ld_unit_zero (S := S1x1024) hz, View.ld_unit_zero (S := S512x2816) hz, shapeCast_self]
  rfl

theorem dg_first (t : Fin cfg0.N) (h0 : t.val % 32 = 0) : (outsAt0 m c t.val t.isLt).2 = dgB m c t (k0_pay2 (F := Ideal)) := by
  rw [outsAt0_A m c t h0]
  dsimp only
  unfold out0_A_7
  rw [View.read_writes_eq_canon _ _ _ (cover0_A_7 (F := Ideal) c _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz,
    View.ld_unit_zero (S := S1x1024) hz, View.ld_unit_zero (S := S512x2816) hz, shapeCast_self]
  rfl

theorem dg_later (t : Fin cfg0.N) (h0 : ¬t.val % 32 = 0) :
    (outsAt0 m c t.val t.isLt).2 = dgB m c t (outsAt0 m c (t.val - 1) (Nat.lt_of_le_of_lt (Nat.sub_le _ _) t.isLt)).2 := by
  rw [outsAt0_B m c t h0]
  dsimp only
  unfold out0_B_7
  rw [View.read_writes_eq_canon _ _ _ (cover0_B_7 (F := Ideal) c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_7 t).read_unread, View.ld_unit_zero (S := S512x1024) hz,
    View.ld_unit_zero (S := S1x1024) hz, View.ld_unit_zero (S := S512x2816) hz, shapeCast_self]
  rfl

/-- The rows' gradient behind the norm. -/
theorem pay3_apply (a : Vec Ideal S512x2816 .bf16) (v : Vec Ideal S2816x1024 .bf16) (b : Vec Ideal S512x2816 .bf16) (w : Vec Ideal S2816x1024 .bf16)
    (r : Fin 512) (k : Fin 1024) :
    (k0_pay3 a v b w : FVec Ideal S512x1024 .f32) (ix2 r k) = (∑ y : Fin 2816, a (ix2 r y) * v (ix2 y k)) + ∑ y : Fin 2816, b (ix2 r y) * w (ix2 y k) := by
  unfold k0_pay3
  pointwise

/-- One over a row's root mean square. -/
def rms (x : Fin 1024 → EReal) : EReal := Ideal.rsqrt (Ideal.div (∑ z, x z * x z) (Ideal.ofBits .f32 0x44800000#32) + Ideal.ofBits .f32 0x358637BD#32)

theorem pay4_apply (x : Vec Ideal S512x1024 .f32) (r : Fin 512) (z : Fin 1) : (k0_pay4 x : FVec Ideal S512x1 .f32) (ix2 r z) = rms fun z => x (ix2 r z) := by
  unfold k0_pay4 rms
  pointwise

theorem pay5_apply (x : Vec Ideal S512x1024 .f32) (r : Fin 512) (k : Fin 1024) :
    (k0_pay5 x : FVec Ideal S512x1024 .f32) (ix2 r k) = x (ix2 r k) * rms fun z => x (ix2 r z) := by
  rw [← pay4_apply x r 0]
  unfold k0_pay5
  generalize k0_pay4 x = q
  pointwise

theorem pay1_apply (d : FVec Ideal S512x1024 .f32) (q : FVec Ideal S512x1 .f32) (h o : FVec Ideal S512x1024 .f32) (g : Vec Ideal S1x1024 .f32)
    (r : Fin 512) (k : Fin 1024) :
    (k0_pay1 d q h o g : FVec Ideal S512x1024 .f32) (ix2 r k)
      = o (ix2 r k) + q (ix2 r 0) * (d (ix2 r k) * g (ix2 0 k)
          - h (ix2 r k) * Ideal.div (∑ z : Fin 1024, d (ix2 r z) * g (ix2 0 z) * h (ix2 r z)) (Ideal.ofBits .f32 0x44800000#32)) := by
  unfold k0_pay1
  pointwise

theorem pay6_apply (a : Vec Ideal S512x2816 .bf16) (v : Vec Ideal S2816x1024 .bf16) (b : Vec Ideal S512x2816 .bf16) (w : Vec Ideal S2816x1024 .bf16)
    (x : Vec Ideal S512x1024 .f32) (acc : Vec Ideal S1x1024 .f32) (k : Fin 1024) :
    (k0_pay6 a v b w x acc : FVec Ideal S1x1024 .f32) (ix2 0 k)
      = acc (ix2 0 k) + ∑ r : Fin 512, (k0_pay3 a v b w : FVec Ideal S512x1024 .f32) (ix2 r k) * (k0_pay5 x : FVec Ideal S512x1024 .f32) (ix2 r k) := by
  unfold k0_pay6
  generalize (k0_pay3 a v b w : FVec Ideal S512x1024 .f32) = d
  generalize (k0_pay5 x : FVec Ideal S512x1024 .f32) = h
  pointwise

theorem pay2_apply (i : S1x1024.Idx) : (k0_pay2 : FVec Ideal S1x1024 .f32) i = 0 := by
  unfold k0_pay2
  pointwise

end Cert.Ffn.W2

end
-- ==== Proof.FF.Sum.lean ====
/- Sums split into blocks, and an accumulator folded over a run of grid points. -/
module

public import Idealize.ShloMosaic.PureOps.Ideal.Laws
public import Idealize.ShloMosaic.Lib.Pipeline.Value

@[expose] public section

noncomputable section

open scoped BigOperators

namespace Cert.Ffn

open Idealize.ShloMosaic

/-- A sum over `a * b` positions is the sum over `a` blocks of the sums within. -/
theorem sum_split {a b n : ℕ} (hn : a * b = n) (p : Fin a → Fin b → Fin n) (hp : ∀ j y, (p j y).val = b * j.val + y.val) (f : Fin n → EReal) :
    ∑ j, ∑ y, f (p j y) = ∑ x, f x := by
  subst hn
  rw [← Fintype.sum_prod_type' (fun j y => f (p j y))]
  refine Fintype.sum_equiv (finProdFinEquiv (m := a) (n := b)) _ _ fun q => congrArg f (Fin.ext ?_)
  rw [hp]
  show _ = q.2.val + b * q.1.val
  omega

/-- A nonnegative real factor goes into a finite sum. -/
theorem mul_sum' {ι : Type} (s : Finset ι) (x : ℝ) (hx : 0 ≤ x) (f : ι → EReal) : (x : EReal) * ∑ i ∈ s, f i = ∑ i ∈ s, (x : EReal) * f i := by
  classical
  induction s using Finset.induction_on with
  | empty => simp
  | insert a s ha ih =>
    rw [Finset.sum_insert ha, Finset.sum_insert ha, EReal.left_distrib_of_nonneg_of_ne_top (EReal.coe_nonneg.2 hx) (EReal.coe_ne_top x), ih]

/-- An accumulator that starts from zero and gains `T s` at the `s`-th of `n + 1` points ends at the sum. -/
theorem acc_sum {N : ℕ} {ι : Type} (a : (n : ℕ) → n < N → ι → EReal) (g : (n : ℕ) → n < N → (ι → EReal) → ι → EReal) (b e : ℕ) (h : b + e < N) (i : ι) (T : Fin (e + 1) → EReal)
    (ha : ∀ h, a b h i = T 0)
    (hg : ∀ (s : Fin (e + 1)) (h) (acc : ι → EReal), 0 < s.val → g (b + s.val) h acc i = acc i + T s) :
    Pipeline.accAt a g b e h i = ∑ s, T s := by
  have key : ∀ (j : ℕ) (hj : j ≤ e) (h : b + j < N), Pipeline.accAt a g b j h i = ∑ s : Fin (j + 1), T ⟨s.val, by omega⟩ := by
    intro j
    induction j with
    | zero => intro _ h; rw [Pipeline.accAt_zero, Fin.sum_univ_one]; exact ha h
    | succ j ih =>
      intro hj h
      rw [Pipeline.accAt_succ, hg ⟨j + 1, by omega⟩ h _ (Nat.succ_pos j), ih (by omega), Fin.sum_univ_castSucc (n := j + 1)]
      rfl
  exact key e le_rfl h

end Cert.Ffn
-- ==== Proof.FF.Norm.lean ====
/- The gradient of a root-mean-square norm, written in the two ways the kernel and the reference write it. Neither way needs finite
   numbers: a row's mean square is a positive real, or it is infinite and the row's norm is zero. -/
module

public import proofs.«01_k».proof.Proof.FF.Sum

@[expose] public section

noncomputable section

open scoped BigOperators

namespace Cert.Ffn

open Idealize.ShloMosaic

theorem add_self (w : EReal) : w + w = w * ((2 : ℝ) : EReal) := by
  induction w with
  | bot => rw [EReal.bot_mul_coe_of_pos (by norm_num)]; rfl
  | top => rw [EReal.top_mul_coe_of_pos (by norm_num)]; rfl
  | coe w => rw [← EReal.coe_add, ← EReal.coe_mul, mul_two]

theorem sq_nonneg (x : EReal) : 0 ≤ x * x := by
  induction x with
  | bot => simp
  | top => simp
  | coe x => rw [← EReal.coe_mul]; exact_mod_cast mul_self_nonneg x

/-- A row's length, as the programs write it. -/
theorem lit_n : (Ideal.ofBits .f32 0x44800000#32 : EReal) = ((1024 : ℝ) : EReal) := by
  simp [Ideal.ofBits, Ideal.ieee, -EReal.coe_mul]; norm_num

theorem lit_h : (Ideal.ofBits .f32 0xBF000000#32 : EReal) = ((-(1 / 2) : ℝ) : EReal) := by
  simp [Ideal.ofBits, Ideal.ieee, -EReal.coe_mul, -EReal.coe_neg]; norm_num

theorem lit_e : ∃ e : ℝ, 0 < e ∧ (Ideal.ofBits .f32 0x358637BD#32 : EReal) = (e : EReal) := by
  refine ⟨8796093 * 2 ^ (-43 : ℤ), by positivity, ?_⟩
  simp [Ideal.ofBits, Ideal.ieee, -EReal.coe_mul]

/-- The mean square of a row and the small addend. -/
def ms {n : ℕ} (x : Fin n → EReal) : EReal := Ideal.div (∑ z, x z * x z) (Ideal.ofBits .f32 0x44800000#32) + Ideal.ofBits .f32 0x358637BD#32

theorem ms_cases {n : ℕ} (x : Fin n → EReal) : ms x = ⊤ ∨ ∃ t : ℝ, 0 < t ∧ ms x = (t : EReal) := by
  obtain ⟨e, he, h⟩ := lit_e
  unfold ms
  rw [lit_n, h, Ideal.div_coe (by norm_num)]
  have hp : (0 : EReal) ≤ ∑ z, x z * x z := Finset.sum_nonneg fun z _ => sq_nonneg _
  generalize (∑ z, x z * x z) = T at hp
  induction T with
  | bot => simp at hp
  | top => left; rw [EReal.top_mul_coe_of_pos (by norm_num)]; exact EReal.top_add_coe e
  | coe T =>
    right
    have hT : 0 ≤ T := by exact_mod_cast hp
    exact ⟨T * (1 / 1024) + e, by positivity, by rw [← EReal.coe_mul, ← EReal.coe_add]⟩

/-- What both ways have in common: the sum of a row's entries times their gradients. -/
theorem norm_grad {n : ℕ} (x a : Fin n → EReal) (k : Fin n) :
    Ideal.rsqrt (ms x) * (a k - x k * Ideal.rsqrt (ms x) * Ideal.div (∑ z, a z * (x z * Ideal.rsqrt (ms x))) (Ideal.ofBits .f32 0x44800000#32))
      = a k * Ideal.rsqrt (ms x)
          + x k * Ideal.div ((∑ z, x z * a z) * (Ideal.ofBits .f32 0xBF000000#32 * Ideal.div (Ideal.rsqrt (ms x)) (ms x))) (Ideal.ofBits .f32 0x44800000#32)
        + Ideal.div ((∑ z, x z * a z) * (Ideal.ofBits .f32 0xBF000000#32 * Ideal.div (Ideal.rsqrt (ms x)) (ms x))) (Ideal.ofBits .f32 0x44800000#32) * x k := by
  rw [lit_n, lit_h, Ideal.div_coe (by norm_num), Ideal.div_coe (by norm_num)]
  rcases ms_cases x with h | ⟨t, ht, h⟩
  · rw [h, Ideal.rsqrt_top, show Ideal.div 0 ⊤ = 0 by rw [Ideal.div, if_neg (by simp)]; simp]
    simp only [mul_zero, zero_mul, add_zero]
  · have hs : (0 : ℝ) < Real.sqrt t := Real.sqrt_pos.2 ht
    rw [h, Ideal.rsqrt_coe, if_neg (not_lt.2 ht.le), if_neg ht.ne', Ideal.div_coe ht.ne']
    have hr : (Real.sqrt t)⁻¹ * (Real.sqrt t)⁻¹ = 1 / t := by
      rw [← mul_inv, Real.mul_self_sqrt ht.le, one_div]
    have hr0 : 0 ≤ (Real.sqrt t)⁻¹ := inv_nonneg.2 hs.le
    generalize (Real.sqrt t)⁻¹ = r at hr hr0
    rw [show (∑ z, a z * (x z * (r : EReal))) = (r : EReal) * ∑ z, x z * a z from by
      rw [mul_sum' _ r hr0]
      exact Finset.sum_congr rfl fun z _ => by rw [mul_comm (x z) (r : EReal), mul_left_comm, mul_comm (a z)]]
    generalize (∑ z, x z * a z) = S
    generalize x k = u
    generalize a k = v
    rw [sub_eq_add_neg, EReal.left_distrib_of_nonneg_of_ne_top (EReal.coe_nonneg.2 hr0) (EReal.coe_ne_top r), add_assoc, mul_comm (r : EReal) v]
    refine congrArg (v * (r : EReal) + ·) ?_
    have e2 : S * (((-(1 / 2) : ℝ) : EReal) * ((r : EReal) * ((1 / t : ℝ) : EReal))) * ((1 / 1024 : ℝ) : EReal)
        = S * (((-(1 / 2) * (r * (1 / t)) * (1 / 1024) : ℝ)) : EReal) := by
      rw [mul_assoc]; norm_cast
    rw [e2, mul_comm _ u, add_self, ← mul_assoc u S, mul_assoc (u * S), ← EReal.coe_mul]
    have e1 : u * (r : EReal) * ((r : EReal) * S * ((1 / 1024 : ℝ) : EReal)) = u * S * ((r * r * (1 / 1024) : ℝ) : EReal) := by
      rw [EReal.coe_mul, EReal.coe_mul]
      simp only [mul_comm, mul_left_comm, mul_assoc]
    rw [e1, ← mul_neg, ← EReal.coe_neg, mul_left_comm, ← EReal.coe_mul]
    refine congrArg (fun q : ℝ => u * S * (q : EReal)) ?_
    rw [hr]
    ring

end Cert.Ffn

end
-- ==== Proof.FF.Back.lean ====
/- The feed-forward layer's input gradient call: what the kernel leaves in its two results is what the reference computes. -/
module

public import proofs.«01_k».proof.Proof.FF.Bwd
public import proofs.«01_k».proof.Proof.FF.Norm
public import proofs.«01_k».proof.Proof.Gen.Reference2Ideal.Run
public import proofs.«01_k».proof.Proof.Gen.Reference2Ideal.Read

@[expose] public section

set_option maxRecDepth 65536

noncomputable section

open scoped BigOperators

namespace Cert.Ffn.W2

open Cert.Kernel2Ideal Cert.Kernel2Ideal.Gen Idealize.ShloMosaic Idealize.ShloMosaic.TcCoe Idealize.ShloMosaic.Tactic

/-- Row block `b` as a grid point. -/
def pnt (b : Fin 32) : Fin cfg0.N := ⟨b.val, by have := N_0; show _ < grid0.N; omega⟩

theorem exists_pnt (t : Fin cfg0.N) : ∃ b, t = pnt b := ⟨⟨t.val, lt_of_lt_of_eq t.isLt (show cfg0.N = 32 from N_0)⟩, rfl⟩

theorem idx0 : ∀ b, win0_0.index (pnt b) = ![b.val, 0] := by decide +kernel
theorem idx1 : ∀ b, win0_1.index (pnt b) = ![0, 0] := by decide +kernel
theorem idx2 : ∀ b, win0_2.index (pnt b) = ![0, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![0, 0] := by decide +kernel

/-- Row `r` of block `b`. -/
def row (b : Fin 32) (r : Fin 512) : Fin 16384 := ⟨512 * b.val + r.val, by omega⟩
/-- The weight's column for entry `y` of the gate … -/
def gcol (y : Fin 2816) : Fin 5632 := ⟨y.val, by omega⟩
/-- … and of the other half. -/
def ucol (y : Fin 2816) : Fin 5632 := ⟨2816 + y.val, by omega⟩

variable (m : (ℓ : Loc nD τ sig) → Buf (Elt Ideal) ℓ) (c : Dev nD)

/-- The layer's input, … -/
def X : Vec Ideal S16384x1024 .f32 := m ((c.tc : Thread nD τ).loc main_arg0)
/-- … the gain, … -/
def G : Vec Ideal S1024 .f32 := m ((c.tc : Thread nD τ).loc main_arg1)
/-- … the first weight, … -/
def W : Vec Ideal S1024x5632 .f32 := m ((c.tc : Thread nD τ).loc main_arg2)
/-- … the gradients of the gate … -/
def A : Vec Ideal S16384x2816 .f32 := m ((c.tc : Thread nD τ).loc main_arg3)
/-- … and of the other half, … -/
def B : Vec Ideal S16384x2816 .f32 := m ((c.tc : Thread nD τ).loc main_arg4)
/-- … and of the layer's result. -/
def O : Vec Ideal S16384x1024 .f32 := m ((c.tc : Thread nD τ).loc main_arg5)

theorem X_host : (V m c main_arg0 : Vec Ideal S16384x1024 .f32) = X m c := V_main_arg0 m c
theorem O_host : (V m c main_arg5 : Vec Ideal S16384x1024 .f32) = O m c := V_main_arg5 m c
theorem A_host : (V m c main_v3 : Vec Ideal S16384x2816 .bf16) = A m c := by
  dsimp only [V, hostOps0]
  after_results
  rfl
theorem B_host : (V m c main_v4 : Vec Ideal S16384x2816 .bf16) = B m c := by
  dsimp only [V, hostOps0]
  after_results
  rfl
theorem W_host (y : Fin 5632) (k : Fin 1024) : (V m c main_v2 : Vec Ideal S5632x1024 .bf16) (ix2 y k) = W m c (ix2 k y) := by
  dsimp only [V, hostOps0]
  after_results
  show transpose S5632x1024 [1, 0] (W m c) transposes_S1024x5632_S5632x1024_1_0 (ix2 y k) = _
  pointwise
theorem G_host (k : Fin 1024) : (V m c main_v0 : Vec Ideal S1x1024 .f32) (ix2 0 k) = G m c (ix1 k) := by
  dsimp only [V, hostOps0]
  after_results
  show shapeCast S1x1024 (G m c) shapeCasts_S1024_S1x1024 (ix2 0 k) = _
  pointwise

theorem blk0 (b : Fin 32) (r : Fin 512) (k : Fin 1024) : (iblk m c 0 (pnt b) (ix2 r k) : EReal) = X m c (ix2 (row b r) k) := by
  rw [← X_host]; unfold row; blk_ext [iblk, idx0]
theorem blk1 (b : Fin 32) (k : Fin 1024) : (iblk m c 1 (pnt b) (ix2 0 k) : EReal) = G m c (ix1 k) := by
  rw [← G_host]; blk_ext [iblk, idx1]
theorem blk2 (b : Fin 32) (y : Fin 5632) (k : Fin 1024) : (iblk m c 2 (pnt b) (ix2 y k) : EReal) = W m c (ix2 k y) := by
  rw [← W_host]; blk_ext [iblk, idx2]
theorem blk3 (b : Fin 32) (r : Fin 512) (y : Fin 2816) : (iblk m c 3 (pnt b) (ix2 r y) : EReal) = A m c (ix2 (row b r) y) := by
  rw [← A_host]; unfold row; blk_ext [iblk, idx3]
theorem blk4 (b : Fin 32) (r : Fin 512) (y : Fin 2816) : (iblk m c 4 (pnt b) (ix2 r y) : EReal) = B m c (ix2 (row b r) y) := by
  rw [← B_host]; unfold row; blk_ext [iblk, idx4]
theorem blk5 (b : Fin 32) (r : Fin 512) (k : Fin 1024) : (iblk m c 5 (pnt b) (ix2 r k) : EReal) = O m c (ix2 (row b r) k) := by
  rw [← O_host]; unfold row; blk_ext [iblk, idx5]

/-- The gradient behind the norm. -/
def dh (w : Vec Ideal S1024x5632 .f32) (a b : Vec Ideal S16384x2816 .f32) (r : Fin 16384) (k : Fin 1024) : EReal :=
  (∑ y, a (ix2 r y) * w (ix2 k (gcol y))) + ∑ y, b (ix2 r y) * w (ix2 k (ucol y))

/-- A row of an array. -/
def rowOf (x : Vec Ideal S16384x1024 .f32) (r : Fin 16384) : Fin 1024 → EReal := fun z => x (ix2 r z)

theorem dh_apply (b : Fin 32) (r : Fin 512) (k : Fin 1024) :
    (k0_pay3 (iblk m c 3 (pnt b)) (wg (iblk m c 2 (pnt b))) (iblk m c 4 (pnt b)) (wu (iblk m c 2 (pnt b))) : FVec Ideal S512x1024 .f32) (ix2 r k)
      = dh (W m c) (A m c) (B m c) (row b r) k := by
  rw [pay3_apply]
  unfold dh
  refine congrArg₂ (· + ·) (Finset.sum_congr rfl fun y _ => congrArg₂ (· * ·) (blk3 m c b r y) ?_)
    (Finset.sum_congr rfl fun y _ => congrArg₂ (· * ·) (blk4 m c b r y) ?_)
  · rw [wg_apply]; exact blk2 m c b (gcol y) k
  · rw [wu_apply]; exact blk2 m c b (ucol y) k

theorem rms_apply (b : Fin 32) (r : Fin 512) : (rms fun z => iblk m c 0 (pnt b) (ix2 r z)) = Ideal.rsqrt (ms (rowOf (X m c) (row b r))) :=
  congrArg rms (funext fun z => blk0 m c b r z)

/-- The input's gradient, as the kernel writes it: `x` is a row, `a` its gradient behind the gain. -/
def dxK (x a : Fin 1024 → EReal) (o : EReal) (k : Fin 1024) : EReal :=
  o + Ideal.rsqrt (ms x) * (a k - x k * Ideal.rsqrt (ms x) * Ideal.div (∑ z, a z * (x z * Ideal.rsqrt (ms x))) (Ideal.ofBits .f32 0x44800000#32))

theorem dxB_apply (b : Fin 32) (r : Fin 512) (k : Fin 1024) :
    (dxB m c (pnt b) (ix2 r k) : EReal)
      = dxK (rowOf (X m c) (row b r)) (fun z => dh (W m c) (A m c) (B m c) (row b r) z * G m c (ix1 z)) (O m c (ix2 (row b r) k)) k := by
  unfold dxB
  rw [pay1_apply, pay4_apply]
  simp only [pay5_apply, dh_apply, rms_apply]
  unfold dxK
  rw [blk5 m c b r k, blk0 m c b r k, blk1 m c b k]
  refine congrArg (fun s => O m c (ix2 (row b r) k) + Ideal.rsqrt (ms (rowOf (X m c) (row b r))) * (dh (W m c) (A m c) (B m c) (row b r) k * G m c (ix1 k)
    - X m c (ix2 (row b r) k) * Ideal.rsqrt (ms (rowOf (X m c) (row b r))) * Ideal.div s (Ideal.ofBits .f32 0x44800000#32))) (Finset.sum_congr rfl fun z _ => ?_)
  rw [blk0 m c b r z, blk1 m c b z]
  rfl

/-- A block's part of the gain's gradient. -/
def dgA (b : Fin 32) (k : Fin 1024) : EReal :=
  ∑ r : Fin 512, dh (W m c) (A m c) (B m c) (row b r) k * (rowOf (X m c) (row b r) k * Ideal.rsqrt (ms (rowOf (X m c) (row b r))))

theorem dgB_apply (b : Fin 32) (acc : Vec Ideal S1x1024 .f32) (k : Fin 1024) : (dgB m c (pnt b) acc (ix2 0 k) : EReal) = acc (ix2 0 k) + dgA m c b k := by
  unfold dgB dgA
  rw [pay6_apply]
  refine congrArg (acc (ix2 0 k) + ·) (Finset.sum_congr rfl fun r _ => ?_)
  rw [dh_apply, pay5_apply, rms_apply, blk0 m c b r k]
  rfl

/-- The input gradient's array after the run. -/
theorem arr6 (b : Fin 32) (r : Fin 512) (k : Fin 1024) :
    ((dats m 0 c).arrAt 6 cfg0.N (ix2 (row b r) k) : EReal)
      = dxK (rowOf (X m c) (row b r)) (fun z => dh (W m c) (A m c) (B m c) (row b r) z * G m c (ix1 z)) (O m c (ix2 (row b r) k)) k := by
  have e1 := congrFun (Value.blocks6 m c (pnt b) (flush0_6 _)) (ix2 r k)
  rw [Value.flushed6] at e1
  have e2 : (outsAt0 m c (pnt b).val (pnt b).isLt).1 = dxB m c (pnt b) := by
    by_cases h : (pnt b).val % 32 = 0
    · exact dx_first m c _ h
    · exact dx_later m c _ h
  rw [← dxB_apply, ← e2]
  refine Eq.trans ?_ e1
  unfold row
  blk_ext [idx6]

/-- The gain's gradient after row block `n`. -/
theorem left7 (k : Fin 1024) (n : ℕ) (hn : n < 32) :
    ((outsAt0 m c (pnt ⟨n, hn⟩).val (pnt ⟨n, hn⟩).isLt).2 (ix2 0 k) : EReal) = ∑ b : Fin (n + 1), dgA m c ⟨b.val, by omega⟩ k := by
  induction n with
  | zero =>
    rw [dg_first m c (pnt ⟨0, hn⟩) rfl, dgB_apply, pay2_apply, zero_add]
    simp
  | succ n ih =>
    have h0 : ¬(pnt ⟨n + 1, hn⟩).val % 32 = 0 := by show ¬(n + 1) % 32 = 0; omega
    rw [dg_later m c _ h0, dgB_apply, Fin.sum_univ_castSucc]
    exact congrArg (· + dgA m c ⟨n + 1, hn⟩ k) (ih (by omega))

/-- The gain's gradient is written back once, after the last block. -/
theorem disj7 : ∀ t t' : Fin cfg0.N, (cfg0.win 7).flush t = true → (cfg0.win 7).flush t' = true → t ≠ t' →
    Disjoint ((cfg0.win 7).blk t).view.set ((cfg0.win 7).blk t').view.set := by
  intro t t' hf hf' hne
  have h1 := (flush0_7 t).1 hf
  have h2 := (flush0_7 t').1 hf'
  obtain ⟨a, rfl⟩ := exists_pnt t
  obtain ⟨a', rfl⟩ := exists_pnt t'
  have h1' : a.val % 32 = 31 := h1
  have h2' : a'.val % 32 = 31 := h2
  exact absurd (congrArg pnt (Fin.ext (show a.val = a'.val by omega))) hne

/-- The gain gradient's array. -/
theorem arr7 (k : Fin 1024) : ((dats m 0 c).arrAt 7 cfg0.N (ix2 0 k) : EReal) = ∑ b : Fin 32, dgA m c b k := by
  have e1 := congrFun ((dats m 0 c).read_blk_arrAt_eq_flushed 7 disj7 cfg0.N (pnt 31) (pnt 31).isLt ((flush0_7 _).2 rfl)) (ix2 0 k)
  rw [Value.flushed7] at e1
  refine Eq.trans ?_ (e1.trans (left7 m c k 31 (by omega)))
  blk_ext [idx7]

section Reference

open Cert.Reference2Ideal.Read

variable (x : Vec Ideal S16384x1024 .f32) (g : Vec Ideal S1024 .f32) (w : Vec Ideal S1024x5632 .f32) (a b : Vec Ideal S16384x2816 .f32)
  (o : Vec Ideal S16384x1024 .f32)

theorem zero_lit : (FloatOps.ofBits (F := Ideal) .f32 0#32 : EReal) = 0 := by simp [FloatOps.ofBits, Ideal.ofBits, Ideal.ieee]

theorem ref_cat_left (r : Fin 16384) (y : Fin 2816) : (val_main_v17 (F := Ideal) a b (ix2 r (gcol y)) : EReal) = a (ix2 r y) := by
  unfold val_main_v17
  exact concatenate_pair_apply_left (t := Cert.Reference2Ideal.S16384x5632) 1 a b _ (ix2 r (gcol y)) rfl (ix2 r y) fun q => by match q with | ⟨0, _⟩ => rfl | ⟨1, _⟩ => rfl

theorem ref_cat_right (r : Fin 16384) (y : Fin 2816) : (val_main_v17 (F := Ideal) a b (ix2 r (ucol y)) : EReal) = b (ix2 r y) := by
  unfold val_main_v17
  exact concatenate_pair_apply_right (t := Cert.Reference2Ideal.S16384x5632) 1 a b _ (ix2 r (ucol y)) rfl rfl (ix2 r y)
    (fun q hq => by match q with | ⟨0, _⟩ => rfl | ⟨1, _⟩ => exact absurd rfl hq)
    (show y.val + 2816 = 2816 + y.val from Nat.add_comm _ _)

theorem ref_dh (r : Fin 16384) (k : Fin 1024) : (val_main_v18 (F := Ideal) w a b (ix2 r k) : EReal) = dh w a b r k := by
  rw [val_main_v18_apply]
  have e : ∀ y : Fin 5632, (val_main_v17 (F := Ideal) a b (lidx_main_v18 (ix2 r k) y) * w (ridx_main_v18 (ix2 r k) y) : EReal)
      = val_main_v17 (F := Ideal) a b (ix2 r y) * w (ix2 k y) := fun y => congrArg₂ (· * ·) (congrArg _ (eq_ix2 _)) (congrArg w (eq_ix2 _))
  simp only [e]
  rw [← sum_split (a := 2) (b := 2816) (by norm_num) (fun s y => ⟨2816 * s.val + y.val, by omega⟩) (fun _ _ => rfl)
    fun y => (val_main_v17 (F := Ideal) a b (ix2 r y) * w (ix2 k y) : EReal), Fin.sum_univ_two]
  unfold dh
  refine congrArg₂ (· + ·) (Finset.sum_congr rfl fun y _ => ?_) (Finset.sum_congr rfl fun y _ => ?_)
  · rw [show (⟨2816 * (0 : Fin 2).val + y.val, by omega⟩ : Fin 5632) = gcol y from Fin.ext (show 2816 * 0 + y.val = y.val by omega), ref_cat_left]
  · rw [show (⟨2816 * (1 : Fin 2).val + y.val, by omega⟩ : Fin 5632) = ucol y from Fin.ext (show 2816 * 1 + y.val = 2816 + y.val by omega), ref_cat_right]

theorem ref_ms (r : Fin 16384) : (val_main_v6 (F := Ideal) x (ix2 r 0) : EReal) = ms (rowOf x r) := by
  rw [val_main_v6_apply, val_main_v4_apply, val_main_v2_apply, val_main_v1_apply, val_main_v3_apply, val_main_v5_apply]
  simp only [val_main_v0_apply, val_main_cst_apply, val_main_cst_0_apply, val_main_cst_1_apply]
  have e : ∀ z, idx_main_v1 (idx_main_v2 (ix2 r 0)) z = ix2 r z := fun z => eq_ix2 _
  simp only [e]
  rw [zero_lit, zero_add]
  rfl

theorem ref_r (r : Fin 16384) : (val_main_v7 (F := Ideal) x (ix2 r 0) : EReal) = Ideal.rsqrt (ms (rowOf x r)) := by
  rw [val_main_v7_apply, ref_ms]; rfl

theorem ref_xhat (r : Fin 16384) (k : Fin 1024) : (val_main_v12 (F := Ideal) x (ix2 r k) : EReal) = rowOf x r k * Ideal.rsqrt (ms (rowOf x r)) := by
  rw [val_main_v12_apply, val_main_v11_apply, show idx_main_v11 (ix2 r k) = ix2 r 0 from eq_ix2 _, ref_r]
  rfl

theorem ref_a (r : Fin 16384) (k : Fin 1024) : (val_main_v23 (F := Ideal) g w a b (ix2 r k) : EReal) = dh w a b r k * g (ix1 k) := by
  rw [val_main_v23_apply, ref_dh, val_main_v22_apply, val_main_v13_apply, show idx_main_v13 (idx_main_v22 (ix2 r k)) = ix1 k from eq_ix1 _]
  rfl

/-- The factor of a row's own entries. -/
theorem ref_c (r : Fin 16384) (k : Fin 1024) : (val_main_v34 (F := Ideal) x g w a b (ix2 r k) : EReal)
    = Ideal.div ((∑ z, rowOf x r z * (dh w a b r z * g (ix1 z))) * (Ideal.ofBits .f32 0xBF000000#32 * Ideal.div (Ideal.rsqrt (ms (rowOf x r))) (ms (rowOf x r))))
        (Ideal.ofBits .f32 0x44800000#32) := by
  rw [val_main_v34_apply, show idx_main_v34 (ix2 r k) = ix1 r from eq_ix1 _, val_main_v33_apply, val_main_cst_7_apply, zero_lit, zero_add, Fin.sum_univ_one,
    show idx_main_v33 (ix1 r) 0 = ix2 r 0 from eq_ix2 _, val_main_v32_apply, val_main_v30_apply, val_main_v27_apply, val_main_v31_apply, val_main_cst_6_apply,
    val_main_v10_apply, val_main_v9_apply, val_main_cst_2_apply, val_main_v8_apply, ref_r, ref_ms, val_main_v26_apply, val_main_cst_5_apply, zero_lit, zero_add]
  have e : ∀ z, idx_main_v26 (idx_main_v27 (ix2 r 0)) z = ix2 r z := fun z => funext fun q => Fin.ext (by
    match q with
    | ⟨0, _⟩ => show r.val * 1 + 0 = r.val; omega
    | ⟨1, _⟩ => rfl)
  simp only [e, val_main_v25_apply, ref_a]
  rfl

/-- The reference's gradient of the input … -/
theorem ref_dx (r : Fin 16384) (k : Fin 1024) : (val_main_v39 (F := Ideal) x g w a b o (ix2 r k) : EReal)
    = dxK (rowOf x r) (fun z => dh w a b r z * g (ix1 z)) (o (ix2 r k)) k := by
  unfold dxK
  rw [norm_grad (rowOf x r) (fun z => dh w a b r z * g (ix1 z)) k, val_main_v39_apply, val_main_v38_apply, val_main_v36_apply, val_main_v37_apply, val_main_v35_apply, val_main_v29_apply, val_main_v28_apply,
    show idx_main_v28 (ix2 r k) = ix2 r 0 from eq_ix2 _, ref_r, ref_a, ref_c]
  rfl

/-- … and of the gain. -/
theorem ref_dg (k : Fin 1024) : (val_main_v40 (F := Ideal) x w a b (ix2 0 k) : EReal)
    = ∑ r, dh w a b r k * (rowOf x r k * Ideal.rsqrt (ms (rowOf x r))) := by
  have e0 : idx_main_v40 (ix2 0 k) = ix1 k := funext fun q => Fin.ext (by match q with | ⟨0, _⟩ => show 0 * 1024 + k.val = k.val; omega)
  have e1 : idx_main_v21 (idx_main_v24 (ix1 k) 0) = ix1 k := funext fun q => Fin.ext (by match q with | ⟨0, _⟩ => show 0 * 1024 + k.val = k.val; omega)
  have e2 : ∀ r, idx_main_v20 (ix1 k) r = ix2 r k := fun r => eq_ix2 _
  rw [val_main_v40_apply, e0, val_main_v24_apply, val_main_cst_4_apply, zero_lit, zero_add, Fin.sum_univ_one, val_main_v21_apply, e1, val_main_v20_apply,
    val_main_cst_3_apply, zero_lit, zero_add]
  simp only [e2, val_main_v19_apply, ref_xhat, ref_dh]
  exact Finset.sum_congr rfl fun r _ => mul_comm _ _

end Reference

/-- The kernel's gradient of the input is the reference's … -/
theorem value6 : (dats m 0 c).arrAt 6 cfg0.N = Cert.Reference2Ideal.Read.val_main_v39 (F := Ideal) (X m c) (G m c) (W m c) (A m c) (B m c) (O m c) := by
  refine funext fun i => ?_
  rw [show i = ix2 (i 0) (i 1) from eq_ix2 i]
  have hs : ∀ z : Fin 16384, ∃ b r, row b r = z := fun z => ⟨⟨z.val / 512, by omega⟩, ⟨z.val % 512, by omega⟩,
    Fin.ext (show 512 * (z.val / 512) + z.val % 512 = z.val by omega)⟩
  obtain ⟨b, r, hz⟩ := hs (i 0)
  rw [← hz]
  exact (arr6 m c b r (i 1)).trans (ref_dx _ _ _ _ _ _ _ _).symm

/-- … and so is that of the gain. -/
theorem value7 : (dats m 0 c).arrAt 7 cfg0.N = Cert.Reference2Ideal.Read.val_main_v40 (F := Ideal) (X m c) (W m c) (A m c) (B m c) := by
  refine funext fun i => ?_
  rw [show i = ix2 0 (i 1) from (eq_ix2 i).trans (congrArg (ix2 · (i 1)) (Fin.ext (by have : (i 0).val < 1 := (i 0).isLt; show (i 0).val = 0; omega)))]
  refine (arr7 m c (i 1)).trans (Eq.trans ?_ (ref_dg _ _ _ _ _).symm)
  exact sum_split (by norm_num) row (fun _ _ => rfl) fun r => dh (W m c) (A m c) (B m c) r (i 1) * (rowOf (X m c) r (i 1) * Ideal.rsqrt (ms (rowOf (X m c) r)))

/-- From equal arguments the kernel and the reference end with equal results. -/
theorem algebraic : Cert.algebraic_Kernel2Ideal_Reference2Ideal := by
  intro m g m' g' _ hargs
  refine ⟨fun c => (dats m 0 c).arrAt 6 cfg0.N, fun c => (dats m 0 c).arrAt 7 cfg0.N, Value.run_blocks m g, ?_⟩
  refine (θ_run _ _ _).mono (fun r h c => ?_) (Cert.Reference2Ideal.Value.run m' g')
  obtain ⟨h0, h1, h2, h3, h4, h5⟩ := hargs c
  obtain ⟨e0, e1, e2⟩ := h c
  refine ⟨?_, ?_, e2⟩
  · rw [e0, Cert.Reference2Ideal.Read.val_main_v39_eq, h0, h1, h2, h3, h4, h5]
    exact (value6 m c).symm
  · rw [e1, Cert.Reference2Ideal.Read.val_main_v40_eq, h0, h2, h3, h4]
    exact (value7 m c).symm

end Cert.Ffn.W2

end
-- ==== Proof.FF.Fwd.lean ====
/- The feed-forward layer's forward call: what a grid point leaves in the two scratch buffers and in the output block. -/
module

public import proofs.«01_k».proof.Proof.Gen.Kernel3Ideal.Value
public import proofs.«01_k».proof.Defs
public import Idealize.ShloMosaic.Lib.Pointwise
public import Idealize.ShloMosaic.Lib.Pipeline.ValueKit.Point

@[expose] public section

set_option maxRecDepth 65536

noncomputable section

open scoped BigOperators

namespace Cert.Ffn.W3

open Cert.Kernel3Ideal Cert.Kernel3Ideal.Gen Idealize.ShloMosaic Idealize.ShloMosaic.TcCoe Idealize.ShloMosaic.Tactic

theorem hz : (![0, 0] : Fin 2 → Nat) = fun _ => 0 := funext fun a => by fin_cases a <;> rfl

variable (m : (ℓ : Loc nD τ sig) → Buf (Elt Ideal) ℓ) (c : Dev nD)

/-- The output block, the normed rows and the accumulator. -/
abbrev St : Type := Vec Ideal S512x1024 .f32 × Vec Ideal S512x1024 .bf16 × Vec Ideal S512x1024 .f32

/-- At a row block's first point the normed rows are stored … -/
theorem first_h (t : Fin cfg0.N) (acc : St) (h0 : t.val % 2 = 0) :
    (Value.stAt0 m c t.val t.isLt acc).2.1 = k0_pay1 (iblk m c 0 t) (iblk m c 1 t) := by
  rw [Value.stAt0_A m c t acc h0 (by omega)]
  dsimp only
  unfold sout0_A_0
  rw [View.read_writes_eq_canon _ _ _ (scover0_A_0 (F := Ideal) c _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz, View.ld_unit_zero (S := S1024x1408) hz, View.ld_unit_zero (S := S1408x1024) hz, shapeCast_self]

/-- … and the accumulator starts from zero. -/
theorem first_acc (t : Fin cfg0.N) (acc : St) (h0 : t.val % 2 = 0) :
    (Value.stAt0 m c t.val t.isLt acc).2.2
      = k0_pay3 (k0_pay1 (iblk m c 0 t) (iblk m c 1 t)) (iblk m c 2 t) (iblk m c 3 t) (k0_pay2 (F := Ideal)) (iblk m c 4 t) := by
  rw [Value.stAt0_A m c t acc h0 (by omega)]
  dsimp only
  unfold sout0_A_1
  rw [View.read_writes_eq_canon _ _ _ (scover0_A_1 (F := Ideal) c _ _ _ _ _ _ _ _ _ _ _ _ _ _ _ _ _ _ _ _ _ _ _ _)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz, View.ld_unit_zero (S := S1024x1408) hz, View.ld_unit_zero (S := S1408x1024) hz, shapeCast_self]

/-- At its second point the block is the rows plus half the accumulated product. -/
theorem second (t : Fin cfg0.N) (acc : St) (h0 : t.val % 2 = 1) :
    (Value.stAt0 m c t.val t.isLt acc).1 = k0_pay4 (iblk m c 0 t) (k0_pay3 acc.2.1 (iblk m c 2 t) (iblk m c 3 t) acc.2.2 (iblk m c 4 t)) := by
  rw [Value.stAt0_B m c t acc (by omega) h0]
  dsimp only
  unfold out0_B_5
  rw [View.read_writes_eq_canon _ _ _ (cover0_B_5 (F := Ideal) c _ _ _ _ _ _ _ _ _ _ _ _ _ _ _ _ _ _ _ _ _ _ _ _ _ _)]
  unfold kernelRun0_B
  dsimp only
  sl_unfold_words
  rw [View.canon_unit_zero hz, View.readCov_unit_zero (S := S512x1024) _ hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz, View.ld_unit_zero (S := S1024x1408) hz, View.ld_unit_zero (S := S1408x1024) hz, shapeCast_self]
  have e0 := (Memref.isWhole_whole cc0_scratch0).read_unread (Val := Elt Ideal) acc.2.1
  have e1 := (Memref.isWhole_whole cc0_scratch1).read_unread (Val := Elt Ideal) acc.2.2
  exact congrArg (k0_pay4 _) (congrArg₂ (fun a b => k0_pay3 a _ _ b _) e0 e1)

end Cert.Ffn.W3

end
-- ==== Proof.FF.Forward.lean ====
/- The feed-forward layer's forward call: what the kernel leaves in its result is what the reference computes. The kernel takes the
   inner axis in two halves; the reference's product runs over all of it. -/
module

public import proofs.«01_k».proof.Proof.FF.Fwd
public import proofs.«01_k».proof.Proof.FF.Sum
public import proofs.«01_k».proof.Proof.Gen.Reference3Ideal.Run
public import proofs.«01_k».proof.Proof.Gen.Reference3Ideal.Read

@[expose] public section

set_option maxRecDepth 65536

noncomputable section

open scoped BigOperators

namespace Cert.Ffn.W3

open Cert.Kernel3Ideal Cert.Kernel3Ideal.Gen Idealize.ShloMosaic Idealize.ShloMosaic.TcCoe Idealize.ShloMosaic.Tactic

/-- An entry of a normed row: `x` is the row, `g` the gain's entry. -/
def normed (x : Fin 1024 → EReal) (g : EReal) (k : Fin 1024) : EReal :=
  x k * Ideal.rsqrt (Ideal.div (∑ z, x z * x z) (Ideal.ofBits .f32 0x44800000#32) + Ideal.ofBits .f32 0x358637BD#32) * g

/-- The gate: `a · sigmoid a · u`. -/
def gate (a u : EReal) : EReal := a * Ideal.div 1 (1 + Ideal.exp (-a)) * u

theorem pay1_apply (x : Vec Ideal S512x1024 .f32) (g : Vec Ideal S1x1024 .f32) (r : Fin 512) (k : Fin 1024) :
    (k0_pay1 x g : FVec Ideal S512x1024 .bf16) (ix2 r k) = normed (fun z => x (ix2 r z)) (g (ix2 0 k)) k := by
  unfold k0_pay1
  pointwise
  rfl

theorem pay2_apply (i : S512x1024.Idx) : (k0_pay2 : FVec Ideal S512x1024 .f32) i = 0 := by
  unfold k0_pay2
  pointwise

theorem pay3_apply (h : Vec Ideal S512x1024 .bf16) (wg wu : Vec Ideal S1024x1408 .bf16) (acc : Vec Ideal S512x1024 .f32) (wd : Vec Ideal S1408x1024 .bf16)
    (r : Fin 512) (k : Fin 1024) :
    (k0_pay3 h wg wu acc wd : FVec Ideal S512x1024 .f32) (ix2 r k)
      = acc (ix2 r k) + ∑ y : Fin 1408, gate (∑ z : Fin 1024, h (ix2 r z) * wg (ix2 z y)) (∑ z : Fin 1024, h (ix2 r z) * wu (ix2 z y)) * wd (ix2 y k) := by
  unfold k0_pay3
  pointwise
  refine congrArg (acc (ix2 r k) + ·) (Finset.sum_congr rfl fun y _ => ?_)
  unfold gate
  rw [zero_sub]

theorem pay4_apply (x acc : Vec Ideal S512x1024 .f32) (i : S512x1024.Idx) :
    (k0_pay4 x acc : FVec Ideal S512x1024 .f32) i = x i + Ideal.ofBits .f32 0x3F000000#32 * acc i := by
  unfold k0_pay4
  pointwise

/-- Row block `b`, half `s` of the inner axis, as a grid point. -/
def pnt (b : Fin 32) (s : Fin 2) : Fin cfg0.N := ⟨2 * b.val + s.val, by have := N_0; show _ < grid0.N; omega⟩

theorem idx0 : ∀ b s, win0_0.index (pnt b s) = ![b.val, 0] := by decide +kernel
theorem idx1 : ∀ b s, win0_1.index (pnt b s) = ![0, 0] := by decide +kernel
theorem idx2 : ∀ b s, win0_2.index (pnt b s) = ![0, s.val] := by decide +kernel
theorem idx3 : ∀ b s, win0_3.index (pnt b s) = ![0, s.val + 2] := by decide +kernel
theorem idx4 : ∀ b s, win0_4.index (pnt b s) = ![s.val, 0] := by decide +kernel

/-- Row `r` of block `b`. -/
def row (b : Fin 32) (r : Fin 512) : Fin 16384 := ⟨512 * b.val + r.val, by omega⟩
/-- Entry `y` of half `s` of the inner axis … -/
def inn (s : Fin 2) (y : Fin 1408) : Fin 2816 := ⟨1408 * s.val + y.val, by omega⟩
/-- … its column in the first weight's gate half … -/
def gcol (y : Fin 2816) : Fin 5632 := ⟨y.val, by omega⟩
/-- … and in the other half. -/
def ucol (y : Fin 2816) : Fin 5632 := ⟨2816 + y.val, by omega⟩

variable (m : (ℓ : Loc nD τ sig) → Buf (Elt Ideal) ℓ) (c : Dev nD)

/-- The layer's input, … -/
def X : Vec Ideal S16384x1024 .f32 := m ((c.tc : Thread nD τ).loc main_arg0)
/-- … the gain, … -/
def G : Vec Ideal S1024 .f32 := m ((c.tc : Thread nD τ).loc main_arg1)
/-- … the first weight … -/
def W : Vec Ideal S1024x5632 .f32 := m ((c.tc : Thread nD τ).loc main_arg2)
/-- … and the second. -/
def D : Vec Ideal S2816x1024 .f32 := m ((c.tc : Thread nD τ).loc main_arg3)

theorem X_host : (V m c main_arg0 : Vec Ideal S16384x1024 .f32) = X m c := V_main_arg0 m c
theorem W_host : (V m c main_v1 : Vec Ideal S1024x5632 .bf16) = W m c := by
  dsimp only [V, hostOps0]
  after_results
  rfl
theorem D_host : (V m c main_v2 : Vec Ideal S2816x1024 .bf16) = D m c := by
  dsimp only [V, hostOps0]
  after_results
  rfl
theorem G_host (k : Fin 1024) : (V m c main_v0 : Vec Ideal S1x1024 .f32) (ix2 0 k) = G m c (ix1 k) := by
  dsimp only [V, hostOps0]
  after_results
  show shapeCast S1x1024 (G m c) shapeCasts_S1024_S1x1024 (ix2 0 k) = _
  pointwise

theorem blk0 (b : Fin 32) (s : Fin 2) (r : Fin 512) (k : Fin 1024) : (iblk m c 0 (pnt b s) (ix2 r k) : EReal) = X m c (ix2 (row b r) k) := by
  rw [← X_host]; unfold row; blk_ext [iblk, idx0]
theorem blk1 (b : Fin 32) (s : Fin 2) (k : Fin 1024) : (iblk m c 1 (pnt b s) (ix2 0 k) : EReal) = G m c (ix1 k) := by
  rw [← G_host]; blk_ext [iblk, idx1]
theorem blk2 (b : Fin 32) (s : Fin 2) (z : Fin 1024) (y : Fin 1408) :
    (iblk m c 2 (pnt b s) (ix2 z y) : EReal) = W m c (ix2 z (gcol (inn s y))) := by
  rw [← W_host]; unfold inn gcol; blk_ext [iblk, idx2]
theorem blk3 (b : Fin 32) (s : Fin 2) (z : Fin 1024) (y : Fin 1408) :
    (iblk m c 3 (pnt b s) (ix2 z y) : EReal) = W m c (ix2 z (ucol (inn s y))) := by
  rw [← W_host]; unfold inn ucol; blk_ext [iblk, idx3]
theorem blk4 (b : Fin 32) (s : Fin 2) (y : Fin 1408) (k : Fin 1024) :
    (iblk m c 4 (pnt b s) (ix2 y k) : EReal) = D m c (ix2 (inn s y) k) := by
  rw [← D_host]; unfold inn; blk_ext [iblk, idx4]

/-- The normed input. -/
def hN (x : Vec Ideal S16384x1024 .f32) (g : Vec Ideal S1024 .f32) (r : Fin 16384) (k : Fin 1024) : EReal := normed (fun z => x (ix2 r z)) (g (ix1 k)) k
/-- The activation. -/
def aN (x : Vec Ideal S16384x1024 .f32) (g : Vec Ideal S1024 .f32) (w : Vec Ideal S1024x5632 .f32) (r : Fin 16384) (y : Fin 2816) : EReal :=
  gate (∑ z, hN x g r z * w (ix2 z (gcol y))) (∑ z, hN x g r z * w (ix2 z (ucol y)))

/-- The normed rows of a block. -/
theorem h_apply (b : Fin 32) (s : Fin 2) (r : Fin 512) (k : Fin 1024) :
    (k0_pay1 (iblk m c 0 (pnt b s)) (iblk m c 1 (pnt b s)) : FVec Ideal S512x1024 .bf16) (ix2 r k) = hN (X m c) (G m c) (row b r) k := by
  rw [pay1_apply, blk1 m c b s k]
  unfold hN
  exact congrArg (normed · _ k) (funext fun z => blk0 m c b s r z)

/-- What a half of the inner axis adds. -/
theorem step_apply (b : Fin 32) (s : Fin 2) (h : Vec Ideal S512x1024 .bf16) (acc : Vec Ideal S512x1024 .f32) (r : Fin 512) (k : Fin 1024)
    (hh : ∀ z, h (ix2 r z) = hN (X m c) (G m c) (row b r) z) :
    (k0_pay3 h (iblk m c 2 (pnt b s)) (iblk m c 3 (pnt b s)) acc (iblk m c 4 (pnt b s)) : FVec Ideal S512x1024 .f32) (ix2 r k)
      = acc (ix2 r k) + ∑ y : Fin 1408, aN (X m c) (G m c) (W m c) (row b r) (inn s y) * D m c (ix2 (inn s y) k) := by
  rw [pay3_apply]
  refine congrArg (acc (ix2 r k) + ·) (Finset.sum_congr rfl fun y _ => ?_)
  unfold aN
  refine congrArg₂ (· * ·) (congrArg₂ gate (Finset.sum_congr rfl fun z _ => ?_) (Finset.sum_congr rfl fun z _ => ?_)) (blk4 m c b s y k)
  · exact congrArg₂ (· * ·) (hh z) (blk2 m c b s z y)
  · exact congrArg₂ (· * ·) (hh z) (blk3 m c b s z y)

/-- The state's fold one point further. -/
theorem fold_last (n : ℕ) (hn : 0 + (n + 1) < cfg0.N) :
    Pipeline.accAt (fun n h => Value.stAt0 m c n h Value.junk0) (Value.stAt0 m c) 0 (n + 1) hn
      = Value.stAt0 m c (n + 1) (by omega) (outsAt0 m c n (by omega)) := by
  rw [← Value.outsAt0_sweep m c (n + 1) (by omega)]
  exact Value.outsAt0_succ m c n (by omega)

/-- What a row block's first point leaves. -/
theorem at_first (b : Fin 32) (n : ℕ) (hn : n < cfg0.N) (h : n = (pnt b 0).val) :
    ∃ acc : St, outsAt0 m c n hn = Value.stAt0 m c (pnt b 0).val (pnt b 0).isLt acc := by
  have key : ∀ (n : ℕ) (hn : n < cfg0.N), ∃ acc : St, outsAt0 m c n hn = Value.stAt0 m c n hn acc := by
    intro n hn
    cases n with
    | zero => exact ⟨_, Value.outsAt0_zero m c hn⟩
    | succ n => exact ⟨_, Value.outsAt0_succ m c n hn⟩
  subst h
  exact key _ _

/-- The kernel's result. -/
theorem result (b : Fin 32) (r : Fin 512) (k : Fin 1024) :
    (Value.G5 m c (ix2 (row b r) k) : EReal)
      = X m c (ix2 (row b r) k)
        + Ideal.ofBits .f32 0x3F000000#32 * ∑ y : Fin 2816, aN (X m c) (G m c) (W m c) (row b r) y * D m c (ix2 y k) := by
  have hq : Value.run5Of (ix2 (row b r) k) = b.val := by
    show 1 * ((512 * b.val + r.val) / 512 - 0) + 1 * (k.val / 1024 - 0) = b.val
    omega
  have hl : Value.loc5Of (ix2 (row b r) k) = ix2 r k := by
    funext a
    apply Fin.ext
    match a with
    | ⟨0, _⟩ => show (512 * b.val + r.val) % 512 = r.val; omega
    | ⟨1, _⟩ => show k.val % 1024 = k.val; omega
  have hN : cfg0.N = 64 := N_0
  have hb := b.isLt
  unfold Value.G5
  rw [dif_pos (by show 2 * Value.run5Of (ix2 (row b r) k) + 1 < cfg0.N; rw [hq, hN]; omega), hl]
  rw [Value.fold0_congr m c _ _ (2 * b.val + 1) (by rw [hN]; omega) (by show 2 * Value.run5Of (ix2 (row b r) k) + 1 = _; rw [hq])]
  rw [fold_last]
  obtain ⟨acc, e⟩ := at_first m c b (2 * b.val) (by rw [hN]; omega) rfl
  rw [e]
  have e2 := second m c (pnt b 1) (Value.stAt0 m c (pnt b 0).val (pnt b 0).isLt acc) (by show (2 * b.val + 1) % 2 = 1; omega)
  refine (congrFun e2 (ix2 r k)).trans ?_
  have eh := first_h m c (pnt b 0) acc (by show (2 * b.val + 0) % 2 = 0; omega)
  have ea := first_acc m c (pnt b 0) acc (by show (2 * b.val + 0) % 2 = 0; omega)
  rw [pay4_apply, blk0 m c b 1 r k]
  refine congrArg (_ + Ideal.ofBits .f32 0x3F000000#32 * ·) ?_
  rw [step_apply m c b 1 _ _ r k (fun z => (congrFun eh (ix2 r z)).trans (h_apply m c b 0 r z))]
  rw [← sum_split (by norm_num) inn (fun _ _ => rfl) fun y => aN (X m c) (G m c) (W m c) (row b r) y * D m c (ix2 y k), Fin.sum_univ_two]
  refine congrArg (· + _) ?_
  refine (congrFun ea (ix2 r k)).trans ?_
  rw [step_apply m c b 0 _ _ r k (fun z => h_apply m c b 0 r z), pay2_apply, zero_add]

open Cert.Reference3Ideal.Read in
theorem ref_h (x : Vec Ideal S16384x1024 .f32) (g : Vec Ideal S1024 .f32) (r : Fin 16384) (k : Fin 1024) :
    (val_main_v12 (F := Ideal) x g (ix2 r k) : EReal) = hN x g r k := by
  rw [val_main_v12_apply, val_main_v9_apply, val_main_v11_apply, val_main_v10_apply, val_main_v8_apply, val_main_v7_apply, val_main_v6_apply, val_main_v5_apply,
    val_main_v4_apply, val_main_v3_apply, val_main_v2_apply, val_main_v1_apply]
  simp only [val_main_v0_apply, val_main_cst_apply, val_main_cst_0_apply, val_main_cst_1_apply]
  have e : ∀ z, idx_main_v1 (idx_main_v2 (idx_main_v8 (ix2 r k))) z = ix2 r z := fun z => eq_ix2 _
  have e' : idx_main_v10 (idx_main_v11 (ix2 r k)) = ix1 k := eq_ix1 _
  simp only [e, e']
  rw [show (FloatOps.ofBits (F := Ideal) .f32 0#32 : EReal) = 0 by simp [FloatOps.ofBits, Ideal.ofBits, Ideal.ieee], zero_add]
  rfl

open Cert.Reference3Ideal.Read in
theorem ref_gu (x : Vec Ideal S16384x1024 .f32) (g : Vec Ideal S1024 .f32) (w : Vec Ideal S1024x5632 .f32) (r : Fin 16384) (y : Fin 5632) :
    (val_main_v13 (F := Ideal) x g w (ix2 r y) : EReal) = ∑ z : Fin 1024, hN x g r z * w (ix2 z y) := by
  rw [val_main_v13_apply]
  refine Finset.sum_congr rfl fun z _ => ?_
  exact congrArg₂ (· * ·) ((congrArg (val_main_v12 (F := Ideal) x g) (eq_ix2 _)).trans (ref_h x g r z)) (congrArg w (eq_ix2 _))

open Cert.Reference3Ideal.Read in
theorem ref_act (x : Vec Ideal S16384x1024 .f32) (g : Vec Ideal S1024 .f32) (w : Vec Ideal S1024x5632 .f32) (r : Fin 16384) (y : Fin 2816) :
    (val_main_v17 (F := Ideal) x g w (ix2 r y) : EReal) = aN x g w r y := by
  have e1 : (val_main_v14 (F := Ideal) x g w (ix2 r y) : EReal) = ∑ z : Fin 1024, hN x g r z * w (ix2 z (gcol y)) := by
    rw [val_main_v14_apply, ← ref_gu]
    refine congrArg (val_main_v13 (F := Ideal) x g w) (funext fun a => Fin.ext ?_)
    match a with
    | ⟨0, _⟩ => show r.val = r.val; rfl
    | ⟨1, _⟩ => show y.val = y.val; rfl
  have e2 : (val_main_v15 (F := Ideal) x g w (ix2 r y) : EReal) = ∑ z : Fin 1024, hN x g r z * w (ix2 z (ucol y)) := by
    rw [val_main_v15_apply, ← ref_gu]
    refine congrArg (val_main_v13 (F := Ideal) x g w) (funext fun a => Fin.ext ?_)
    match a with
    | ⟨0, _⟩ => show r.val = r.val; rfl
    | ⟨1, _⟩ => show 2816 + y.val = 2816 + y.val; rfl
  rw [val_main_v17_apply, val_main_v16_apply, val_main_call0_v5_apply, val_main_call0_v4_apply, val_main_call0_v3_apply, val_main_call0_v2_apply,
    val_main_call0_v1_apply, val_main_call0_v0_apply, val_main_call0_cst_apply, val_main_call0_cst_0_apply, e1, e2]
  rw [show (FloatOps.ofBits (F := Ideal) .f32 1065353216#32 : EReal) = 1 by
    simp [FloatOps.ofBits, Ideal.ofBits, Ideal.ieee, -EReal.coe_mul]; norm_num]
  rfl

open Cert.Reference3Ideal.Read in
/-- The reference's result. -/
theorem ref_apply (x : Vec Ideal S16384x1024 .f32) (g : Vec Ideal S1024 .f32) (w : Vec Ideal S1024x5632 .f32) (d : Vec Ideal S2816x1024 .f32)
    (r : Fin 16384) (k : Fin 1024) :
    (val_main_v21 (F := Ideal) x g w d (ix2 r k) : EReal)
      = x (ix2 r k) + Ideal.ofBits .f32 0x3F000000#32 * ∑ y : Fin 2816, aN x g w r y * d (ix2 y k) := by
  rw [val_main_v21_apply, val_main_v20_apply, val_main_v19_apply, val_main_cst_2_apply, val_main_v18_apply]
  refine congrArg (fun s => x (ix2 r k) + Ideal.ofBits .f32 0x3F000000#32 * s) (Finset.sum_congr rfl fun y _ => ?_)
  exact congrArg₂ (· * ·) ((congrArg (val_main_v17 (F := Ideal) x g w) (eq_ix2 _)).trans (ref_act x g w r y)) (congrArg d (eq_ix2 _))

/-- The kernel's result is the reference's. -/
theorem value : Value.G5 m c = Cert.Reference3Ideal.Read.val_main_v21 (F := Ideal) (X m c) (G m c) (W m c) (D m c) := by
  refine funext fun i => ?_
  rw [show i = ix2 (i 0) (i 1) from eq_ix2 i]
  have hs : ∀ z : Fin 16384, ∃ b r, row b r = z := fun z => ⟨⟨z.val / 512, by omega⟩, ⟨z.val % 512, by omega⟩,
    Fin.ext (show 512 * (z.val / 512) + z.val % 512 = z.val by omega)⟩
  obtain ⟨b, r, hz⟩ := hs (i 0)
  rw [← hz]
  exact (result m c b r (i 1)).trans (ref_apply _ _ _ _ _ _).symm

/-- From equal arguments the kernel and the reference end with equal results. -/
theorem algebraic : Cert.algebraic_Kernel3Ideal_Reference3Ideal := by
  intro m g m' g' _ hargs
  refine ⟨fun c => Value.G5 m c, Value.run m g, ?_⟩
  refine (θ_run _ _ _).mono (fun r h c => ?_) (Cert.Reference3Ideal.Value.run m' g')
  obtain ⟨h0, h1, h2, h3⟩ := hargs c
  obtain ⟨e0, e1⟩ := h c
  refine ⟨?_, e1⟩
  rw [e0, Cert.Reference3Ideal.Read.val_main_v21_eq, h0, h1, h2, h3]
  exact (value m c).symm

end Cert.Ffn.W3

end
-- ==== Proof.FF.GradUp.lean ====
/- The gradient of a half of the feed-forward layer's first weight: the kernel's accumulation over eight blocks of positions is one product,
   as the reference's. -/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.FF.Sum
public import Idealize.ShloMosaic.Lib.Pointwise
public import Idealize.ShloMosaic.Lib.Pipeline.ValueKit.Point

@[expose] public section

set_option maxRecDepth 65536

noncomputable section

open scoped BigOperators

namespace Cert.Ffn.W4

open Cert.Kernel4Ideal Cert.Kernel4Ideal.Gen Idealize.ShloMosaic Idealize.ShloMosaic.TcCoe Idealize.ShloMosaic.Tactic

/-- The block after one more block of positions. -/
theorem pay2_apply (v3 : Vec Ideal S1024x1408 .f32) (v5 : Vec Ideal S2048x1024 .bf16) (v7 : Vec Ideal S2048x1408 .bf16) (x : Fin 1024) (y : Fin 1408) :
    (k0_pay2 v3 v5 v7 : FVec Ideal S1024x1408 .f32) (ix2 x y) = v3 (ix2 x y) + ((1 : ℝ) : EReal) * ∑ r : Fin 2048, v5 (ix2 r x) * v7 (ix2 r y) := by
  unfold k0_pay2
  pointwise
  rw [EReal.coe_one, one_mul]

/-- The block is cleared first. -/
theorem pay1_apply (i : S1024x1408.Idx) : (k0_pay1 : FVec Ideal S1024x1408 .f32) i = 0 := by
  unfold k0_pay1
  pointwise

/-- Block `q` of the result's second axis, positions' block `s`, as a grid point. -/
def pnt (q : Fin 2) (s : Fin 8) : Fin cfg0.N := ⟨8 * q.val + s.val, by have := N_0; show _ < grid0.N; omega⟩

theorem idx0 : ∀ q s, win0_0.index (pnt q s) = ![s.val, 0] := by decide +kernel
theorem idx1 : ∀ q s, win0_1.index (pnt q s) = ![s.val, q.val] := by decide +kernel

/-- Position `r` of block `s`. -/
def pos (s : Fin 8) (r : Fin 2048) : Fin 16384 := ⟨2048 * s.val + r.val, by omega⟩
/-- Entry `y` of block `q` of the result's second axis. -/
def col (q : Fin 2) (y : Fin 1408) : Fin 2816 := ⟨1408 * q.val + y.val, by omega⟩

variable (m : (ℓ : Loc nD τ sig) → Buf (Elt Ideal) ℓ) (c : Dev nD)

/-- The first factor … -/
def A : Vec Ideal S16384x1024 .f32 := m ((c.tc : Thread nD τ).loc main_arg0)
/-- … and the second. -/
def B : Vec Ideal S16384x2816 .f32 := m ((c.tc : Thread nD τ).loc main_arg1)

theorem A_host : (V m c main_v0 : Vec Ideal S16384x1024 .bf16) = A m c := by
  dsimp only [V, hostOps0]
  after_results
  rfl
theorem B_host : (V m c main_v1 : Vec Ideal S16384x2816 .bf16) = B m c := by
  dsimp only [V, hostOps0]
  after_results
  rfl

theorem blk0 (q : Fin 2) (s : Fin 8) (r : Fin 2048) (x : Fin 1024) :
    (iblk m c 0 (pnt q s) (ix2 r x) : EReal) = A m c (ix2 (pos s r) x) := by
  rw [← A_host]; unfold pos; blk_ext [iblk, idx0]
theorem blk1 (q : Fin 2) (s : Fin 8) (r : Fin 2048) (y : Fin 1408) :
    (iblk m c 1 (pnt q s) (ix2 r y) : EReal) = B m c (ix2 (pos s r) (col q y)) := by
  rw [← B_host]; unfold pos col; blk_ext [iblk, idx1]

/-- What a point adds. -/
theorem step_apply (q : Fin 2) (s : Fin 8) (h : 8 * q.val + s.val < cfg0.N) (acc : Vec Ideal S1024x1408 .f32) (x : Fin 1024) (y : Fin 1408) :
    (k0_pay2 acc (iblk m c 0 ⟨8 * q.val + s.val, h⟩) (iblk m c 1 ⟨8 * q.val + s.val, h⟩) : FVec Ideal S1024x1408 .f32) (ix2 x y)
      = acc (ix2 x y) + ((1 : ℝ) : EReal) * ∑ r : Fin 2048, A m c (ix2 (pos s r) x) * B m c (ix2 (pos s r) (col q y)) := by
  rw [pay2_apply]
  refine congrArg (acc (ix2 x y) + ((1 : ℝ) : EReal) * ·) (Finset.sum_congr rfl fun r _ => ?_)
  exact congrArg₂ (· * ·) (blk0 m c q s r x) (blk1 m c q s r y)

/-- The kernel's result: one product over all positions. -/
theorem result (q : Fin 2) (x : Fin 1024) (y : Fin 1408) :
    (Value.G2 m c (ix2 x (col q y)) : EReal) = ((1 : ℝ) : EReal) * ∑ r : Fin 16384, A m c (ix2 r x) * B m c (ix2 r (col q y)) := by
  have hq : Value.run2Of (ix2 x (col q y)) = q.val := by
    show 2 * (x.val / 1024 - 0) + 1 * ((1408 * q.val + y.val) / 1408 - 0) = q.val
    omega
  have hl : Value.loc2Of (ix2 x (col q y)) = ix2 x y := by
    funext a
    apply Fin.ext
    match a with
    | ⟨0, _⟩ => show x.val % 1024 = x.val; omega
    | ⟨1, _⟩ => show (1408 * q.val + y.val) % 1408 = y.val; omega
  have hN : cfg0.N = 16 := N_0
  unfold Value.G2
  rw [dif_pos (by rw [hq, hN]; omega), hl]
  have e : ∀ (b : ℕ) (h : b + 7 < cfg0.N), b = 8 * q.val →
      (Pipeline.accAt (Value.reset2 m c) (Value.step2 m c) b 7 h (ix2 x y) : EReal)
        = ((1 : ℝ) : EReal) * ∑ r : Fin 16384, A m c (ix2 r x) * B m c (ix2 r (col q y)) := by
    rintro b h rfl
    rw [acc_sum (Value.reset2 m c) (Value.step2 m c) (8 * q.val) 7 h (ix2 x y)
      (fun s => ((1 : ℝ) : EReal) * ∑ r : Fin 2048, A m c (ix2 (pos s r) x) * B m c (ix2 (pos s r) (col q y)))
      (fun h => by
        unfold Value.reset2
        refine (step_apply m c q 0 h _ x y).trans ?_
        rw [pay1_apply, zero_add])
      (fun s h acc _ => step_apply m c q s h acc x y)]
    rw [← mul_sum' _ _ (by norm_num)]
    exact congrArg (((1 : ℝ) : EReal) * ·) (sum_split (by norm_num) pos (fun _ _ => rfl) fun r => A m c (ix2 r x) * B m c (ix2 r (col q y)))
  exact e _ _ (by rw [hq])

open Cert.Reference4Ideal.Read in
/-- The reference's result is the same product. -/
theorem ref_apply (a : Vec Ideal S16384x1024 .f32) (b : Vec Ideal S16384x2816 .f32) (x : Fin 1024) (y : Fin 2816) :
    (val_main_v3 (F := Ideal) a b (ix2 x y) : EReal) = ((1 : ℝ) : EReal) * ∑ r : Fin 16384, a (ix2 r x) * b (ix2 r y) := by
  rw [val_main_v3_apply, val_main_v2_apply, EReal.coe_one, one_mul]
  refine Finset.sum_congr rfl fun r _ => ?_
  rw [mul_comm]
  exact congrArg₂ (· * ·) (congrArg a (eq_ix2 _)) (congrArg b (eq_ix2 _))

/-- The kernel's result is the reference's. -/
theorem value : Value.G2 m c = Cert.Reference4Ideal.Read.val_main_v3 (F := Ideal) (A m c) (B m c) := by
  refine funext fun i => ?_
  rw [show i = ix2 (i 0) (i 1) from eq_ix2 i]
  have hs : ∀ z : Fin 2816, ∃ q y, col q y = z := fun z => ⟨⟨z.val / 1408, by omega⟩, ⟨z.val % 1408, by omega⟩,
    Fin.ext (show 1408 * (z.val / 1408) + z.val % 1408 = z.val by omega)⟩
  obtain ⟨q, z, hz⟩ := hs (i 1)
  rw [← hz]
  exact (result m c q (i 0) z).trans (ref_apply _ _ _ _).symm

/-- From equal arguments the kernel and the reference end with equal results. -/
theorem algebraic : Cert.algebraic_Kernel4Ideal_Reference4Ideal := by
  intro m g m' g' _ hargs
  refine ⟨fun c => Value.G2 m c, Value.run m g, ?_⟩
  refine (θ_run _ _ _).mono (fun r h c => ?_) (Cert.Reference4Ideal.Value.run m' g')
  obtain ⟨h0, h1⟩ := hargs c
  obtain ⟨e0, e1⟩ := h c
  refine ⟨?_, e1⟩
  rw [e0, Cert.Reference4Ideal.Read.val_main_v3_eq, h0, h1]
  exact (value m c).symm

end Cert.Ffn.W4

end
-- ==== Proof.FF.GradDown.lean ====
/- The gradient of the feed-forward layer's second weight: the kernel's accumulation over eight blocks of positions is one product,
   as the reference's. -/
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import proofs.«01_k».proof.Proof.FF.Sum
public import Idealize.ShloMosaic.Lib.Pointwise
public import Idealize.ShloMosaic.Lib.Pipeline.ValueKit.Point

@[expose] public section

set_option maxRecDepth 65536

noncomputable section

open scoped BigOperators

namespace Cert.Ffn.W5

open Cert.Kernel5Ideal Cert.Kernel5Ideal.Gen Idealize.ShloMosaic Idealize.ShloMosaic.TcCoe Idealize.ShloMosaic.Tactic

/-- The block after one more block of positions. -/
theorem pay2_apply (v3 : Vec Ideal S1408x1024 .f32) (v5 : Vec Ideal S2048x1408 .bf16) (v7 : Vec Ideal S2048x1024 .f32) (x : Fin 1408) (y : Fin 1024) :
    (k0_pay2 v3 v5 v7 : FVec Ideal S1408x1024 .f32) (ix2 x y) = v3 (ix2 x y) + ((1 / 2 : ℝ) : EReal) * ∑ r : Fin 2048, v5 (ix2 r x) * v7 (ix2 r y) := by
  unfold k0_pay2
  pointwise
  rw [show (Ideal.ofBits .f32 1056964608#32 : EReal) = ((1 / 2 : ℝ) : EReal) by simp [Ideal.ofBits, Ideal.ieee, -EReal.coe_mul]; norm_num]

/-- The block is cleared first. -/
theorem pay1_apply (i : S1408x1024.Idx) : (k0_pay1 : FVec Ideal S1408x1024 .f32) i = 0 := by
  unfold k0_pay1
  pointwise

/-- Block `q` of the result's first axis, positions' block `s`, as a grid point. -/
def pnt (q : Fin 2) (s : Fin 8) : Fin cfg0.N := ⟨8 * q.val + s.val, by have := N_0; show _ < grid0.N; omega⟩

theorem idx0 : ∀ q s, win0_0.index (pnt q s) = ![s.val, q.val] := by decide +kernel
theorem idx1 : ∀ q s, win0_1.index (pnt q s) = ![s.val, 0] := by decide +kernel

/-- Position `r` of block `s`. -/
def pos (s : Fin 8) (r : Fin 2048) : Fin 16384 := ⟨2048 * s.val + r.val, by omega⟩
/-- Entry `y` of block `q` of the result's first axis. -/
def col (q : Fin 2) (y : Fin 1408) : Fin 2816 := ⟨1408 * q.val + y.val, by omega⟩

variable (m : (ℓ : Loc nD τ sig) → Buf (Elt Ideal) ℓ) (c : Dev nD)

/-- The first factor … -/
def A : Vec Ideal S16384x2816 .f32 := m ((c.tc : Thread nD τ).loc main_arg0)
/-- … and the second. -/
def B : Vec Ideal S16384x1024 .f32 := m ((c.tc : Thread nD τ).loc main_arg1)

theorem A_host : (V m c main_v0 : Vec Ideal S16384x2816 .bf16) = A m c := by
  dsimp only [V, hostOps0]
  after_results
  rfl
theorem B_host : (V m c main_arg1 : Vec Ideal S16384x1024 .f32) = B m c := by
  dsimp only [V, hostOps0]
  after_results
  rfl

theorem blk0 (q : Fin 2) (s : Fin 8) (r : Fin 2048) (x : Fin 1408) :
    (iblk m c 0 (pnt q s) (ix2 r x) : EReal) = A m c (ix2 (pos s r) (col q x)) := by
  rw [← A_host]; unfold pos col; blk_ext [iblk, idx0]
theorem blk1 (q : Fin 2) (s : Fin 8) (r : Fin 2048) (y : Fin 1024) :
    (iblk m c 1 (pnt q s) (ix2 r y) : EReal) = B m c (ix2 (pos s r) y) := by
  rw [← B_host]; unfold pos; blk_ext [iblk, idx1]

/-- What a point adds. -/
theorem step_apply (q : Fin 2) (s : Fin 8) (h : 8 * q.val + s.val < cfg0.N) (acc : Vec Ideal S1408x1024 .f32) (x : Fin 1408) (y : Fin 1024) :
    (k0_pay2 acc (iblk m c 0 ⟨8 * q.val + s.val, h⟩) (iblk m c 1 ⟨8 * q.val + s.val, h⟩) : FVec Ideal S1408x1024 .f32) (ix2 x y)
      = acc (ix2 x y) + ((1 / 2 : ℝ) : EReal) * ∑ r : Fin 2048, A m c (ix2 (pos s r) (col q x)) * B m c (ix2 (pos s r) y) := by
  rw [pay2_apply]
  refine congrArg (acc (ix2 x y) + ((1 / 2 : ℝ) : EReal) * ·) (Finset.sum_congr rfl fun r _ => ?_)
  exact congrArg₂ (· * ·) (blk0 m c q s r x) (blk1 m c q s r y)

/-- The kernel's result: one product over all positions. -/
theorem result (q : Fin 2) (x : Fin 1408) (y : Fin 1024) :
    (Value.G2 m c (ix2 (col q x) y) : EReal) = ((1 / 2 : ℝ) : EReal) * ∑ r : Fin 16384, A m c (ix2 r (col q x)) * B m c (ix2 r y) := by
  have hq : Value.run2Of (ix2 (col q x) y) = q.val := by
    show 1 * ((1408 * q.val + x.val) / 1408 - 0) + 1 * (y.val / 1024 - 0) = q.val
    omega
  have hl : Value.loc2Of (ix2 (col q x) y) = ix2 x y := by
    funext a
    apply Fin.ext
    match a with
    | ⟨0, _⟩ => show (1408 * q.val + x.val) % 1408 = x.val; omega
    | ⟨1, _⟩ => show y.val % 1024 = y.val; omega
  have hN : cfg0.N = 16 := N_0
  unfold Value.G2
  rw [dif_pos (by rw [hq, hN]; omega), hl]
  have e : ∀ (b : ℕ) (h : b + 7 < cfg0.N), b = 8 * q.val →
      (Pipeline.accAt (Value.reset2 m c) (Value.step2 m c) b 7 h (ix2 x y) : EReal)
        = ((1 / 2 : ℝ) : EReal) * ∑ r : Fin 16384, A m c (ix2 r (col q x)) * B m c (ix2 r y) := by
    rintro b h rfl
    rw [acc_sum (Value.reset2 m c) (Value.step2 m c) (8 * q.val) 7 h (ix2 x y)
      (fun s => ((1 / 2 : ℝ) : EReal) * ∑ r : Fin 2048, A m c (ix2 (pos s r) (col q x)) * B m c (ix2 (pos s r) y))
      (fun h => by
        unfold Value.reset2
        refine (step_apply m c q 0 h _ x y).trans ?_
        rw [pay1_apply, zero_add])
      (fun s h acc _ => step_apply m c q s h acc x y)]
    rw [← mul_sum' _ _ (by norm_num)]
    exact congrArg (((1 / 2 : ℝ) : EReal) * ·) (sum_split (by norm_num) pos (fun _ _ => rfl) fun r => A m c (ix2 r (col q x)) * B m c (ix2 r y))
  exact e _ _ (by rw [hq])

open Cert.Reference5Ideal.Read in
/-- The reference's result is the same product. -/
theorem ref_apply (a : Vec Ideal S16384x2816 .f32) (b : Vec Ideal S16384x1024 .f32) (x : Fin 2816) (y : Fin 1024) :
    (val_main_v7 (F := Ideal) a b (ix2 x y) : EReal) = ((1 / 2 : ℝ) : EReal) * ∑ r : Fin 16384, a (ix2 r x) * b (ix2 r y) := by
  rw [val_main_v7_apply, val_main_v6_apply, mul_sum' _ _ (by norm_num)]
  refine Finset.sum_congr rfl fun r _ => ?_
  rw [val_main_v5_apply, val_main_v4_apply, val_main_cst_1_apply,
    show (FloatOps.ofBits (F := Ideal) .f32 0x3F000000#32 : EReal) = ((1 / 2 : ℝ) : EReal) by simp [FloatOps.ofBits, Ideal.ofBits, Ideal.ieee, -EReal.coe_mul]; norm_num]
  refine (mul_assoc _ _ _).trans (congrArg (((1 / 2 : ℝ) : EReal) * ·) ?_)
  rw [mul_comm]
  exact congrArg₂ (· * ·) (congrArg a (eq_ix2 _)) (congrArg b (eq_ix2 _))

/-- The kernel's result is the reference's. -/
theorem value : Value.G2 m c = Cert.Reference5Ideal.Read.val_main_v7 (F := Ideal) (A m c) (B m c) := by
  refine funext fun i => ?_
  rw [show i = ix2 (i 0) (i 1) from eq_ix2 i]
  have hs : ∀ z : Fin 2816, ∃ q y, col q y = z := fun z => ⟨⟨z.val / 1408, by omega⟩, ⟨z.val % 1408, by omega⟩,
    Fin.ext (show 1408 * (z.val / 1408) + z.val % 1408 = z.val by omega)⟩
  obtain ⟨q, z, hz⟩ := hs (i 0)
  rw [← hz]
  exact (result m c q z (i 1)).trans (ref_apply _ _ _ _).symm

/-- From equal arguments the kernel and the reference end with equal results. -/
theorem algebraic : Cert.algebraic_Kernel5Ideal_Reference5Ideal := by
  intro m g m' g' _ hargs
  refine ⟨fun c => Value.G2 m c, Value.run m g, ?_⟩
  refine (θ_run _ _ _).mono (fun r h c => ?_) (Cert.Reference5Ideal.Value.run m' g')
  obtain ⟨h0, h1⟩ := hargs c
  obtain ⟨e0, e1⟩ := h c
  refine ⟨?_, e1⟩
  rw [e0, Cert.Reference5Ideal.Read.val_main_v7_eq, h0, h1]
  exact (value m c).symm

end Cert.Ffn.W5

end
-- ==== Proof.FF.Act.Runs.lean ====
/-
The first backward call of a feed-forward layer: what the two cases of its body (first and second
half of the columns of a row block) are stated over. The buffers when the grid starts, the blocks the
input windows hold, the body's branch condition by the point, and the staging buffers by name.
-/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Act

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of core `c` holds when the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the grid: the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- A run that ends as the pipeline says leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats 0 c).arrAt_in 5 rfl _).trans ((hA c 5).trans (V_main_arg4 m c)))⟩) h

/-- The body's condition: this is the first half of the columns. -/
abbrev cond0_0 (i : grid0.Coords) : Prop := (Scalar.cmpi .ne (Scalar.extui (Scalar.cmpi .eq (BitVec.ofNat 32 (i 1).val) 0#32)) 0#32) = 1#1

/-- It holds at the even points. -/
theorem hcond0_0 : ∀ t : Fin cfg0.N, cond0_0 (grid0.coords t) ↔ t.val % 2 = 0 :=
  (fun t => by
    have ht : t.val < 64 := Nat.lt_of_lt_of_eq t.isLt N_0
    have e0 : (grid0.coords t 0).val = t.val / 2 % 32 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

abbrev VO0_6 : View sig .tc .vmem S512x1024 .bf16 := (Memref.whole cc0_stg6_0 : Memref sig .tc .vmem S512x1024 .bf16).view

abbrev VO0_7 : View sig .tc .vmem S512x1408 .bf16 := (Memref.whole cc0_stg7_0 : Memref sig .tc .vmem S512x1408 .bf16).view

abbrev VO0_8 : View sig .tc .vmem S512x1408 .bf16 := (Memref.whole cc0_stg8_0 : Memref sig .tc .vmem S512x1408 .bf16).view

abbrev VO0_9 : View sig .tc .vmem S512x1408 .bf16 := (Memref.whole cc0_stg9_0 : Memref sig .tc .vmem S512x1408 .bf16).view

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1408 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1408 .bf16 := win0_9.stage (cfg0.slots t 9)
abbrev hs0_9 (t : Fin cfg0.N) : (ms0_9 t).IsWhole := hstage0_9 ((cfg0.slots t 9).cast nbuf0_9)

abbrev scM0_0 : Memref sig .tc .vmem S512x1024 .bf16 := Memref.whole cc0_scratch0

abbrev VS0_0 : View sig .tc .vmem S512x1024 .bf16 := scM0_0.view

/-- What the body owns beside its windows: the scratch buffer and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel6Ideal.Act

end
-- ==== Proof.FF.Act.RunA.lean ====
/-
The body at an even point (the first half of the columns of a row block): it stores the normalised
rows and the scaled output gradient, then computes the three results of this half.
-/
module

public import proofs.«01_k».proof.Proof.FF.Act.Runs

@[expose] public section

set_option maxRecDepth 16384

noncomputable section

namespace Cert.Kernel6Ideal.Act

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body stores at an even point, with the proof that it runs to them. -/
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) :
    Σ' (L6 : List (View.Piece (Elt F) S512x1024 .bf16)), Σ' (L7 : List (View.Piece (Elt F) S512x1408 .bf16)), Σ' (L8 : List (View.Piece (Elt F) S512x1408 .bf16)), Σ' (L9 : List (View.Piece (Elt F) S512x1408 .bf16)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_ffn_bwd_act_eq_skeleton]; unfold cc0_ffn_bwd_act_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.Kernel6Ideal.Act

end
-- ==== Proof.FF.Act.RunB.lean ====
/-
The body at an odd point (the second half of the columns of a row block): it reads the normalised
rows its first half left in the output's buffer and the scaled output gradient in the scratch buffer,
stores into neither, and computes the three results of this half.
-/
module

public import proofs.«01_k».proof.Proof.FF.Act.RunA

@[expose] public section

set_option maxRecDepth 16384

noncomputable section

namespace Cert.Kernel6Ideal.Act

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body stores at an odd point, with the proof that it runs to them; the buffer of the normalised rows is handed back as it was found. -/
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) :
    Σ' (L7 : List (View.Piece (Elt F) S512x1408 .bf16)), Σ' (L8 : List (View.Piece (Elt F) S512x1408 .bf16)), Σ' (L9 : List (View.Piece (Elt F) S512x1408 .bf16)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_ffn_bwd_act_eq_skeleton]; unfold cc0_ffn_bwd_act_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; isplitr; · ipureintro; exact harg12.read_unread _
    iexact HS0

end Cert.Kernel6Ideal.Act

end
-- ==== Proof.FF.Act.Frame.lean ====
/-
The run of the first backward call of a feed-forward layer. Two points of the grid visit a row block,
one per half of its columns. The first stores the normalised rows into their output's buffer; the
second only reads them there, and the block is written back after it. So the buffer is stated to hold
after the second point what it held after the first (`out0_B_6`, `before0_6_B`).
-/
module

public import proofs.«01_k».proof.Proof.FF.Act.RunB
public import Idealize.ShloMosaic.Lib.Claim

@[expose] public section

set_option maxRecDepth 16384

noncomputable section

namespace Cert.Kernel6Ideal.Act

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S512x1024.size (by sl_kernel_rfl) y

def out0_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

theorem cover0_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (y : S512x1408.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S512x1408.size (by sl_kernel_rfl) y

def out0_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) : Vec F S512x1408 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

theorem cover0_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (y : S512x1408.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 S512x1408.size (by sl_kernel_rfl) y

def out0_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) : Vec F S512x1408 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1)

theorem cover0_A_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (y : S512x1408.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1 S512x1408.size (by sl_kernel_rfl) y

def out0_A_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) : Vec F S512x1408 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1)

theorem scover0_A_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1 S512x1024.size (by sl_kernel_rfl) y

def sout0_A_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) : Vec F S512x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1)

/-- At an odd point the buffer of the normalised rows stays as it was found. -/
def out0_B_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) : Vec F S512x1024 .bf16 := xo6

theorem cover0_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) (y : S512x1408.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).1 S512x1408.size (by sl_kernel_rfl) y

def out0_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) : Vec F S512x1408 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).1)

theorem cover0_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) (y : S512x1408.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.1 S512x1408.size (by sl_kernel_rfl) y

def out0_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) : Vec F S512x1408 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.1)

theorem cover0_B_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) (y : S512x1408.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.2.1 S512x1408.size (by sl_kernel_rfl) y

def out0_B_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) : Vec F S512x1408 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo6 xs0).2.2.1)

def sout0_B_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (hc0 : ¬cond0_0 i)
    (x0 : Vec F S512x1024 .f32) (x1 : Vec F S1x1024 .f32) (x2 : Vec F S1024x1408 .bf16) (x3 : Vec F S1024x1408 .bf16) (x4 : Vec F S1024x1408 .bf16) (x5 : Vec F S512x1024 .f32) (xo6 : Vec F S512x1024 .bf16) (xs0 : Vec F S512x1024 .bf16) : Vec F S512x1024 .bf16 := xs0

/-- What the four outputs' buffers and the scratch buffer hold after point `n`. -/
def outsAt0 (c : Dev nD) : (n : ℕ) → n < cfg0.N → Vec F S512x1024 .bf16 × Vec F S512x1408 .bf16 × Vec F S512x1408 .bf16 × Vec F S512x1408 .bf16 × Vec F S512x1024 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 2 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2.2.2)

/-- The same at an even point, -/
theorem outsAt0_A (c : Dev nD) (t : Fin cfg0.N) (h0 : t.val % 2 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- and at an odd one. -/
theorem outsAt0_B (c : Dev nD) (t : Fin cfg0.N) (h0 : ¬t.val % 2 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- What the body owns beside its windows before point `n`: after the first point the scratch buffer holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At an even point the body stores the normalised rows. -/
theorem idle0_6 (t : Fin cfg0.N) (h0 : t.val % 2 = 0) : cfg0.idle 6 (cfg0.grid.coords t) = false := by
  have h : k0_cond1 (grid0.coords t) = 1#1 := (hcond0_0 t).mpr h0
  show (!(k0_cond1 (grid0.coords t) == 1#1)) = false
  rw [h]; rfl

/-- At an odd point their buffer holds what the point before left: it is not written back in between. -/
theorem before0_6_B (c : Dev nD) (t : Fin cfg0.N) (h0 : ¬t.val % 2 = 0) (d) :
    (dats m 0 c).before 6 t d = (outsAt0 m c (t.val - 1) (Nat.lt_of_le_of_lt (Nat.sub_le _ _) t.isLt)).1 := by
  have hN : t.val < 64 := lt_of_lt_of_eq t.isLt (show cfg0.N = 64 from N_0)
  have hfl : (cfg0.win 6).flush ⟨t.val - 1, Nat.lt_of_le_of_lt (Nat.sub_le _ _) t.isLt⟩ = false :=
    Bool.eq_false_iff.mpr fun h => by have := (flush0_6 _).mp h; dsimp only at this; omega
  rw [Dat.before_of_pos _ 6 t (by omega) ((cfg0.win 6).fetch_out rfl t) d, hfl, if_neg Bool.false_ne_true]
  unfold Dat.left
  rw [idle0_6 ⟨t.val - 1, Nat.lt_of_le_of_lt (Nat.sub_le _ _) t.isLt⟩ (by dsimp only; omega)]
  dsimp only
  unfold Dat.kept
  rw [Pipeline.fill_of_clip_none 6 _ (fun _ => rfl) d ((dats m 0 c).after 6 _), Window.fill_cut]
  dsimp only [dats]

/-- What the body must leave in their buffer: at an even point what it stored; at an odd one, where the block is written back, the same rows. -/
theorem leaves0_6 (c : Dev nD) (t : Fin cfg0.N) :
    (dats m 0 c).leavesExact 6 t = owns (c : Thread nD τ) (ms0_6 t) fullShare ((dats m 0 c).after 6 t) := by
  by_cases h0 : t.val % 2 = 0
  · unfold Dat.leavesExact; rw [idle0_6 t h0]
  · have hf : (cfg0.win 6).flush t = true := (flush0_6 t).mpr (by omega)
    unfold Dat.leavesExact; rw [hf]
    cases cfg0.idle 6 (cfg0.grid.coords t) <;> rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body is correct at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 64 := lt_of_lt_of_eq t.isLt (show cfg0.N = 64 from N_0)
  by_cases h0 : t.val % 2 = 0
  · by_cases hz : t.val = 0
    · rw [PhiS_castSucc m c t, PhiS_zero m c _ _ hz, PhiA0_eq]
      rw [outsAt0_A m c t h0]
      unfold out0_A_6 out0_A_7 out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
    · rw [PhiS_castSucc m c t, PhiS_pos m c _ _ hz]
      rw [outsAt0_A m c t h0]
      unfold out0_A_6 out0_A_7 out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexists _; iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      simp only [before0_6_B m c t h0]
      unfold out0_B_6 out0_B_7 out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      iintro ⟨H0, H1, H2, H3, H4, H5, H6, ⟨%e7, H7⟩, ⟨%e8, H8⟩, ⟨%e9, H9⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The same, as the pipeline asks for it. -/
theorem body_obligation (c : Dev nD) : BodyObligation (dats (F := F) m 0 c) (defs₀ (F := F)) Variants.none () Set.univ := fun t => by
  rw [bigSep_W0, bigSep_W0, defs₀_row]
  have hl := leaves0_6 m c t
  unfold Dat.leavesExact at hl
  rw [hl]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The same, with every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run ends with every array as the pipeline computes it from `dats`. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends, leaves its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel6Ideal.Act

end
-- ==== Proof.FF.Act.Value.lean ====
/-
The four result arrays of the first backward call of a feed-forward layer after the run (`G6` … `G9`),
each read off what the grid's points leave in its buffer.
-/
module

public import proofs.«01_k».proof.Proof.FF.Act.Frame
public import Idealize.ShloMosaic.Lib.Pipeline.Value

@[expose] public section

noncomputable section

namespace Cert.Kernel6Ideal.Act

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem flushed6_A (c : Dev nD) (t : Fin cfg0.N) (h0 : t.val % 2 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

theorem flushed6_B (c : Dev nD) (t : Fin cfg0.N) (h0 : ¬t.val % 2 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2) := by
  simp only [flushed6, outsAt0_B m c t h0]

theorem entry6 (c : Dev nD) (i : S16384x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

theorem flushed7_A (c : Dev nD) (t : Fin cfg0.N) (h0 : t.val % 2 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed7, outsAt0_A m c t h0]

theorem flushed7_B (c : Dev nD) (t : Fin cfg0.N) (h0 : ¬t.val % 2 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2) := by
  simp only [flushed7, outsAt0_B m c t h0]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S16384x2816.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

theorem flushed8_A (c : Dev nD) (t : Fin cfg0.N) (h0 : t.val % 2 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed8, outsAt0_A m c t h0]

theorem flushed8_B (c : Dev nD) (t : Fin cfg0.N) (h0 : ¬t.val % 2 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2) := by
  simp only [flushed8, outsAt0_B m c t h0]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem entry8 (c : Dev nD) (i : S16384x2816.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

theorem flushed9_A (c : Dev nD) (t : Fin cfg0.N) (h0 : t.val % 2 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed9, outsAt0_A m c t h0]

theorem flushed9_B (c : Dev nD) (t : Fin cfg0.N) (h0 : ¬t.val % 2 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2.2.2) := by
  simp only [flushed9, outsAt0_B m c t h0]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem entry9 (c : Dev nD) (i : S16384x2816.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

theorem post6 (r : PUnit × MemSt nD τ sig (Elt F)) (h : Pipeline.FramePost cfgs (dats m) 0 (V m) r) (c : Dev nD) :
    r.2.mem ((c : Thread nD τ).loc main_v4_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v4_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v4_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v4_3) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

theorem run_blocks : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

def scAt0_0 (c : Dev nD) (n : ℕ) (hb : n < cfg0.N) (acc : Vec F S512x1024 .bf16) : Vec F S512x1024 .bf16 :=
  if h0 : n % 2 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).1 acc

theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (2 * (t.val / 2)) (t.val % 2)
      (by have h1 := t.isLt; have h2 := Nat.div_add_mod t.val 2; omega) :=
  Pipeline.eq_accAt_of_mod (fun n h => (outsAt0 m c n h).2.2.2.2) 2 (fun n h => scAt0_0 m c n h (VS0_0.read (Elt F) VS0_0.junk)) (scAt0_0 m c)
    (fun n h hn => by
      have hN := lt_of_lt_of_eq h (show cfg0.N = 64 from N_0)
      by_cases h0 : n % 2 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 2 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

def junk0 : Vec F S512x1024 .bf16 × Vec F S512x1408 .bf16 × Vec F S512x1408 .bf16 × Vec F S512x1408 .bf16 × Vec F S512x1024 .bf16 :=
  ((VO0_6.read (Elt F) VO0_6.junk, VO0_7.read (Elt F) VO0_7.junk, VO0_8.read (Elt F) VO0_8.junk, VO0_9.read (Elt F) VO0_9.junk, VS0_0.read (Elt F) VS0_0.junk) : Vec F S512x1024 .bf16 × Vec F S512x1408 .bf16 × Vec F S512x1408 .bf16 × Vec F S512x1408 .bf16 × Vec F S512x1024 .bf16)

def stAt0 (c : Dev nD) (n : ℕ) (hb : n < cfg0.N) (acc : Vec F S512x1024 .bf16 × Vec F S512x1408 .bf16 × Vec F S512x1408 .bf16 × Vec F S512x1408 .bf16 × Vec F S512x1024 .bf16) : Vec F S512x1024 .bf16 × Vec F S512x1408 .bf16 × Vec F S512x1408 .bf16 × Vec F S512x1408 .bf16 × Vec F S512x1024 .bf16 :=
  if h0 : n % 2 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.1 acc.2.2.2.2)

theorem stAt0_A (c : Dev nD) (t : Fin cfg0.N) (acc : Vec F S512x1024 .bf16 × Vec F S512x1408 .bf16 × Vec F S512x1408 .bf16 × Vec F S512x1408 .bf16 × Vec F S512x1024 .bf16) (h0 : t.val % 2 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) :=
  (dif_pos h0).trans rfl

theorem stAt0_B (c : Dev nD) (t : Fin cfg0.N) (acc : Vec F S512x1024 .bf16 × Vec F S512x1408 .bf16 × Vec F S512x1408 .bf16 × Vec F S512x1408 .bf16 × Vec F S512x1024 .bf16) (h0 : ¬t.val % 2 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) acc.1 acc.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) acc.1 acc.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) acc.1 acc.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) acc.1 acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) acc.1 acc.2.2.2.2) :=
  (dif_neg h0).trans rfl

theorem outsAt0_succ (c : Dev nD) (n : ℕ) (hn : n + 1 < cfg0.N) :
    outsAt0 m c (n + 1) hn = stAt0 m c (n + 1) hn (outsAt0 m c n (Nat.lt_of_succ_lt hn)) := rfl

theorem outsAt0_zero (c : Dev nD) (hn : 0 < cfg0.N) : outsAt0 m c 0 hn = stAt0 m c 0 hn junk0 := by
  rw [stAt0_A m c ⟨0, hn⟩ _ (Nat.zero_mod _)]
  rfl

theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

abbrev run6Of (i : S16384x1024.Idx) : ℕ := 1 * ((i 0).val / 512 - 0) + 1 * ((i 1).val / 1024 - 0)
set_option backward.proofsInPublic true in
abbrev loc6Of (i : S16384x1024.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt6Of (i : S16384x1024.Idx) : ℕ := 2 * run6Of i + 1

/-- The normalised rows after the run, -/
def G6 (c : Dev nD) : Buf (Elt F) ((c : Thread nD τ).loc main_v4_0) := fun i =>
  if h : pt6Of i < cfg0.N then
    (Pipeline.accAt (fun n h => stAt0 m c n h junk0) (stAt0 m c) 0 (pt6Of i) (by omega)).1 (loc6Of i)
  else V m c (Pipeline.arrRef spec0 6) i

theorem idx_facts6 : ∀ t : Fin cfg0.N, 0 ≤ win0_6.index t (0 : Fin 2) ∧ win0_6.index t (0 : Fin 2) ≤ 31
    ∧ 0 ≤ win0_6.index t (1 : Fin 2) ∧ win0_6.index t (1 : Fin 2) ≤ 0
    ∧ 1 * (win0_6.index t (0 : Fin 2) - 0) + 1 * (win0_6.index t (1 : Fin 2) - 0) = t.val / 2 :=
  (by decide +kernel : ∀ t : Fin grid0.N, _)

abbrev onto6Pt (q0 : Fin 32) (q1 : Fin 1) : Fin grid0.N :=
  ⟨2 * (1 * q0.val + 1 * q1.val) + 1, lt_of_lt_of_eq (by omega) N_0.symm⟩
theorem idx_onto6 : ∀ (q0 : Fin 32) (q1 : Fin 1), ∃ t : Fin cfg0.N, (cfg0.win 6).flush t = true ∧ win0_6.index t = ![q0.val + 0, q1.val + 0] :=
  fun q0 q1 => ⟨onto6Pt q0 q1, (by decide +kernel : ∀ (q0 : Fin 32) (q1 : Fin 1), win0_6.flush (onto6Pt q0 q1) = true ∧ win0_6.index (onto6Pt q0 q1) = ![q0.val + 0, q1.val + 0]) q0 q1⟩

theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 2 = 1 := (flush0_6 t).mp hf
  obtain ⟨e0, e1, e2⟩ := idx_facts6 t
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have hr : run6Of (((cfg0.win 6).blk t).view.emb y) = t.val / 2 := by
    show 1 * ((((cfg0.win 6).blk t).view.emb y 0).val / 512 - 0) + 1 * ((((cfg0.win 6).blk t).view.emb y 1).val / 1024 - 0) = _
    rw [hb0, hb1]
    rw [show (win0_6.index t (0 : Fin 2) * 512 + 1 * (y 0).val) / 512 = win0_6.index t (0 : Fin 2) from by omega]; rw [show (win0_6.index t (1 : Fin 2) * 1024 + 1 * (y 1).val) / 1024 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 1024 = (y 1).val; rw [hb1]; omega
  have hp : pt6Of (((cfg0.win 6).blk t).view.emb y) = t.val := by
    show 2 * run6Of (((cfg0.win 6).blk t).view.emb y) + 1 = _
    rw [hr]; have := Nat.div_add_mod t.val 2; omega
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_0).slice (win0_6.rect t)).set ↔ _
  rw [View.set_slice_whole, Rect.mem_set_unit]
  exact Iff.rfl

theorem covered_iff6 (i : S16384x1024.Idx) :
    (∃ t : Fin cfg0.N, (cfg0.win 6).flush t = true ∧ i ∈ ((cfg0.win 6).blk t).view.set) ↔ 0 ≤ (i 0).val ∧ (i 0).val < 16384 ∧ 0 ≤ (i 1).val ∧ (i 1).val < 1024 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 1024 ≤ (i 1).val ∧ (i 1).val < win0_6.index t (1 : Fin 2) * 1024 + 1024 := hi 1
    obtain ⟨e0, e1, e2⟩ := idx_facts6 t
    omega
  · intro h
    have hi0 : (i 0).val < 16384 := (i 0).isLt
    have hi1 : (i 1).val < 1024 := (i 1).isLt
    obtain ⟨t, hft, ht⟩ := idx_onto6 ⟨(i 0).val / 512 - 0, by omega⟩ ⟨(i 1).val / 1024 - 0, by omega⟩
    have q0 : win0_6.index t (0 : Fin 2) = (i 0).val / 512 - 0 + 0 := congrFun ht 0
    have q1 : win0_6.index t (1 : Fin 2) = (i 1).val / 1024 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 16384 := (i 0).isLt; have h1 : (i 1).val < 1024 := (i 1).isLt; omega))

abbrev run7Of (i : S16384x2816.Idx) : ℕ := 2 * ((i 0).val / 512 - 0) + 1 * ((i 1).val / 1408 - 0)
set_option backward.proofsInPublic true in
abbrev loc7Of (i : S16384x2816.Idx) : S512x1408.Idx := fun a => match a with
  | ⟨0, _⟩ => ⟨(i 0).val % 512, Nat.mod_lt _ (by decide)⟩
  | ⟨1, _⟩ => ⟨(i 1).val % 1408, Nat.mod_lt _ (by decide)⟩
abbrev pt7Of (i : S16384x2816.Idx) : ℕ := run7Of i

/-- the gated products, -/
def G7 (c : Dev nD) : Buf (Elt F) ((c : Thread nD τ).loc main_v4_1) := fun i =>
  if h : pt7Of i < cfg0.N then
    (Pipeline.accAt (fun n h => stAt0 m c n h junk0) (stAt0 m c) 0 (pt7Of i) (by omega)).2.1 (loc7Of i)
  else V m c (Pipeline.arrRef spec0 7) i

theorem idx_facts7 : ∀ t : Fin cfg0.N, 0 ≤ win0_7.index t (0 : Fin 2) ∧ win0_7.index t (0 : Fin 2) ≤ 31
    ∧ 0 ≤ win0_7.index t (1 : Fin 2) ∧ win0_7.index t (1 : Fin 2) ≤ 1
    ∧ 2 * (win0_7.index t (0 : Fin 2) - 0) + 1 * (win0_7.index t (1 : Fin 2) - 0) = t.val :=
  (by decide +kernel : ∀ t : Fin grid0.N, _)

abbrev onto7Pt (q0 : Fin 32) (q1 : Fin 2) : Fin grid0.N :=
  ⟨2 * q0.val + 1 * q1.val, lt_of_lt_of_eq (by omega) N_0.symm⟩
theorem idx_onto7 : ∀ (q0 : Fin 32) (q1 : Fin 2), ∃ t : Fin cfg0.N, (cfg0.win 7).flush t = true ∧ win0_7.index t = ![q0.val + 0, q1.val + 0] :=
  fun q0 q1 => ⟨onto7Pt q0 q1, (by decide +kernel : ∀ (q0 : Fin 32) (q1 : Fin 2), win0_7.flush (onto7Pt q0 q1) = true ∧ win0_7.index (onto7Pt q0 q1) = ![q0.val + 0, q1.val + 0]) q0 q1⟩

theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 512 := (y 0).isLt
  have hy1 : (y 1).val < 1408 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1408 + 1 * (y 1).val := rfl
  have hr : run7Of (((cfg0.win 7).blk t).view.emb y) = t.val := by
    show 2 * ((((cfg0.win 7).blk t).view.emb y 0).val / 512 - 0) + 1 * ((((cfg0.win 7).blk t).view.emb y 1).val / 1408 - 0) = _
    rw [hb0, hb1]
    rw [show (win0_7.index t (0 : Fin 2) * 512 + 1 * (y 0).val) / 512 = win0_7.index t (0 : Fin 2) from by omega]; rw [show (win0_7.index t (1 : Fin 2) * 1408 + 1 * (y 1).val) / 1408 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val % 1408 = (y 1).val; rw [hb1]; omega
  have hp : pt7Of (((cfg0.win 7).blk t).view.emb y) = t.val := by
    exact hr
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

theorem mem_blk7 (t : Fin cfg0.N) (i : S16384x2816.Idx) :
    i ∈ ((cfg0.win 7).blk t).view.set ↔ ∀ a : Fin 2, win0_7.index t a * S512x1408.size a ≤ (i a).val ∧ (i a).val < win0_7.index t a * S512x1408.size a + S512x1408.size a := by
  show i ∈ ((View.whole main_v4_1).slice (win0_7.rect t)).set ↔ _
  rw [View.set_slice_whole, Rect.mem_set_unit]
  exact Iff.rfl

theorem covered_iff7 (i : S16384x2816.Idx) :
    (∃ t : Fin cfg0.N, (cfg0.win 7).flush t = true ∧ i ∈ ((cfg0.win 7).blk t).view.set) ↔ 0 ≤ (i 0).val ∧ (i 0).val < 16384 ∧ 0 ≤ (i 1).val ∧ (i 1).val < 2816 := by
  constructor
  · rintro ⟨t, -, hi⟩
    rw [mem_blk7] at hi
    have b0 : win0_7.index t (0 : Fin 2) * 512 ≤ (i 0).val ∧ (i 0).val < win0_7.index t (0 : Fin 2) * 512 + 512 := hi 0
    have b1 : win0_7.index t (1 : Fin 2) * 1408 ≤ (i 1).val ∧ (i 1).val < win0_7.index t (1 : Fin 2) * 1408 + 1408 := hi 1
    obtain ⟨e0, e1, e2⟩ := idx_facts7 t
    omega
  · intro h
    have hi0 : (i 0).val < 16384 := (i 0).isLt
    have hi1 : (i 1).val < 2816 := (i 1).isLt
    obtain ⟨t, hft, ht⟩ := idx_onto7 ⟨(i 0).val / 512 - 0, by omega⟩ ⟨(i 1).val / 1408 - 0, by omega⟩
    have q0 : win0_7.index t (0 : Fin 2) = (i 0).val / 512 - 0 + 0 := congrFun ht 0
    have q1 : win0_7.index t (1 : Fin 2) = (i 1).val / 1408 - 0 + 0 := congrFun ht 1
    refine ⟨t, hft, ?_⟩
    rw [mem_blk7]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 1408 ≤ (i 1).val ∧ (i 1).val < win0_7.index t (1 : Fin 2) * 1408 + 1408; omega

theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 16384 := (i 0).isLt; have h1 : (i 1).val < 2816 := (i 1).isLt; omega))

abbrev run8Of (i : S16384x2816.Idx) : ℕ := 2 * ((i 0).val / 512 - 0) + 1 * ((i 1).val / 1408 - 0)
set_option backward.proofsInPublic true in
abbrev loc8Of (i : S16384x2816.Idx) : S512x1408.Idx := fun a => match a with
  | ⟨0, _⟩ => ⟨(i 0).val % 512, Nat.mod_lt _ (by decide)⟩
  | ⟨1, _⟩ => ⟨(i 1).val % 1408, Nat.mod_lt _ (by decide)⟩
abbrev pt8Of (i : S16384x2816.Idx) : ℕ := run8Of i

/-- the gradient at the gate's argument -/
def G8 (c : Dev nD) : Buf (Elt F) ((c : Thread nD τ).loc main_v4_2) := fun i =>
  if h : pt8Of i < cfg0.N then
    (Pipeline.accAt (fun n h => stAt0 m c n h junk0) (stAt0 m c) 0 (pt8Of i) (by omega)).2.2.1 (loc8Of i)
  else V m c (Pipeline.arrRef spec0 8) i

theorem idx_facts8 : ∀ t : Fin cfg0.N, 0 ≤ win0_8.index t (0 : Fin 2) ∧ win0_8.index t (0 : Fin 2) ≤ 31
    ∧ 0 ≤ win0_8.index t (1 : Fin 2) ∧ win0_8.index t (1 : Fin 2) ≤ 1
    ∧ 2 * (win0_8.index t (0 : Fin 2) - 0) + 1 * (win0_8.index t (1 : Fin 2) - 0) = t.val :=
  (by decide +kernel : ∀ t : Fin grid0.N, _)

abbrev onto8Pt (q0 : Fin 32) (q1 : Fin 2) : Fin grid0.N :=
  ⟨2 * q0.val + 1 * q1.val, lt_of_lt_of_eq (by omega) N_0.symm⟩
theorem idx_onto8 : ∀ (q0 : Fin 32) (q1 : Fin 2), ∃ t : Fin cfg0.N, (cfg0.win 8).flush t = true ∧ win0_8.index t = ![q0.val + 0, q1.val + 0] :=
  fun q0 q1 => ⟨onto8Pt q0 q1, (by decide +kernel : ∀ (q0 : Fin 32) (q1 : Fin 2), win0_8.flush (onto8Pt q0 q1) = true ∧ win0_8.index (onto8Pt q0 q1) = ![q0.val + 0, q1.val + 0]) q0 q1⟩

theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 512 := (y 0).isLt
  have hy1 : (y 1).val < 1408 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 1408 + 1 * (y 1).val := rfl
  have hr : run8Of (((cfg0.win 8).blk t).view.emb y) = t.val := by
    show 2 * ((((cfg0.win 8).blk t).view.emb y 0).val / 512 - 0) + 1 * ((((cfg0.win 8).blk t).view.emb y 1).val / 1408 - 0) = _
    rw [hb0, hb1]
    rw [show (win0_8.index t (0 : Fin 2) * 512 + 1 * (y 0).val) / 512 = win0_8.index t (0 : Fin 2) from by omega]; rw [show (win0_8.index t (1 : Fin 2) * 1408 + 1 * (y 1).val) / 1408 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val % 1408 = (y 1).val; rw [hb1]; omega
  have hp : pt8Of (((cfg0.win 8).blk t).view.emb y) = t.val := by
    exact hr
  show (Pipeline.accAt (fun n h => stAt0 m c n h junk0) (stAt0 m c) 0 t.val _).2.2.1 ((cfg0.win 8).xinj (grid0.coords t) y) = G8 m c (((cfg0.win 8).blk t).view.emb y)
  unfold G8
  rw [dif_pos (by rw [hp]; exact t.isLt), hl, fold0_congr m c _ _ _ _ hp.symm]

theorem mem_blk8 (t : Fin cfg0.N) (i : S16384x2816.Idx) :
    i ∈ ((cfg0.win 8).blk t).view.set ↔ ∀ a : Fin 2, win0_8.index t a * S512x1408.size a ≤ (i a).val ∧ (i a).val < win0_8.index t a * S512x1408.size a + S512x1408.size a := by
  show i ∈ ((View.whole main_v4_2).slice (win0_8.rect t)).set ↔ _
  rw [View.set_slice_whole, Rect.mem_set_unit]
  exact Iff.rfl

theorem covered_iff8 (i : S16384x2816.Idx) :
    (∃ t : Fin cfg0.N, (cfg0.win 8).flush t = true ∧ i ∈ ((cfg0.win 8).blk t).view.set) ↔ 0 ≤ (i 0).val ∧ (i 0).val < 16384 ∧ 0 ≤ (i 1).val ∧ (i 1).val < 2816 := by
  constructor
  · rintro ⟨t, -, hi⟩
    rw [mem_blk8] at hi
    have b0 : win0_8.index t (0 : Fin 2) * 512 ≤ (i 0).val ∧ (i 0).val < win0_8.index t (0 : Fin 2) * 512 + 512 := hi 0
    have b1 : win0_8.index t (1 : Fin 2) * 1408 ≤ (i 1).val ∧ (i 1).val < win0_8.index t (1 : Fin 2) * 1408 + 1408 := hi 1
    obtain ⟨e0, e1, e2⟩ := idx_facts8 t
    omega
  · intro h
    have hi0 : (i 0).val < 16384 := (i 0).isLt
    have hi1 : (i 1).val < 2816 := (i 1).isLt
    obtain ⟨t, hft, ht⟩ := idx_onto8 ⟨(i 0).val / 512 - 0, by omega⟩ ⟨(i 1).val / 1408 - 0, by omega⟩
    have q0 : win0_8.index t (0 : Fin 2) = (i 0).val / 512 - 0 + 0 := congrFun ht 0
    have q1 : win0_8.index t (1 : Fin 2) = (i 1).val / 1408 - 0 + 0 := congrFun ht 1
    refine ⟨t, hft, ?_⟩
    rw [mem_blk8]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 1408 ≤ (i 1).val ∧ (i 1).val < win0_8.index t (1 : Fin 2) * 1408 + 1408; omega

theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16384 := (i 0).isLt; have h1 : (i 1).val < 2816 := (i 1).isLt; omega))

abbrev run9Of (i : S16384x2816.Idx) : ℕ := 2 * ((i 0).val / 512 - 0) + 1 * ((i 1).val / 1408 - 0)
set_option backward.proofsInPublic true in
abbrev loc9Of (i : S16384x2816.Idx) : S512x1408.Idx := fun a => match a with
  | ⟨0, _⟩ => ⟨(i 0).val % 512, Nat.mod_lt _ (by decide)⟩
  | ⟨1, _⟩ => ⟨(i 1).val % 1408, Nat.mod_lt _ (by decide)⟩
abbrev pt9Of (i : S16384x2816.Idx) : ℕ := run9Of i

/-- and the gradient at the other factor. -/
def G9 (c : Dev nD) : Buf (Elt F) ((c : Thread nD τ).loc main_v4_3) := fun i =>
  if h : pt9Of i < cfg0.N then
    (Pipeline.accAt (fun n h => stAt0 m c n h junk0) (stAt0 m c) 0 (pt9Of i) (by omega)).2.2.2.1 (loc9Of i)
  else V m c (Pipeline.arrRef spec0 9) i

theorem idx_facts9 : ∀ t : Fin cfg0.N, 0 ≤ win0_9.index t (0 : Fin 2) ∧ win0_9.index t (0 : Fin 2) ≤ 31
    ∧ 0 ≤ win0_9.index t (1 : Fin 2) ∧ win0_9.index t (1 : Fin 2) ≤ 1
    ∧ 2 * (win0_9.index t (0 : Fin 2) - 0) + 1 * (win0_9.index t (1 : Fin 2) - 0) = t.val :=
  (by decide +kernel : ∀ t : Fin grid0.N, _)

abbrev onto9Pt (q0 : Fin 32) (q1 : Fin 2) : Fin grid0.N :=
  ⟨2 * q0.val + 1 * q1.val, lt_of_lt_of_eq (by omega) N_0.symm⟩
theorem idx_onto9 : ∀ (q0 : Fin 32) (q1 : Fin 2), ∃ t : Fin cfg0.N, (cfg0.win 9).flush t = true ∧ win0_9.index t = ![q0.val + 0, q1.val + 0] :=
  fun q0 q1 => ⟨onto9Pt q0 q1, (by decide +kernel : ∀ (q0 : Fin 32) (q1 : Fin 2), win0_9.flush (onto9Pt q0 q1) = true ∧ win0_9.index (onto9Pt q0 q1) = ![q0.val + 0, q1.val + 0]) q0 q1⟩

theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 512 := (y 0).isLt
  have hy1 : (y 1).val < 1408 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1408 + 1 * (y 1).val := rfl
  have hr : run9Of (((cfg0.win 9).blk t).view.emb y) = t.val := by
    show 2 * ((((cfg0.win 9).blk t).view.emb y 0).val / 512 - 0) + 1 * ((((cfg0.win 9).blk t).view.emb y 1).val / 1408 - 0) = _
    rw [hb0, hb1]
    rw [show (win0_9.index t (0 : Fin 2) * 512 + 1 * (y 0).val) / 512 = win0_9.index t (0 : Fin 2) from by omega]; rw [show (win0_9.index t (1 : Fin 2) * 1408 + 1 * (y 1).val) / 1408 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 512 = (y 0).val; rw [hb0]; omega
    | ⟨1, _⟩ => show (((cfg0.win 9).blk t).view.emb y 1).val % 1408 = (y 1).val; rw [hb1]; omega
  have hp : pt9Of (((cfg0.win 9).blk t).view.emb y) = t.val := by
    exact hr
  show (Pipeline.accAt (fun n h => stAt0 m c n h junk0) (stAt0 m c) 0 t.val _).2.2.2.1 ((cfg0.win 9).xinj (grid0.coords t) y) = G9 m c (((cfg0.win 9).blk t).view.emb y)
  unfold G9
  rw [dif_pos (by rw [hp]; exact t.isLt), hl, fold0_congr m c _ _ _ _ hp.symm]

theorem mem_blk9 (t : Fin cfg0.N) (i : S16384x2816.Idx) :
    i ∈ ((cfg0.win 9).blk t).view.set ↔ ∀ a : Fin 2, win0_9.index t a * S512x1408.size a ≤ (i a).val ∧ (i a).val < win0_9.index t a * S512x1408.size a + S512x1408.size a := by
  show i ∈ ((View.whole main_v4_3).slice (win0_9.rect t)).set ↔ _
  rw [View.set_slice_whole, Rect.mem_set_unit]
  exact Iff.rfl

theorem covered_iff9 (i : S16384x2816.Idx) :
    (∃ t : Fin cfg0.N, (cfg0.win 9).flush t = true ∧ i ∈ ((cfg0.win 9).blk t).view.set) ↔ 0 ≤ (i 0).val ∧ (i 0).val < 16384 ∧ 0 ≤ (i 1).val ∧ (i 1).val < 2816 := by
  constructor
  · rintro ⟨t, -, hi⟩
    rw [mem_blk9] at hi
    have b0 : win0_9.index t (0 : Fin 2) * 512 ≤ (i 0).val ∧ (i 0).val < win0_9.index t (0 : Fin 2) * 512 + 512 := hi 0
    have b1 : win0_9.index t (1 : Fin 2) * 1408 ≤ (i 1).val ∧ (i 1).val < win0_9.index t (1 : Fin 2) * 1408 + 1408 := hi 1
    obtain ⟨e0, e1, e2⟩ := idx_facts9 t
    omega
  · intro h
    have hi0 : (i 0).val < 16384 := (i 0).isLt
    have hi1 : (i 1).val < 2816 := (i 1).isLt
    obtain ⟨t, hft, ht⟩ := idx_onto9 ⟨(i 0).val / 512 - 0, by omega⟩ ⟨(i 1).val / 1408 - 0, by omega⟩
    have q0 : win0_9.index t (0 : Fin 2) = (i 0).val / 512 - 0 + 0 := congrFun ht 0
    have q1 : win0_9.index t (1 : Fin 2) = (i 1).val / 1408 - 0 + 0 := congrFun ht 1
    refine ⟨t, hft, ?_⟩
    rw [mem_blk9]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 1408 ≤ (i 1).val ∧ (i 1).val < win0_9.index t (1 : Fin 2) * 1408 + 1408; omega

theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 16384 := (i 0).isLt; have h1 : (i 1).val < 2816 := (i 1).isLt; omega))

/-- The program ends with these arrays and its arguments unchanged. -/
theorem run : θ_run defs (onTc (τ := τ) (main (F := F))) ⟨m, fun _ => 0, ρ⟩ fun r => ∀ c : Dev nD,
      r.2.mem ((c : Thread nD τ).loc main_v4_0) = G6 m c
      ∧ r.2.mem ((c : Thread nD τ).loc main_v4_1) = G7 m c
      ∧ r.2.mem ((c : Thread nD τ).loc main_v4_2) = G8 m c
      ∧ r.2.mem ((c : Thread nD τ).loc main_v4_3) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c⟩)
    (run_main m ρ)

end Cert.Kernel6Ideal.Act

end
-- ==== Proof.FF.ActVal.lean ====
/- The first backward call of a feed-forward layer: what a grid point leaves in its four output blocks and in the scratch buffer. -/
module

public import proofs.«01_k».proof.Proof.FF.Act.Value
public import Idealize.ShloMosaic.Lib.Pointwise
public import Idealize.ShloMosaic.Lib.Pipeline.ValueKit.Point

@[expose] public section

set_option maxRecDepth 65536

noncomputable section

open scoped BigOperators

namespace Cert.Ffn.W6

open Cert.Kernel6Ideal Cert.Kernel6Ideal.Gen Cert.Kernel6Ideal.Act Idealize.ShloMosaic Idealize.ShloMosaic.TcCoe Idealize.ShloMosaic.Tactic

theorem hz : (![0, 0] : Fin 2 → Nat) = fun _ => 0 := funext fun a => by fin_cases a <;> rfl

variable (m : (ℓ : Loc nD τ sig) → Buf (Elt Ideal) ℓ) (c : Dev nD)

/-- The normed rows, the activation, the gate's and the other half's gradients, and the scaled cotangent in scratch. -/
abbrev St : Type := Vec Ideal S512x1024 .bf16 × Vec Ideal S512x1408 .bf16 × Vec Ideal S512x1408 .bf16 × Vec Ideal S512x1408 .bf16 × Vec Ideal S512x1024 .bf16

/-- At a row block's first point the normed rows are stored, … -/
theorem first_h (t : Fin cfg0.N) (acc : St) (h0 : t.val % 2 = 0) :
    (Act.stAt0 m c t.val t.isLt acc).1 = (k0_pay2 (iblk m c 0 t) (iblk m c 1 t)) := by
  rw [Act.stAt0_A m c t acc h0]
  dsimp only
  unfold Act.out0_A_6
  rw [View.read_writes_eq_canon _ _ _ (Act.cover0_A_6 (F := Ideal) c _ _ _ _ _ _ _ _ _ _ _ _ _ _ _ _ _ _ _ _ _ _ _ _ _ _ _ _ _ _)]
  unfold Act.kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]

/-- … the scaled cotangent, … -/
theorem first_dy (t : Fin cfg0.N) (acc : St) (h0 : t.val % 2 = 0) :
    (Act.stAt0 m c t.val t.isLt acc).2.2.2.2 = (k0_pay3 (iblk m c 5 t)) := by
  rw [Act.stAt0_A m c t acc h0]
  dsimp only
  unfold Act.sout0_A_0
  rw [View.read_writes_eq_canon _ _ _ (Act.scover0_A_0 (F := Ideal) c _ _ _ _ _ _ _ _ _ _ _ _ _ _ _ _ _ _ _ _ _ _ _ _ _ _ _ _ _ _)]
  unfold Act.kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]

/-- … the activation, … -/
theorem first_act (t : Fin cfg0.N) (acc : St) (h0 : t.val % 2 = 0) :
    (Act.stAt0 m c t.val t.isLt acc).2.1 = k0_pay9 (k0_pay2 (iblk m c 0 t) (iblk m c 1 t)) (iblk m c 2 t) (iblk m c 3 t) := by
  rw [Act.stAt0_A m c t acc h0]
  dsimp only
  unfold Act.out0_A_7
  rw [View.read_writes_eq_canon _ _ _ (Act.cover0_A_7 (F := Ideal) c _ _ _ _ _ _ _ _ _ _ _ _ _ _ _ _ _ _ _ _ _ _ _ _ _ _ _ _ _ _)]
  unfold Act.kernelRun0_A
  dsimp only
  sl_unfold_words
  rw [View.canon_unit_zero hz]
  rw [View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]

/-- … the gate's gradient … -/
theorem first_dg (t : Fin cfg0.N) (acc : St) (h0 : t.val % 2 = 0) :
    (Act.stAt0 m c t.val t.isLt acc).2.2.1 = k0_pay1 (k0_pay5 (k0_pay2 (iblk m c 0 t) (iblk m c 1 t)) (iblk m c 2 t)) (k0_pay7 (k0_pay2 (iblk m c 0 t) (iblk m c 1 t)) (iblk m c 2 t)) (k0_pay12 (k0_pay2 (iblk m c 0 t) (iblk m c 1 t)) (iblk m c 3 t) (k0_pay3 (iblk m c 5 t)) (iblk m c 4 t)) (k0_pay13 (k0_pay2 (iblk m c 0 t) (iblk m c 1 t)) (iblk m c 2 t)) := by
  rw [Act.stAt0_A m c t acc h0]
  dsimp only
  unfold Act.out0_A_8
  rw [View.read_writes_eq_canon _ _ _ (Act.cover0_A_8 (F := Ideal) c _ _ _ _ _ _ _ _ _ _ _ _ _ _ _ _ _ _ _ _ _ _ _ _ _ _ _ _ _ _)]
  unfold Act.kernelRun0_A
  dsimp only
  sl_unfold_words
  rw [View.canon_unit_zero hz]
  rw [View.readCov_unit_zero (S := S512x1024) _ hz, View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]

/-- … and the other half's. -/
theorem first_du (t : Fin cfg0.N) (acc : St) (h0 : t.val % 2 = 0) :
    (Act.stAt0 m c t.val t.isLt acc).2.2.2.1 = k0_pay11 (k0_pay2 (iblk m c 0 t) (iblk m c 1 t)) (iblk m c 2 t) (k0_pay3 (iblk m c 5 t)) (iblk m c 4 t) := by
  rw [Act.stAt0_A m c t acc h0]
  dsimp only
  unfold Act.out0_A_9
  rw [View.read_writes_eq_canon _ _ _ (Act.cover0_A_9 (F := Ideal) c _ _ _ _ _ _ _ _ _ _ _ _ _ _ _ _ _ _ _ _ _ _ _ _ _ _ _ _ _ _)]
  unfold Act.kernelRun0_A
  dsimp only
  sl_unfold_words
  rw [View.canon_unit_zero hz]
  rw [View.readCov_unit_zero (S := S512x1024) _ hz, View.readCov_unit_zero (S := S512x1024) _ hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]

/-- At its second point the normed rows stay, … -/
theorem second_h (t : Fin cfg0.N) (acc : St) (h0 : ¬t.val % 2 = 0) : (Act.stAt0 m c t.val t.isLt acc).1 = acc.1 := by
  rw [Act.stAt0_B m c t acc h0]
  rfl

/-- … and so does the scaled cotangent. -/
theorem second_dy (t : Fin cfg0.N) (acc : St) (h0 : ¬t.val % 2 = 0) : (Act.stAt0 m c t.val t.isLt acc).2.2.2.2 = acc.2.2.2.2 := by
  rw [Act.stAt0_B m c t acc h0]
  rfl

/-- The other three blocks are computed from them and from the scratch buffer, as at the first point. -/
theorem second_act (t : Fin cfg0.N) (acc : St) (h0 : ¬t.val % 2 = 0) :
    (Act.stAt0 m c t.val t.isLt acc).2.1 = k0_pay9 acc.1 (iblk m c 2 t) (iblk m c 3 t) := by
  rw [Act.stAt0_B m c t acc h0]
  dsimp only
  unfold Act.out0_B_7
  rw [View.read_writes_eq_canon _ _ _ (Act.cover0_B_7 (F := Ideal) c _ _ _ _ _ _ _ _ _ _ _ _ _ _ _ _ _ _ _ _ _ _ _ _ _ _ _ _ _ _ _ _)]
  unfold Act.kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]
  have e0 := (hs0_6 t).read_unread (Val := Elt Ideal) acc.1
  have e1 := (Memref.isWhole_whole cc0_scratch0).read_unread (Val := Elt Ideal) acc.2.2.2.2
  exact congrArg (fun a => k0_pay9 a _ _) e0

/-- The gate's gradient, … -/
theorem second_dg (t : Fin cfg0.N) (acc : St) (h0 : ¬t.val % 2 = 0) :
    (Act.stAt0 m c t.val t.isLt acc).2.2.1 = k0_pay1 (k0_pay5 acc.1 (iblk m c 2 t)) (k0_pay7 acc.1 (iblk m c 2 t)) (k0_pay12 acc.1 (iblk m c 3 t) acc.2.2.2.2 (iblk m c 4 t)) (k0_pay13 acc.1 (iblk m c 2 t)) := by
  rw [Act.stAt0_B m c t acc h0]
  dsimp only
  unfold Act.out0_B_8
  rw [View.read_writes_eq_canon _ _ _ (Act.cover0_B_8 (F := Ideal) c _ _ _ _ _ _ _ _ _ _ _ _ _ _ _ _ _ _ _ _ _ _ _ _ _ _ _ _ _ _ _ _)]
  unfold Act.kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]
  have e0 := (hs0_6 t).read_unread (Val := Elt Ideal) acc.1
  have e1 := (Memref.isWhole_whole cc0_scratch0).read_unread (Val := Elt Ideal) acc.2.2.2.2
  exact congrArg₂ (fun a b => k0_pay1 (k0_pay5 a _) (k0_pay7 a _) (k0_pay12 a _ b _) (k0_pay13 a _)) e0 e1

/-- … and the other half's. -/
theorem second_du (t : Fin cfg0.N) (acc : St) (h0 : ¬t.val % 2 = 0) :
    (Act.stAt0 m c t.val t.isLt acc).2.2.2.1 = k0_pay11 acc.1 (iblk m c 2 t) acc.2.2.2.2 (iblk m c 4 t) := by
  rw [Act.stAt0_B m c t acc h0]
  dsimp only
  unfold Act.out0_B_9
  rw [View.read_writes_eq_canon _ _ _ (Act.cover0_B_9 (F := Ideal) c _ _ _ _ _ _ _ _ _ _ _ _ _ _ _ _ _ _ _ _ _ _ _ _ _ _ _ _ _ _ _ _)]
  unfold Act.kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S1x1024) hz, View.ld_unit_zero (S := S1024x1408) hz, View.ld_unit_zero (S := S512x1408) hz, shapeCast_self]
  have e0 := (hs0_6 t).read_unread (Val := Elt Ideal) acc.1
  have e1 := (Memref.isWhole_whole cc0_scratch0).read_unread (Val := Elt Ideal) acc.2.2.2.2
  exact congrArg₂ (fun a b => k0_pay11 a _ b _) e0 e1

end Cert.Ffn.W6

end
-- ==== Proof.FF.ActReal.lean ====
/- The arithmetic of the feed-forward layer's gate and its gradient: which values are real when the layer's arguments are, and the
   two writings of the gate's gradient. -/
module

public import proofs.«01_k».proof.Proof.FF.Norm
public import proofs.«01_k».proof.Proof.KV.Math

@[expose] public section

noncomputable section

open scoped BigOperators

namespace Cert.Ffn.W6

open Idealize.ShloMosaic

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.dot {n : ℕ} {a b : Fin n → EReal} (ha : ∀ i, IsReal (a i)) (hb : ∀ i, IsReal (b i)) : IsReal (∑ i, a i * b i) := by
  choose f hf using fun i => (ha i).mul (hb i)
  exact ⟨∑ i, f i, by rw [Cert.AttnBwd.coe_sum]; exact Finset.sum_congr rfl fun i _ => hf i⟩

/-- An entry of a normed row: `x` is the row, `g` the gain's entry. -/
def normed (x : Fin 1024 → EReal) (g : EReal) (k : Fin 1024) : EReal := x k * Ideal.rsqrt (ms x) * g

theorem normed_real {x : Fin 1024 → EReal} {g : EReal} (hx : ∀ z, IsReal (x z)) (hg : IsReal g) (k : Fin 1024) : IsReal (normed x g k) := by
  refine ((hx k).mul ?_).mul hg
  rcases ms_cases x with h | ⟨t, ht, h⟩
  · exact ⟨0, by rw [h, Ideal.rsqrt_top]; rfl⟩
  · exact ⟨(Real.sqrt t)⁻¹, by rw [h, Ideal.rsqrt_coe, if_neg (not_lt.2 ht.le), if_neg ht.ne']⟩

/-- The logistic function. -/
def sgm (a : EReal) : EReal := Ideal.div 1 (1 + Ideal.exp (-a))

theorem sgm_real {a : EReal} (ha : IsReal a) : IsReal (sgm a) := by
  obtain ⟨r, rfl⟩ := ha
  have hp : (1 + Real.exp (-r)) ≠ 0 := by positivity
  refine ⟨1 / (1 + Real.exp (-r)), ?_⟩
  unfold sgm
  rw [← EReal.coe_neg, Ideal.exp_coe, ← EReal.coe_one, ← EReal.coe_add, Ideal.div_coe hp, ← EReal.coe_mul, one_mul]

/-- The gate `a · sgm a`'s gradient against `t`, in one product as the kernel writes it, is the sum of two products the reference
    writes, provided both are real. -/
theorem gate_grad {t a : EReal} (ht : IsReal t) (ha : IsReal a) :
    t * (sgm a * (1 + a * (1 - sgm a))) = t * sgm a + a * t * (sgm a * (1 - sgm a)) := by
  obtain ⟨s, hs⟩ := sgm_real ha
  rw [hs]
  obtain ⟨t, rfl⟩ := ht
  obtain ⟨a, rfl⟩ := ha
  rw [← EReal.coe_one]
  simp only [← EReal.coe_sub, ← EReal.coe_mul, ← EReal.coe_add]
  exact congrArg _ (by ring)

theorem half_real : IsReal (Ideal.ofBits .f32 0x3F000000#32) :=
  ⟨1 / 2, by simp [Ideal.ofBits, Ideal.ieee, -EReal.coe_mul]; norm_num⟩

theorem one_lit : (Ideal.ofBits .f32 0x3F800000#32 : EReal) = 1 := by
  simp [Ideal.ofBits, Ideal.ieee, -EReal.coe_mul]; norm_num

end Cert.Ffn.W6

end
-- ==== Proof.FF.ActRef.lean ====
/- The reference of the first backward call of a feed-forward layer, result by result. -/
module

public import proofs.«01_k».proof.Proof.FF.ActReal
public import proofs.«01_k».proof.Proof.Gen.Reference6Ideal.Run
public import proofs.«01_k».proof.Proof.Gen.Reference6Ideal.Read
public import Idealize.ShloMosaic.Lib.Pointwise

@[expose] public section

set_option maxRecDepth 65536

noncomputable section

open scoped BigOperators

namespace Cert.Ffn.W6

open Cert.Reference6Ideal Cert.Reference6Ideal.Read Idealize.ShloMosaic Idealize.ShloMosaic.TcCoe Idealize.ShloMosaic.Tactic

/-- Entry `y` of the inner axis: its column in the first weight's gate half … -/
def gcol (y : Fin 2816) : Fin 5632 := ⟨y.val, by omega⟩
/-- … and in the other half. -/
def ucol (y : Fin 2816) : Fin 5632 := ⟨2816 + y.val, by omega⟩

section Terms

variable (x : Vec Ideal S16384x1024 .f32) (g : Vec Ideal S1024 .f32) (w : Vec Ideal S1024x5632 .f32) (d : Vec Ideal S2816x1024 .f32)
  (o : Vec Ideal S16384x1024 .f32)

/-- The normed input, … -/
def hN (r : Fin 16384) (k : Fin 1024) : EReal := normed (fun z => x (ix2 r z)) (g (ix1 k)) k
/-- … its product with the first weight, … -/
def guN (r : Fin 16384) (y : Fin 5632) : EReal := ∑ z : Fin 1024, hN x g r z * w (ix2 z y)
/-- … and the activation's gradient. -/
def daN (r : Fin 16384) (y : Fin 2816) : EReal := ∑ z : Fin 1024, Ideal.ofBits .f32 0x3F000000#32 * o (ix2 r z) * d (ix2 y z)

theorem ref_h (r : Fin 16384) (k : Fin 1024) : (val_main_v12 (F := Ideal) x g (ix2 r k) : EReal) = hN x g r k := by
  rw [val_main_v12_apply, val_main_v9_apply, val_main_v11_apply, val_main_v10_apply, val_main_v8_apply, val_main_v7_apply, val_main_v6_apply, val_main_v5_apply,
    val_main_v4_apply, val_main_v3_apply, val_main_v2_apply, val_main_v1_apply]
  simp only [val_main_v0_apply, val_main_cst_apply, val_main_cst_0_apply, val_main_cst_1_apply]
  have e : ∀ z, idx_main_v1 (idx_main_v2 (idx_main_v8 (ix2 r k))) z = ix2 r z := fun z => eq_ix2 _
  have e' : idx_main_v10 (idx_main_v11 (ix2 r k)) = ix1 k := eq_ix1 _
  simp only [e, e']
  rw [show (FloatOps.ofBits (F := Ideal) .f32 0#32 : EReal) = 0 by simp [FloatOps.ofBits, Ideal.ofBits, Ideal.ieee], zero_add]
  rfl

theorem ref_gu (r : Fin 16384) (y : Fin 5632) : (val_main_v13 (F := Ideal) x g w (ix2 r y) : EReal) = guN x g w r y := by
  rw [val_main_v13_apply]
  refine Finset.sum_congr rfl fun z _ => ?_
  exact congrArg₂ (· * ·) ((congrArg (val_main_v12 (F := Ideal) x g) (eq_ix2 _)).trans (ref_h x g r z)) (congrArg w (eq_ix2 _))

theorem ref_g (r : Fin 16384) (y : Fin 2816) : (val_main_v14 (F := Ideal) x g w (ix2 r y) : EReal) = guN x g w r (gcol y) := by
  rw [val_main_v14_apply, ← ref_gu]
  refine congrArg (val_main_v13 (F := Ideal) x g w) (funext fun a => Fin.ext ?_)
  match a with
  | ⟨0, _⟩ => show r.val = r.val; rfl
  | ⟨1, _⟩ => show y.val = y.val; rfl

theorem ref_u (r : Fin 16384) (y : Fin 2816) : (val_main_v15 (F := Ideal) x g w (ix2 r y) : EReal) = guN x g w r (ucol y) := by
  rw [val_main_v15_apply, ← ref_gu]
  refine congrArg (val_main_v13 (F := Ideal) x g w) (funext fun a => Fin.ext ?_)
  match a with
  | ⟨0, _⟩ => show r.val = r.val; rfl
  | ⟨1, _⟩ => show 2816 + y.val = 2816 + y.val; rfl

theorem ref_sgm (r : Fin 16384) (y : Fin 2816) : (val_main_v16_2 (F := Ideal) x g w (ix2 r y) : EReal) = sgm (guN x g w r (gcol y)) := by
  rw [val_main_v16_2_apply, val_main_call0_v4_apply, val_main_call0_v3_apply, val_main_call0_v2_apply,
    val_main_call0_v1_apply, val_main_call0_v0_apply, val_main_call0_cst_apply, val_main_call0_cst_0_apply, ref_g]
  rw [show (FloatOps.ofBits (F := Ideal) .f32 1065353216#32 : EReal) = 1 from one_lit]
  rfl

theorem ref_dsgm (r : Fin 16384) (y : Fin 2816) :
    (val_main_v16_1 (F := Ideal) x g w (ix2 r y) : EReal) = sgm (guN x g w r (gcol y)) * (1 - sgm (guN x g w r (gcol y))) := by
  rw [val_main_v16_1_apply, val_main_call0_v7_apply, val_main_call0_v6_apply, val_main_call0_cst_1_apply, ref_sgm]
  rw [show (FloatOps.ofBits (F := Ideal) .f32 1065353216#32 : EReal) = 1 from one_lit]
  rfl

theorem ref_silu (r : Fin 16384) (y : Fin 2816) :
    (val_main_v16_0 (F := Ideal) x g w (ix2 r y) : EReal) = guN x g w r (gcol y) * sgm (guN x g w r (gcol y)) := by
  rw [val_main_v16_0_apply, ref_sgm, ref_g]
  rfl

theorem ref_da (r : Fin 16384) (y : Fin 2816) : (val_main_v23 (F := Ideal) d o (ix2 r y) : EReal) = daN d o r y := by
  rw [val_main_v23_apply]
  refine Finset.sum_congr rfl fun z _ => ?_
  refine congrArg₂ (· * ·) ?_ (congrArg d (eq_ix2 _))
  rw [val_main_v22_apply, val_main_v21_apply, val_main_cst_3_apply]
  exact congrArg (fun i => Ideal.ofBits .f32 0x3F000000#32 * (o i : EReal)) (eq_ix2 _)

/-- The first result. -/
theorem ref_r0 (r : Fin 16384) (k : Fin 1024) : (val_main_v27 (F := Ideal) x g (ix2 r k) : EReal) = hN x g r k := by
  rw [val_main_v27_apply]
  exact ref_h x g r k

/-- The second. -/
theorem ref_r1 (r : Fin 16384) (y : Fin 2816) :
    (val_main_v28 (F := Ideal) x g w (ix2 r y) : EReal) = guN x g w r (gcol y) * sgm (guN x g w r (gcol y)) * guN x g w r (ucol y) := by
  rw [val_main_v28_apply]
  show (val_main_v17 (F := Ideal) x g w (ix2 r y) : EReal) = _
  rw [val_main_v17_apply, ref_silu, ref_u]
  rfl

/-- The third. -/
theorem ref_r2 (r : Fin 16384) (y : Fin 2816) :
    (val_main_v29 (F := Ideal) x g w d o (ix2 r y) : EReal)
      = daN d o r y * guN x g w r (ucol y) * sgm (guN x g w r (gcol y))
        + guN x g w r (gcol y) * (daN d o r y * guN x g w r (ucol y)) * (sgm (guN x g w r (gcol y)) * (1 - sgm (guN x g w r (gcol y)))) := by
  rw [val_main_v29_apply]
  show (val_main_v26 (F := Ideal) x g w d o (ix2 r y) : EReal) = _
  rw [val_main_v26_apply, val_main_call1_v1_apply, val_main_call1_v2_apply, val_main_call1_v0_apply, val_main_v25_apply, ref_dsgm, ref_sgm, ref_g, ref_da, ref_u]
  rfl

/-- The fourth. -/
theorem ref_r3 (r : Fin 16384) (y : Fin 2816) :
    (val_main_v30 (F := Ideal) x g w d o (ix2 r y) : EReal) = guN x g w r (gcol y) * sgm (guN x g w r (gcol y)) * daN d o r y := by
  rw [val_main_v30_apply]
  show (val_main_v24 (F := Ideal) x g w d o (ix2 r y) : EReal) = _
  rw [val_main_v24_apply, ref_silu, ref_da]
  rfl

/-- On real arguments the reference's gradient behind the gate is the one product the kernel computes. -/
theorem ref_dg (hx : ∀ i, IsReal (x i)) (hg : ∀ i, IsReal (g i)) (hw : ∀ i, IsReal (w i)) (hd : ∀ i, IsReal (d i)) (ho : ∀ i, IsReal (o i))
    (r : Fin 16384) (y : Fin 2816) :
    (val_main_v29 (F := Ideal) x g w d o (ix2 r y) : EReal)
      = daN d o r y * guN x g w r (ucol y)
        * (sgm (guN x g w r (gcol y)) * (1 + guN x g w r (gcol y) * (1 - sgm (guN x g w r (gcol y))))) := by
  have hh : ∀ z, IsReal (hN x g r z) := fun z => normed_real (fun z => hx _) (hg _) z
  have hgu : ∀ y, IsReal (guN x g w r y) := fun y => IsReal.dot hh fun z => hw _
  have hda : IsReal (daN d o r y) := IsReal.dot (fun z => half_real.mul (ho _)) fun z => hd _
  rw [ref_r2, gate_grad (hda.mul (hgu _)) (hgu _)]

end Terms

end Cert.Ffn.W6

end
-- ==== Proof.FF.ActFin.lean ====
/- The precondition stated of the first backward call of a feed-forward layer makes every argument an array of reals. -/
module

public import proofs.«01_k».proof.Proof.KV.Fin
public import proofs.«01_k».proof.Proof.FF.ActReal

@[expose] public section

noncomputable section

namespace Cert.Ffn.W6

open Idealize.ShloMosaic
open Idealize.ShloMosaic.TcCoe
open Idealize.ShloMosaic.Tactic

/-- The precondition's side conditions. -/
instance finFacts6 : Cert.Pre_finite6.Facts where
  bcast_S_S16384x1024 := by decide
  reducesTo_S16384x1024_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide

/-- One argument: all magnitudes below infinity. -/
theorem arg_real {s : Shape} (x : FVec Ideal s .f32) (z : FVec Ideal s .f32) (hz : ∀ i, z i = ⊤) {axes : List (Fin s.rank)}
    {h : s.ReducesTo axes Cert.Pre_finite6.S_} {hu : 0 < Cert.Pre_finite6.S_.numel}
    (e : Host.reduce IntOp.andi (cmpf .olt (Host.absf x) z) (constantI Cert.Pre_finite6.S_ 1 1#1) h hu ix0 = 1#1) (i : s.Idx) :
    IsReal (x i) := by
  haveI : Subsingleton Cert.Pre_finite6.S_.Idx := ⟨fun a b => funext fun k => k.elim0⟩
  have e1 := Host.reduce_andi_all _ _ h hu ix0 e i
  have e2 : BitVec.ofBool (decide (max (x i) (-(x i)) < z i)) = 1#1 := e1
  have e3 := of_decide_eq_true (Cert.AttnBwd.ofBool_eq_one e2)
  rw [hz] at e3
  exact Cert.AttnBwd.real_of_abs_lt _ e3

theorem top_apply {s : Shape} (h : Cert.Pre_finite6.S_.BroadcastsInDim s ![]) (i : s.Idx) :
    broadcastInDim s ![] h (constant (F := Ideal) Cert.Pre_finite6.S_ .f32 0x7F800000#32) i = ⊤ := by
  rw [← Cert.AttnBwd.inf_word]
  rfl

open Cert.Kernel6Ideal in
theorem args_real (m : (ℓ : Loc nD τ sig) → Buf (Elt Ideal) ℓ) (h : Cert.Pre_Kernel6Ideal_finite6 m) (c : Dev nD) :
    (∀ i, IsReal ((m ((c.tc : Thread nD τ).loc main_arg0) : FVec Ideal S16384x1024 .f32) i))
      ∧ (∀ i, IsReal ((m ((c.tc : Thread nD τ).loc main_arg1) : FVec Ideal S1024 .f32) i))
      ∧ (∀ i, IsReal ((m ((c.tc : Thread nD τ).loc main_arg2) : FVec Ideal S1024x5632 .f32) i))
      ∧ (∀ i, IsReal ((m ((c.tc : Thread nD τ).loc main_arg3) : FVec Ideal S2816x1024 .f32) i))
      ∧ (∀ i, IsReal ((m ((c.tc : Thread nD τ).loc main_arg4) : FVec Ideal S16384x1024 .f32) i)) := by
  have h0 := congrFun (h c) ix0
  dsimp only [Cert.Pre_finite6.fn, Cert.Pre_finite6.fn_part1] at h0
  obtain ⟨h0, h4⟩ := Cert.AttnBwd.andi_eq_one _ _ _ h0
  obtain ⟨h0, h3⟩ := Cert.AttnBwd.andi_eq_one _ _ _ h0
  obtain ⟨h0, h2⟩ := Cert.AttnBwd.andi_eq_one _ _ _ h0
  obtain ⟨h0, h1⟩ := Cert.AttnBwd.andi_eq_one _ _ _ h0
  exact ⟨arg_real _ _ (top_apply _) h0, arg_real _ _ (top_apply _) h1, arg_real _ _ (top_apply _) h2, arg_real _ _ (top_apply _) h3,
    arg_real _ _ (top_apply _) h4⟩

end Cert.Ffn.W6

end
-- ==== Proof.FF.ActBack.lean ====
/- The first backward call of a feed-forward layer: what the kernel leaves in its four results is what the reference computes, on
   finite arguments. The kernel takes the inner axis in two halves, the reference all of it. -/
module

public import proofs.«01_k».proof.Proof.FF.ActVal
public import proofs.«01_k».proof.Proof.FF.ActRef
public import proofs.«01_k».proof.Proof.FF.ActFin

@[expose] public section

set_option maxRecDepth 65536

noncomputable section

open scoped BigOperators

namespace Cert.Ffn.W6

open Cert.Kernel6Ideal Cert.Kernel6Ideal.Gen Cert.Kernel6Ideal.Act Idealize.ShloMosaic Idealize.ShloMosaic.TcCoe Idealize.ShloMosaic.Tactic

/-- A row against a column. -/
def dotc (h : Vec Ideal S512x1024 .bf16) (w : Vec Ideal S1024x1408 .bf16) (r : Fin 512) (y : Fin 1408) : EReal := ∑ z : Fin 1024, h (ix2 r z) * w (ix2 z y)

theorem pay2_apply (x : Vec Ideal S512x1024 .f32) (g : Vec Ideal S1x1024 .f32) (r : Fin 512) (k : Fin 1024) :
    (k0_pay2 x g : FVec Ideal S512x1024 .bf16) (ix2 r k) = normed (fun z => x (ix2 r z)) (g (ix2 0 k)) k := by
  unfold k0_pay2
  pointwise
  rfl

theorem pay3_apply (o : Vec Ideal S512x1024 .f32) (i : S512x1024.Idx) :
    (k0_pay3 o : FVec Ideal S512x1024 .bf16) i = Ideal.ofBits .f32 0x3F000000#32 * o i := by
  unfold k0_pay3
  rw [shapeCast_self]
  rfl

theorem pay5_apply (h : Vec Ideal S512x1024 .bf16) (w : Vec Ideal S1024x1408 .bf16) (r : Fin 512) (y : Fin 1408) :
    (k0_pay5 h w : FVec Ideal S512x1408 .f32) (ix2 r y) = dotc h w r y := by
  unfold k0_pay5 k0_pay4
  pointwise
  rfl

theorem pay6_apply (h : Vec Ideal S512x1024 .bf16) (w : Vec Ideal S1024x1408 .bf16) (r : Fin 512) (y : Fin 1408) :
    (k0_pay6 h w : FVec Ideal S512x1408 .f32) (ix2 r y) = dotc h w r y := by
  unfold k0_pay6 k0_pay4
  pointwise
  rfl

theorem pay10_apply (h : Vec Ideal S512x1024 .bf16) (w : Vec Ideal S1024x1408 .bf16) (r : Fin 512) (y : Fin 1408) :
    (k0_pay10 h w : FVec Ideal S512x1408 .f32) (ix2 r y) = dotc h w r y := by
  unfold k0_pay10
  pointwise
  rfl

theorem pay7_apply (h : Vec Ideal S512x1024 .bf16) (w : Vec Ideal S1024x1408 .bf16) (r : Fin 512) (y : Fin 1408) :
    (k0_pay7 h w : FVec Ideal S512x1408 .f32) (ix2 r y) = sgm (dotc h w r y) := by
  have e : (k0_pay7 h w : FVec Ideal S512x1408 .f32) (ix2 r y)
      = Ideal.div (Ideal.ofBits .f32 0x3F800000#32)
          (Ideal.ofBits .f32 0x3F800000#32 + Ideal.exp (Ideal.ofBits .f32 0x00000000#32 - (k0_pay5 h w : FVec Ideal S512x1408 .f32) (ix2 r y))) := rfl
  rw [e, one_lit, show (Ideal.ofBits .f32 0x00000000#32 : EReal) = 0 by simp [Ideal.ofBits, Ideal.ieee], zero_sub, pay5_apply]
  rfl

/-- The activation's block, … -/
theorem pay9_apply (h : Vec Ideal S512x1024 .bf16) (wg wu : Vec Ideal S1024x1408 .bf16) (r : Fin 512) (y : Fin 1408) :
    (k0_pay9 h wg wu : FVec Ideal S512x1408 .bf16) (ix2 r y) = dotc h wg r y * sgm (dotc h wg r y) * dotc h wu r y := by
  rw [← pay5_apply h wg, ← pay6_apply h wu, pay5_apply h wg, ← pay7_apply h wg, ← pay5_apply h wg]
  rfl

/-- … the other half's gradient … -/
theorem pay11_apply (h : Vec Ideal S512x1024 .bf16) (wg : Vec Ideal S1024x1408 .bf16) (o : Vec Ideal S512x1024 .bf16) (d : Vec Ideal S1024x1408 .bf16)
    (r : Fin 512) (y : Fin 1408) :
    (k0_pay11 h wg o d : FVec Ideal S512x1408 .bf16) (ix2 r y) = dotc o d r y * (dotc h wg r y * sgm (dotc h wg r y)) := by
  rw [← pay10_apply o d, ← pay7_apply h wg, ← pay5_apply h wg]
  rfl

/-- … and the gate's. -/
theorem pay1_apply (h : Vec Ideal S512x1024 .bf16) (wg wu : Vec Ideal S1024x1408 .bf16) (o : Vec Ideal S512x1024 .bf16) (d : Vec Ideal S1024x1408 .bf16)
    (r : Fin 512) (y : Fin 1408) :
    (k0_pay1 (k0_pay5 h wg) (k0_pay7 h wg) (k0_pay12 h wu o d) (k0_pay13 h wg) : FVec Ideal S512x1408 .bf16) (ix2 r y)
      = dotc o d r y * dotc h wu r y * (sgm (dotc h wg r y) * (1 + dotc h wg r y * (1 - sgm (dotc h wg r y)))) := by
  have e : (k0_pay1 (k0_pay5 h wg) (k0_pay7 h wg) (k0_pay12 h wu o d) (k0_pay13 h wg) : FVec Ideal S512x1408 .bf16) (ix2 r y)
      = (k0_pay10 o d : FVec Ideal S512x1408 .f32) (ix2 r y) * (k0_pay6 h wu : FVec Ideal S512x1408 .f32) (ix2 r y)
        * ((k0_pay7 h wg : FVec Ideal S512x1408 .f32) (ix2 r y)
          * (Ideal.ofBits .f32 0x3F800000#32
            + (k0_pay5 h wg : FVec Ideal S512x1408 .f32) (ix2 r y)
              * (Ideal.ofBits .f32 0x3F800000#32 - (k0_pay7 h wg : FVec Ideal S512x1408 .f32) (ix2 r y)))) := rfl
  rw [e, one_lit, pay10_apply, pay6_apply, pay7_apply, pay5_apply]

/-- Row block `b`, half `s` of the inner axis, as a grid point. -/
def pnt (b : Fin 32) (s : Fin 2) : Fin cfg0.N := ⟨2 * b.val + s.val, by have := N_0; show _ < grid0.N; omega⟩

theorem idx0 : ∀ b s, win0_0.index (pnt b s) = ![b.val, 0] := by decide +kernel
theorem idx1 : ∀ b s, win0_1.index (pnt b s) = ![0, 0] := by decide +kernel
theorem idx2 : ∀ b s, win0_2.index (pnt b s) = ![0, s.val] := by decide +kernel
theorem idx3 : ∀ b s, win0_3.index (pnt b s) = ![0, s.val + 2] := by decide +kernel
theorem idx4 : ∀ b s, win0_4.index (pnt b s) = ![0, s.val] := by decide +kernel
theorem idx5 : ∀ b s, win0_5.index (pnt b s) = ![b.val, 0] := by decide +kernel

/-- Row `r` of block `b`. -/
def row (b : Fin 32) (r : Fin 512) : Fin 16384 := ⟨512 * b.val + r.val, by omega⟩
/-- Entry `y` of half `s` of the inner axis. -/
def inn (s : Fin 2) (y : Fin 1408) : Fin 2816 := ⟨1408 * s.val + y.val, by omega⟩

variable (m : (ℓ : Loc nD τ sig) → Buf (Elt Ideal) ℓ) (c : Dev nD)

/-- The layer's input, … -/
def X : Vec Ideal S16384x1024 .f32 := m ((c.tc : Thread nD τ).loc main_arg0)
/-- … the gain, … -/
def G : Vec Ideal S1024 .f32 := m ((c.tc : Thread nD τ).loc main_arg1)
/-- … the first weight, … -/
def W : Vec Ideal S1024x5632 .f32 := m ((c.tc : Thread nD τ).loc main_arg2)
/-- … the second … -/
def D : Vec Ideal S2816x1024 .f32 := m ((c.tc : Thread nD τ).loc main_arg3)
/-- … and the cotangent. -/
def O : Vec Ideal S16384x1024 .f32 := m ((c.tc : Thread nD τ).loc main_arg4)

theorem X_host : (V m c main_arg0 : Vec Ideal S16384x1024 .f32) = X m c := V_main_arg0 m c
theorem O_host : (V m c main_arg4 : Vec Ideal S16384x1024 .f32) = O m c := V_main_arg4 m c
theorem W_host : (V m c main_v1 : Vec Ideal S1024x5632 .bf16) = W m c := by
  dsimp only [V, hostOps0]
  after_results
  rfl
theorem D_host (z : Fin 1024) (y : Fin 2816) : (V m c main_v3 : Vec Ideal S1024x2816 .bf16) (ix2 z y) = D m c (ix2 y z) := by
  dsimp only [V, hostOps0]
  after_results
  show transpose S1024x2816 [1, 0] (D m c) transposes_S2816x1024_S1024x2816_1_0 (ix2 z y) = _
  pointwise
theorem G_host (k : Fin 1024) : (V m c main_v0 : Vec Ideal S1x1024 .f32) (ix2 0 k) = G m c (ix1 k) := by
  dsimp only [V, hostOps0]
  after_results
  show shapeCast S1x1024 (G m c) shapeCasts_S1024_S1x1024 (ix2 0 k) = _
  pointwise

theorem blk0 (b : Fin 32) (s : Fin 2) (r : Fin 512) (k : Fin 1024) : (iblk m c 0 (pnt b s) (ix2 r k) : EReal) = X m c (ix2 (row b r) k) := by
  rw [← X_host]; unfold row; blk_ext [iblk, idx0]
theorem blk1 (b : Fin 32) (s : Fin 2) (k : Fin 1024) : (iblk m c 1 (pnt b s) (ix2 0 k) : EReal) = G m c (ix1 k) := by
  rw [← G_host]; blk_ext [iblk, idx1]
theorem blk2 (b : Fin 32) (s : Fin 2) (z : Fin 1024) (y : Fin 1408) :
    (iblk m c 2 (pnt b s) (ix2 z y) : EReal) = W m c (ix2 z (gcol (inn s y))) := by
  rw [← W_host]; unfold inn gcol; blk_ext [iblk, idx2]
theorem blk3 (b : Fin 32) (s : Fin 2) (z : Fin 1024) (y : Fin 1408) :
    (iblk m c 3 (pnt b s) (ix2 z y) : EReal) = W m c (ix2 z (ucol (inn s y))) := by
  rw [← W_host]; unfold inn ucol; blk_ext [iblk, idx3]
theorem blk4 (b : Fin 32) (s : Fin 2) (z : Fin 1024) (y : Fin 1408) :
    (iblk m c 4 (pnt b s) (ix2 z y) : EReal) = D m c (ix2 (inn s y) z) := by
  rw [← D_host]; unfold inn; blk_ext [iblk, idx4]
theorem blk5 (b : Fin 32) (s : Fin 2) (r : Fin 512) (k : Fin 1024) : (iblk m c 5 (pnt b s) (ix2 r k) : EReal) = O m c (ix2 (row b r) k) := by
  rw [← O_host]; unfold row; blk_ext [iblk, idx5]

/-- What a point leaves, from what the point before left. -/
theorem st_eq (n : ℕ) (hn : n < cfg0.N) :
    ∃ acc : St, outsAt0 m c n hn = stAt0 m c n hn acc ∧ ∀ k (hk : k < cfg0.N), n = k + 1 → acc = outsAt0 m c k hk := by
  cases n with
  | zero => exact ⟨_, outsAt0_zero m c hn, fun k _ h => absurd h (by omega)⟩
  | succ n =>
    refine ⟨_, outsAt0_succ m c n hn, fun k hk h => ?_⟩
    obtain rfl : n = k := by omega
    rfl

/-- The normed rows are in their block at both points of a row block, … -/
theorem h_at (b : Fin 32) (s : Fin 2) (r : Fin 512) (k : Fin 1024) :
    ((outsAt0 m c (pnt b s).val (pnt b s).isLt).1 (ix2 r k) : EReal) = hN (X m c) (G m c) (row b r) k := by
  have e0 : ((outsAt0 m c (pnt b 0).val (pnt b 0).isLt).1 (ix2 r k) : EReal) = hN (X m c) (G m c) (row b r) k := by
    obtain ⟨acc, e, -⟩ := st_eq m c (pnt b 0).val (pnt b 0).isLt
    rw [e, first_h m c (pnt b 0) acc (by show (2 * b.val + 0) % 2 = 0; omega), pay2_apply, blk1 m c b 0 k]
    unfold hN
    exact congrArg (normed · _ k) (funext fun z => blk0 m c b 0 r z)
  match s with
  | 0 => exact e0
  | 1 =>
    obtain ⟨acc, e, ha⟩ := st_eq m c (pnt b 1).val (pnt b 1).isLt
    rw [e, second_h m c (pnt b 1) acc (by show ¬(2 * b.val + 1) % 2 = 0; omega), ha (pnt b 0).val (pnt b 0).isLt rfl]
    exact e0

/-- … and so is the scaled cotangent in the scratch buffer. -/
theorem dy_at (b : Fin 32) (s : Fin 2) (r : Fin 512) (k : Fin 1024) :
    ((outsAt0 m c (pnt b s).val (pnt b s).isLt).2.2.2.2 (ix2 r k) : EReal) = Ideal.ofBits .f32 0x3F000000#32 * O m c (ix2 (row b r) k) := by
  have e0 : ((outsAt0 m c (pnt b 0).val (pnt b 0).isLt).2.2.2.2 (ix2 r k) : EReal) = Ideal.ofBits .f32 0x3F000000#32 * O m c (ix2 (row b r) k) := by
    obtain ⟨acc, e, -⟩ := st_eq m c (pnt b 0).val (pnt b 0).isLt
    rw [e, first_dy m c (pnt b 0) acc (by show (2 * b.val + 0) % 2 = 0; omega), pay3_apply, blk5 m c b 0 r k]
  match s with
  | 0 => exact e0
  | 1 =>
    obtain ⟨acc, e, ha⟩ := st_eq m c (pnt b 1).val (pnt b 1).isLt
    rw [e, second_dy m c (pnt b 1) acc (by show ¬(2 * b.val + 1) % 2 = 0; omega), ha (pnt b 0).val (pnt b 0).isLt rfl]
    exact e0

/-- At every point the other three blocks are computed from these two. -/
theorem act_eq (t : Fin cfg0.N) :
    (outsAt0 m c t.val t.isLt).2.1 = k0_pay9 (outsAt0 m c t.val t.isLt).1 (iblk m c 2 t) (iblk m c 3 t) := by
  obtain ⟨acc, e, -⟩ := st_eq m c t.val t.isLt
  rw [e]
  by_cases h0 : t.val % 2 = 0
  · rw [first_act m c t acc h0, first_h m c t acc h0]
  · rw [second_act m c t acc h0, second_h m c t acc h0]

theorem dg_eq (t : Fin cfg0.N) :
    (outsAt0 m c t.val t.isLt).2.2.1
      = k0_pay1 (k0_pay5 (outsAt0 m c t.val t.isLt).1 (iblk m c 2 t)) (k0_pay7 (outsAt0 m c t.val t.isLt).1 (iblk m c 2 t))
          (k0_pay12 (outsAt0 m c t.val t.isLt).1 (iblk m c 3 t) (outsAt0 m c t.val t.isLt).2.2.2.2 (iblk m c 4 t))
          (k0_pay13 (outsAt0 m c t.val t.isLt).1 (iblk m c 2 t)) := by
  obtain ⟨acc, e, -⟩ := st_eq m c t.val t.isLt
  rw [e]
  by_cases h0 : t.val % 2 = 0
  · rw [first_dg m c t acc h0, first_h m c t acc h0, first_dy m c t acc h0]
  · rw [second_dg m c t acc h0, second_h m c t acc h0, second_dy m c t acc h0]

theorem du_eq (t : Fin cfg0.N) :
    (outsAt0 m c t.val t.isLt).2.2.2.1
      = k0_pay11 (outsAt0 m c t.val t.isLt).1 (iblk m c 2 t) (outsAt0 m c t.val t.isLt).2.2.2.2 (iblk m c 4 t) := by
  obtain ⟨acc, e, -⟩ := st_eq m c t.val t.isLt
  rw [e]
  by_cases h0 : t.val % 2 = 0
  · rw [first_du m c t acc h0, first_h m c t acc h0, first_dy m c t acc h0]
  · rw [second_du m c t acc h0, second_h m c t acc h0, second_dy m c t acc h0]

theorem dot_g (b : Fin 32) (s : Fin 2) (r : Fin 512) (y : Fin 1408) :
    dotc (outsAt0 m c (pnt b s).val (pnt b s).isLt).1 (iblk m c 2 (pnt b s)) r y = guN (X m c) (G m c) (W m c) (row b r) (gcol (inn s y)) :=
  Finset.sum_congr rfl fun z _ => congrArg₂ (· * ·) (h_at m c b s r z) (blk2 m c b s z y)

theorem dot_u (b : Fin 32) (s : Fin 2) (r : Fin 512) (y : Fin 1408) :
    dotc (outsAt0 m c (pnt b s).val (pnt b s).isLt).1 (iblk m c 3 (pnt b s)) r y = guN (X m c) (G m c) (W m c) (row b r) (ucol (inn s y)) :=
  Finset.sum_congr rfl fun z _ => congrArg₂ (· * ·) (h_at m c b s r z) (blk3 m c b s z y)

theorem dot_da (b : Fin 32) (s : Fin 2) (r : Fin 512) (y : Fin 1408) :
    dotc (outsAt0 m c (pnt b s).val (pnt b s).isLt).2.2.2.2 (iblk m c 4 (pnt b s)) r y = daN (D m c) (O m c) (row b r) (inn s y) :=
  Finset.sum_congr rfl fun z _ => congrArg₂ (· * ·) (dy_at m c b s r z) (blk4 m c b s z y)

/-- The sweep's state is what its points leave. -/
theorem fold_at (n : ℕ) (hn : 0 + n < cfg0.N) (t : Fin cfg0.N) (h : n = t.val) :
    Pipeline.accAt (fun n h => stAt0 m c n h junk0) (stAt0 m c) 0 n hn = outsAt0 m c t.val t.isLt := by
  subst h
  exact (outsAt0_sweep m c t.val t.isLt).symm

theorem loc_in (b : Fin 32) (s : Fin 2) (r : Fin 512) (y : Fin 1408) : loc7Of (ix2 (row b r) (inn s y)) = ix2 r y := by
  funext a
  apply Fin.ext
  match a with
  | ⟨0, _⟩ => show (512 * b.val + r.val) % 512 = r.val; omega
  | ⟨1, _⟩ => show (1408 * s.val + y.val) % 1408 = y.val; omega

theorem pt_in (b : Fin 32) (s : Fin 2) (r : Fin 512) (y : Fin 1408) : pt7Of (ix2 (row b r) (inn s y)) = (pnt b s).val := by
  show 2 * ((512 * b.val + r.val) / 512 - 0) + 1 * ((1408 * s.val + y.val) / 1408 - 0) = 2 * b.val + s.val
  omega

/-- The kernel's first result, … -/
theorem res6 (b : Fin 32) (r : Fin 512) (k : Fin 1024) : (G6 m c (ix2 (row b r) k) : EReal) = hN (X m c) (G m c) (row b r) k := by
  have hp : pt6Of (ix2 (row b r) k) = (pnt b 1).val := by
    show 2 * (1 * ((512 * b.val + r.val) / 512 - 0) + 1 * (k.val / 1024 - 0)) + 1 = 2 * b.val + 1
    omega
  have hl : loc6Of (ix2 (row b r) k) = ix2 r k := by
    funext a
    apply Fin.ext
    match a with
    | ⟨0, _⟩ => show (512 * b.val + r.val) % 512 = r.val; omega
    | ⟨1, _⟩ => show k.val % 1024 = k.val; omega
  unfold G6
  rw [dif_pos (by rw [hp]; exact (pnt b 1).isLt), hl, fold_at m c _ _ (pnt b 1) hp]
  exact h_at m c b 1 r k

/-- … its second, … -/
theorem res7 (b : Fin 32) (s : Fin 2) (r : Fin 512) (y : Fin 1408) :
    (G7 m c (ix2 (row b r) (inn s y)) : EReal)
      = guN (X m c) (G m c) (W m c) (row b r) (gcol (inn s y)) * sgm (guN (X m c) (G m c) (W m c) (row b r) (gcol (inn s y)))
        * guN (X m c) (G m c) (W m c) (row b r) (ucol (inn s y)) := by
  have hp := pt_in b s r y
  unfold G7
  rw [dif_pos (by rw [hp]; exact (pnt b s).isLt), loc_in b s r y, fold_at m c _ _ (pnt b s) hp, act_eq, pay9_apply, dot_g, dot_u]

/-- … its third … -/
theorem res8 (b : Fin 32) (s : Fin 2) (r : Fin 512) (y : Fin 1408) :
    (G8 m c (ix2 (row b r) (inn s y)) : EReal)
      = daN (D m c) (O m c) (row b r) (inn s y) * guN (X m c) (G m c) (W m c) (row b r) (ucol (inn s y))
        * (sgm (guN (X m c) (G m c) (W m c) (row b r) (gcol (inn s y)))
          * (1 + guN (X m c) (G m c) (W m c) (row b r) (gcol (inn s y)) * (1 - sgm (guN (X m c) (G m c) (W m c) (row b r) (gcol (inn s y)))))) := by
  have hp : pt8Of (ix2 (row b r) (inn s y)) = (pnt b s).val := pt_in b s r y
  have hl : loc8Of (ix2 (row b r) (inn s y)) = ix2 r y := loc_in b s r y
  unfold G8
  rw [dif_pos (by rw [hp]; exact (pnt b s).isLt), hl, fold_at m c _ _ (pnt b s) hp, dg_eq, pay1_apply, dot_g, dot_u, dot_da]

/-- … and its fourth. -/
theorem res9 (b : Fin 32) (s : Fin 2) (r : Fin 512) (y : Fin 1408) :
    (G9 m c (ix2 (row b r) (inn s y)) : EReal)
      = daN (D m c) (O m c) (row b r) (inn s y)
        * (guN (X m c) (G m c) (W m c) (row b r) (gcol (inn s y)) * sgm (guN (X m c) (G m c) (W m c) (row b r) (gcol (inn s y)))) := by
  have hp : pt9Of (ix2 (row b r) (inn s y)) = (pnt b s).val := pt_in b s r y
  have hl : loc9Of (ix2 (row b r) (inn s y)) = ix2 r y := loc_in b s r y
  unfold G9
  rw [dif_pos (by rw [hp]; exact (pnt b s).isLt), hl, fold_at m c _ _ (pnt b s) hp, du_eq, pay11_apply, dot_g, dot_da]

theorem row_onto (z : Fin 16384) : ∃ b r, row b r = z := ⟨⟨z.val / 512, by omega⟩, ⟨z.val % 512, by omega⟩,
  Fin.ext (show 512 * (z.val / 512) + z.val % 512 = z.val by omega)⟩

theorem inn_onto (z : Fin 2816) : ∃ s y, inn s y = z := ⟨⟨z.val / 1408, by omega⟩, ⟨z.val % 1408, by omega⟩,
  Fin.ext (show 1408 * (z.val / 1408) + z.val % 1408 = z.val by omega)⟩

open Cert.Reference6Ideal.Read

/-- The first result is the reference's, … -/
theorem value6 : G6 m c = val_main_v27 (F := Ideal) (X m c) (G m c) := by
  refine funext fun i => ?_
  rw [show i = ix2 (i 0) (i 1) from eq_ix2 i]
  obtain ⟨b, r, hz⟩ := row_onto (i 0)
  rw [← hz]
  exact (res6 m c b r (i 1)).trans (ref_r0 _ _ _ _).symm

/-- … so is the second, … -/
theorem value7 : G7 m c = val_main_v28 (F := Ideal) (X m c) (G m c) (W m c) := by
  refine funext fun i => ?_
  rw [show i = ix2 (i 0) (i 1) from eq_ix2 i]
  obtain ⟨b, r, hz⟩ := row_onto (i 0)
  obtain ⟨s, y, hy⟩ := inn_onto (i 1)
  rw [← hz, ← hy]
  exact (res7 m c b s r y).trans (ref_r1 _ _ _ _ _).symm

/-- … the third, on finite arguments, … -/
theorem value8 (h : Cert.Pre_Kernel6Ideal_finite6 m) : G8 m c = val_main_v29 (F := Ideal) (X m c) (G m c) (W m c) (D m c) (O m c) := by
  obtain ⟨hx, hg, hw, hd, ho⟩ := args_real m h c
  refine funext fun i => ?_
  rw [show i = ix2 (i 0) (i 1) from eq_ix2 i]
  obtain ⟨b, r, hz⟩ := row_onto (i 0)
  obtain ⟨s, y, hy⟩ := inn_onto (i 1)
  rw [← hz, ← hy]
  exact (res8 m c b s r y).trans (ref_dg _ _ _ _ _ hx hg hw hd ho _ _).symm

/-- … and the fourth. -/
theorem value9 : G9 m c = val_main_v30 (F := Ideal) (X m c) (G m c) (W m c) (D m c) (O m c) := by
  refine funext fun i => ?_
  rw [show i = ix2 (i 0) (i 1) from eq_ix2 i]
  obtain ⟨b, r, hz⟩ := row_onto (i 0)
  obtain ⟨s, y, hy⟩ := inn_onto (i 1)
  rw [← hz, ← hy]
  exact ((res9 m c b s r y).trans (EReal.mul_comm _ _)).trans (ref_r3 _ _ _ _ _ _ _).symm

/-- From equal finite arguments the kernel and the reference end with equal results. -/
theorem algebraic : Cert.algebraic_Kernel6Ideal_Reference6Ideal_pre_finite6 := by
  intro m g m' g' hpre hargs
  refine ⟨fun c => G6 m c, fun c => G7 m c, fun c => G8 m c, fun c => G9 m c, run m g, ?_⟩
  refine (θ_run _ _ _).mono (fun r h c => ?_) (Cert.Reference6Ideal.Value.run m' g')
  obtain ⟨h0, h1, h2, h3, h4⟩ := hargs c
  obtain ⟨e0, e1, e2, e3, e4⟩ := h c
  refine ⟨?_, ?_, ?_, ?_, e4⟩
  · rw [e0, val_main_v27_eq, h0, h1]
    exact (value6 m c).symm
  · rw [e1, val_main_v28_eq, h0, h1, h2]
    exact (value7 m c).symm
  · rw [e2, val_main_v29_eq, h0, h1, h2, h3, h4]
    exact (value8 m c hpre).symm
  · rw [e3, val_main_v30_eq, h0, h1, h2, h3, h4]
    exact (value9 m c).symm

end Cert.Ffn.W6

end
-- ==== Proof.FF.Proj.lean ====
/- The backward call of the mixer's first norm and projection: what a grid point leaves in its block of the input's gradient, and in the
   gradients of the weight and of the gain, which all points add to. -/
module

public import proofs.«01_k».proof.Proof.Gen.Kernel7Ideal.Value
public import proofs.«01_k».proof.Defs
public import Idealize.ShloMosaic.Lib.Pointwise
public import Idealize.ShloMosaic.Lib.Pipeline.ValueKit.Point

@[expose] public section

set_option maxRecDepth 65536

noncomputable section

open scoped BigOperators

namespace Cert.Ffn.W7

open Cert.Kernel7Ideal Cert.Kernel7Ideal.Gen Idealize.ShloMosaic Idealize.ShloMosaic.TcCoe Idealize.ShloMosaic.Tactic

theorem hz : (![0, 0] : Fin 2 → Nat) = fun _ => 0 := funext fun a => by fin_cases a <;> rfl

variable (m : (ℓ : Loc nD τ sig) → Buf (Elt Ideal) ℓ) (c : Dev nD)

/-- A block's rows of the input gradient, from the blocks the point reads. -/
def dxB (t : Fin cfg0.N) : Vec Ideal S512x1024 .f32 :=
  k0_pay1 (k0_pay4 (iblk m c 0 t)) (k0_pay5 (iblk m c 0 t)) (k0_pay7 (iblk m c 3 t) (iblk m c 2 t)) (iblk m c 4 t) (iblk m c 1 t)

/-- The weight's gradient after a block, from what it was before. -/
def dwB (t : Fin cfg0.N) (acc : Vec Ideal S1024x1280 .f32) : Vec Ideal S1024x1280 .f32 :=
  k0_pay8 (iblk m c 0 t) (iblk m c 3 t) acc (iblk m c 1 t)

/-- The gain's gradient after a block, from what it was before. -/
def dgB (t : Fin cfg0.N) (acc : Vec Ideal S1x1024 .f32) : Vec Ideal S1x1024 .f32 :=
  k0_pay9 (iblk m c 0 t) (iblk m c 3 t) (iblk m c 2 t) acc

theorem dx_first (t : Fin cfg0.N) (h0 : t.val % 32 = 0) :
    (outsAt0 m c t.val t.isLt).1 = dxB m c t := by
  rw [outsAt0_A m c t h0]
  dsimp only
  unfold out0_A_5
  rw [View.read_writes_eq_canon _ _ _ (cover0_A_5 (F := Ideal) c _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S512x1280) hz,
    View.ld_unit_zero (S := S1024x1280) hz, shapeCast_self]
  rfl

theorem dx_later (t : Fin cfg0.N) (h0 : ¬t.val % 32 = 0) :
    (outsAt0 m c t.val t.isLt).1 = dxB m c t := by
  rw [outsAt0_B m c t h0]
  dsimp only
  unfold out0_B_5
  rw [View.read_writes_eq_canon _ _ _ (cover0_B_5 (F := Ideal) c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread,
    View.ld_unit_zero (S := S512x1024) hz, View.ld_unit_zero (S := S1x1024) hz, View.ld_unit_zero (S := S512x1280) hz,
    View.ld_unit_zero (S := S1024x1280) hz, shapeCast_self]
  rfl

theorem dw_first (t : Fin cfg0.N) (h0 : t.val % 32 = 0) :
    (outsAt0 m c t.val t.isLt).2.1 = dwB m c t (k0_pay2 (F := Ideal)) := by
  rw [outsAt0_A m c t h0]
  dsimp only
  unfold out0_A_6
  rw [View.read_writes_eq_canon _ _ _ (cover0_A_6 (F := Ideal) c _ _ _ _ _ _ _ _ _ _ _ _ _ _ _ _ _ _ _ _ _ _ _)]
  unfold kernelRun0_A
  dsimp only
  sl_unfold_words
  rw [View.canon_cons_unit_zero (S := S1024x1280) hz, View.readCov_unit_zero (S := S1024x1280) _ hz]
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S512x1280) hz,
    View.ld_unit_zero (S := S1024x1280) hz, shapeCast_self]
  rfl

theorem dw_later (t : Fin cfg0.N) (h0 : ¬t.val % 32 = 0) :
    (outsAt0 m c t.val t.isLt).2.1 = dwB m c t (outsAt0 m c (t.val - 1) (Nat.lt_of_le_of_lt (Nat.sub_le _ _) t.isLt)).2.1 := by
  rw [outsAt0_B m c t h0]
  dsimp only
  unfold out0_B_6
  rw [View.read_writes_eq_canon _ _ _ (cover0_B_6 (F := Ideal) c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread,
    View.ld_unit_zero (S := S512x1024) hz, View.ld_unit_zero (S := S1x1024) hz, View.ld_unit_zero (S := S512x1280) hz,
    View.ld_unit_zero (S := S1024x1280) hz, shapeCast_self]
  rfl

theorem dg_first (t : Fin cfg0.N) (h0 : t.val % 32 = 0) :
    (outsAt0 m c t.val t.isLt).2.2 = dgB m c t (k0_pay3 (F := Ideal)) := by
  rw [outsAt0_A m c t h0]
  dsimp only
  unfold out0_A_7
  rw [View.read_writes_eq_canon _ _ _ (cover0_A_7 (F := Ideal) c _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S512x1280) hz,
    View.ld_unit_zero (S := S1024x1280) hz, shapeCast_self]
  rfl

theorem dg_later (t : Fin cfg0.N) (h0 : ¬t.val % 32 = 0) :
    (outsAt0 m c t.val t.isLt).2.2 = dgB m c t (outsAt0 m c (t.val - 1) (Nat.lt_of_le_of_lt (Nat.sub_le _ _) t.isLt)).2.2 := by
  rw [outsAt0_B m c t h0]
  dsimp only
  unfold out0_B_7
  rw [View.read_writes_eq_canon _ _ _ (cover0_B_7 (F := Ideal) c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, (hs0_7 t).read_unread,
    View.ld_unit_zero (S := S512x1024) hz, View.ld_unit_zero (S := S1x1024) hz, View.ld_unit_zero (S := S512x1280) hz,
    View.ld_unit_zero (S := S1024x1280) hz, shapeCast_self]
  rfl

/-- The rows' gradient behind the norm. -/
theorem pay7_apply (a : Vec Ideal S512x1280 .bf16) (w : Vec Ideal S1024x1280 .bf16) (r : Fin 512) (k : Fin 1024) :
    (k0_pay7 a w : FVec Ideal S512x1024 .f32) (ix2 r k) = ∑ y : Fin 1280, a (ix2 r y) * w (ix2 k y) := by
  unfold k0_pay7 k0_pay6
  pointwise

/-- One over a row's root mean square. -/
def rms (x : Fin 1024 → EReal) : EReal := Ideal.rsqrt (Ideal.div (∑ z, x z * x z) (Ideal.ofBits .f32 0x44800000#32) + Ideal.ofBits .f32 0x358637BD#32)

theorem pay4_apply (x : Vec Ideal S512x1024 .f32) (r : Fin 512) (z : Fin 1) : (k0_pay4 x : FVec Ideal S512x1 .f32) (ix2 r z) = rms fun z => x (ix2 r z) := by
  unfold k0_pay4 rms
  pointwise

theorem pay5_apply (x : Vec Ideal S512x1024 .f32) (r : Fin 512) (k : Fin 1024) :
    (k0_pay5 x : FVec Ideal S512x1024 .f32) (ix2 r k) = x (ix2 r k) * rms fun z => x (ix2 r z) := by
  rw [← pay4_apply x r 0]
  unfold k0_pay5
  generalize k0_pay4 x = q
  pointwise

theorem pay1_apply (q : FVec Ideal S512x1 .f32) (h d o : FVec Ideal S512x1024 .f32) (g : Vec Ideal S1x1024 .f32) (r : Fin 512) (k : Fin 1024) :
    (k0_pay1 q h d o g : FVec Ideal S512x1024 .f32) (ix2 r k)
      = o (ix2 r k) + q (ix2 r 0) * (d (ix2 r k) * g (ix2 0 k)
          - h (ix2 r k) * Ideal.div (∑ z : Fin 1024, d (ix2 r z) * g (ix2 0 z) * h (ix2 r z)) (Ideal.ofBits .f32 0x44800000#32)) := by
  unfold k0_pay1
  pointwise

theorem pay8_apply (x : Vec Ideal S512x1024 .f32) (a : Vec Ideal S512x1280 .bf16) (acc : Vec Ideal S1024x1280 .f32) (g : Vec Ideal S1x1024 .f32)
    (k : Fin 1024) (y : Fin 1280) :
    (k0_pay8 x a acc g : FVec Ideal S1024x1280 .f32) (ix2 k y)
      = acc (ix2 k y) + ∑ r : Fin 512, (k0_pay5 x : FVec Ideal S512x1024 .f32) (ix2 r k) * g (ix2 0 k) * a (ix2 r y) := by
  unfold k0_pay8 k0_pay6
  generalize (k0_pay5 x : FVec Ideal S512x1024 .f32) = h
  pointwise

theorem pay9_apply (x : Vec Ideal S512x1024 .f32) (a : Vec Ideal S512x1280 .bf16) (w : Vec Ideal S1024x1280 .bf16) (acc : Vec Ideal S1x1024 .f32) (k : Fin 1024) :
    (k0_pay9 x a w acc : FVec Ideal S1x1024 .f32) (ix2 0 k)
      = acc (ix2 0 k) + ∑ r : Fin 512, (k0_pay7 a w : FVec Ideal S512x1024 .f32) (ix2 r k) * (k0_pay5 x : FVec Ideal S512x1024 .f32) (ix2 r k) := by
  unfold k0_pay9
  generalize (k0_pay7 a w : FVec Ideal S512x1024 .f32) = d
  generalize (k0_pay5 x : FVec Ideal S512x1024 .f32) = h
  pointwise

theorem pay2_apply (i : S1024x1280.Idx) : (k0_pay2 : FVec Ideal S1024x1280 .f32) i = 0 := by
  unfold k0_pay2
  pointwise

theorem pay3_apply (i : S1x1024.Idx) : (k0_pay3 : FVec Ideal S1x1024 .f32) i = 0 := by
  unfold k0_pay3
  pointwise

end Cert.Ffn.W7

end
-- ==== Proof.FF.ProjBack.lean ====
/- The backward call of the mixer's first norm and projection: what the kernel leaves in its three results is what the reference computes. -/
module

public import proofs.«01_k».proof.Proof.FF.Proj
public import proofs.«01_k».proof.Proof.FF.Norm
public import proofs.«01_k».proof.Proof.Gen.Reference7Ideal.Run
public import proofs.«01_k».proof.Proof.Gen.Reference7Ideal.Read

@[expose] public section

set_option maxRecDepth 65536

noncomputable section

open scoped BigOperators

namespace Cert.Ffn.W7

open Cert.Kernel7Ideal Cert.Kernel7Ideal.Gen Idealize.ShloMosaic Idealize.ShloMosaic.TcCoe Idealize.ShloMosaic.Tactic

/-- Row block `b` as a grid point. -/
def pnt (b : Fin 32) : Fin cfg0.N := ⟨b.val, by have := N_0; show _ < grid0.N; omega⟩

theorem exists_pnt (t : Fin cfg0.N) : ∃ b, t = pnt b := ⟨⟨t.val, lt_of_lt_of_eq t.isLt (show cfg0.N = 32 from N_0)⟩, rfl⟩

theorem idx0 : ∀ b, win0_0.index (pnt b) = ![b.val, 0] := by decide +kernel
theorem idx1 : ∀ b, win0_1.index (pnt b) = ![0, 0] := by decide +kernel
theorem idx2 : ∀ b, win0_2.index (pnt b) = ![0, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![0, 0] := by decide +kernel
theorem idx7 : ∀ b, win0_7.index (pnt b) = ![0, 0] := by decide +kernel

/-- Row `r` of block `b`. -/
def row (b : Fin 32) (r : Fin 512) : Fin 16384 := ⟨512 * b.val + r.val, by omega⟩

variable (m : (ℓ : Loc nD τ sig) → Buf (Elt Ideal) ℓ) (c : Dev nD)

/-- The mixer's input, … -/
def X : Vec Ideal S16384x1024 .f32 := m ((c.tc : Thread nD τ).loc main_arg0)
/-- … the gain, … -/
def G : Vec Ideal S1024 .f32 := m ((c.tc : Thread nD τ).loc main_arg1)
/-- … the projection's weight, … -/
def W : Vec Ideal S1024x1280 .f32 := m ((c.tc : Thread nD τ).loc main_arg2)
/-- … the gradient of the projection … -/
def A : Vec Ideal S16384x1280 .f32 := m ((c.tc : Thread nD τ).loc main_arg3)
/-- … and the input's gradient along the residual path. -/
def O : Vec Ideal S16384x1024 .f32 := m ((c.tc : Thread nD τ).loc main_arg4)

theorem X_host : (V m c main_arg0 : Vec Ideal S16384x1024 .f32) = X m c := V_main_arg0 m c
theorem O_host : (V m c main_arg4 : Vec Ideal S16384x1024 .f32) = O m c := V_main_arg4 m c
theorem A_host : (V m c main_v2 : Vec Ideal S16384x1280 .bf16) = A m c := by
  dsimp only [V, hostOps0]
  after_results
  rfl
theorem W_host : (V m c main_v1 : Vec Ideal S1024x1280 .bf16) = W m c := by
  dsimp only [V, hostOps0]
  after_results
  rfl
theorem G_host (k : Fin 1024) : (V m c main_v0 : Vec Ideal S1x1024 .f32) (ix2 0 k) = G m c (ix1 k) := by
  dsimp only [V, hostOps0]
  after_results
  show shapeCast S1x1024 (G m c) shapeCasts_S1024_S1x1024 (ix2 0 k) = _
  pointwise

theorem blk0 (b : Fin 32) (r : Fin 512) (k : Fin 1024) : (iblk m c 0 (pnt b) (ix2 r k) : EReal) = X m c (ix2 (row b r) k) := by
  rw [← X_host]; unfold row; blk_ext [iblk, idx0]
theorem blk1 (b : Fin 32) (k : Fin 1024) : (iblk m c 1 (pnt b) (ix2 0 k) : EReal) = G m c (ix1 k) := by
  rw [← G_host]; blk_ext [iblk, idx1]
theorem blk2 (b : Fin 32) (k : Fin 1024) (y : Fin 1280) : (iblk m c 2 (pnt b) (ix2 k y) : EReal) = W m c (ix2 k y) := by
  rw [← W_host]; blk_ext [iblk, idx2]
theorem blk3 (b : Fin 32) (r : Fin 512) (y : Fin 1280) : (iblk m c 3 (pnt b) (ix2 r y) : EReal) = A m c (ix2 (row b r) y) := by
  rw [← A_host]; unfold row; blk_ext [iblk, idx3]
theorem blk4 (b : Fin 32) (r : Fin 512) (k : Fin 1024) : (iblk m c 4 (pnt b) (ix2 r k) : EReal) = O m c (ix2 (row b r) k) := by
  rw [← O_host]; unfold row; blk_ext [iblk, idx4]

/-- The gradient behind the norm. -/
def dh (w : Vec Ideal S1024x1280 .f32) (a : Vec Ideal S16384x1280 .f32) (r : Fin 16384) (k : Fin 1024) : EReal := ∑ y, a (ix2 r y) * w (ix2 k y)

/-- A row of an array. -/
def rowOf (x : Vec Ideal S16384x1024 .f32) (r : Fin 16384) : Fin 1024 → EReal := fun z => x (ix2 r z)

theorem dh_apply (b : Fin 32) (r : Fin 512) (k : Fin 1024) :
    (k0_pay7 (iblk m c 3 (pnt b)) (iblk m c 2 (pnt b)) : FVec Ideal S512x1024 .f32) (ix2 r k) = dh (W m c) (A m c) (row b r) k := by
  rw [pay7_apply]
  exact Finset.sum_congr rfl fun y _ => congrArg₂ (· * ·) (blk3 m c b r y) (blk2 m c b k y)

theorem rms_apply (b : Fin 32) (r : Fin 512) : (rms fun z => iblk m c 0 (pnt b) (ix2 r z)) = Ideal.rsqrt (ms (rowOf (X m c) (row b r))) :=
  congrArg rms (funext fun z => blk0 m c b r z)

/-- The input's gradient, as the kernel writes it: `x` is a row, `a` its gradient behind the gain. -/
def dxK (x a : Fin 1024 → EReal) (o : EReal) (k : Fin 1024) : EReal :=
  o + Ideal.rsqrt (ms x) * (a k - x k * Ideal.rsqrt (ms x) * Ideal.div (∑ z, a z * (x z * Ideal.rsqrt (ms x))) (Ideal.ofBits .f32 0x44800000#32))

theorem dxB_apply (b : Fin 32) (r : Fin 512) (k : Fin 1024) :
    (dxB m c (pnt b) (ix2 r k) : EReal)
      = dxK (rowOf (X m c) (row b r)) (fun z => dh (W m c) (A m c) (row b r) z * G m c (ix1 z)) (O m c (ix2 (row b r) k)) k := by
  unfold dxB
  rw [pay1_apply, pay4_apply]
  simp only [pay5_apply, dh_apply, rms_apply]
  unfold dxK
  rw [blk4 m c b r k, blk0 m c b r k, blk1 m c b k]
  refine congrArg (fun s => O m c (ix2 (row b r) k) + Ideal.rsqrt (ms (rowOf (X m c) (row b r))) * (dh (W m c) (A m c) (row b r) k * G m c (ix1 k)
    - X m c (ix2 (row b r) k) * Ideal.rsqrt (ms (rowOf (X m c) (row b r))) * Ideal.div s (Ideal.ofBits .f32 0x44800000#32))) (Finset.sum_congr rfl fun z _ => ?_)
  rw [blk0 m c b r z, blk1 m c b z]
  rfl

/-- A block's part of the gain's gradient. -/
def dgA (b : Fin 32) (k : Fin 1024) : EReal :=
  ∑ r : Fin 512, dh (W m c) (A m c) (row b r) k * (rowOf (X m c) (row b r) k * Ideal.rsqrt (ms (rowOf (X m c) (row b r))))

theorem dgB_apply (b : Fin 32) (acc : Vec Ideal S1x1024 .f32) (k : Fin 1024) : (dgB m c (pnt b) acc (ix2 0 k) : EReal) = acc (ix2 0 k) + dgA m c b k := by
  unfold dgB dgA
  rw [pay9_apply]
  refine congrArg (acc (ix2 0 k) + ·) (Finset.sum_congr rfl fun r _ => ?_)
  rw [dh_apply, pay5_apply, rms_apply, blk0 m c b r k]
  rfl

/-- The input gradient's array after the run. -/
theorem arr5 (b : Fin 32) (r : Fin 512) (k : Fin 1024) :
    ((dats m 0 c).arrAt 5 cfg0.N (ix2 (row b r) k) : EReal)
      = dxK (rowOf (X m c) (row b r)) (fun z => dh (W m c) (A m c) (row b r) z * G m c (ix1 z)) (O m c (ix2 (row b r) k)) k := by
  have e1 := congrFun (Value.blocks5 m c (pnt b) (flush0_5 _)) (ix2 r k)
  rw [Value.flushed5] at e1
  have e2 : (outsAt0 m c (pnt b).val (pnt b).isLt).1 = dxB m c (pnt b) := by
    by_cases h : (pnt b).val % 32 = 0
    · exact dx_first m c _ h
    · exact dx_later m c _ h
  rw [← dxB_apply, ← e2]
  refine Eq.trans ?_ e1
  unfold row
  blk_ext [idx5]

/-- The gain's gradient after row block `n`. -/
theorem left7 (k : Fin 1024) (n : ℕ) (hn : n < 32) :
    ((outsAt0 m c (pnt ⟨n, hn⟩).val (pnt ⟨n, hn⟩).isLt).2.2 (ix2 0 k) : EReal) = ∑ b : Fin (n + 1), dgA m c ⟨b.val, by omega⟩ k := by
  induction n with
  | zero =>
    rw [dg_first m c (pnt ⟨0, hn⟩) rfl, dgB_apply, pay3_apply, zero_add]
    simp
  | succ n ih =>
    have h0 : ¬(pnt ⟨n + 1, hn⟩).val % 32 = 0 := by show ¬(n + 1) % 32 = 0; omega
    rw [dg_later m c _ h0, dgB_apply, Fin.sum_univ_castSucc]
    exact congrArg (· + dgA m c ⟨n + 1, hn⟩ k) (ih (by omega))

/-- The gain's gradient is written back once, after the last block. -/
theorem disj7 : ∀ t t' : Fin cfg0.N, (cfg0.win 7).flush t = true → (cfg0.win 7).flush t' = true → t ≠ t' →
    Disjoint ((cfg0.win 7).blk t).view.set ((cfg0.win 7).blk t').view.set := by
  intro t t' hf hf' hne
  have h1 := (flush0_7 t).1 hf
  have h2 := (flush0_7 t').1 hf'
  obtain ⟨a, rfl⟩ := exists_pnt t
  obtain ⟨a', rfl⟩ := exists_pnt t'
  have h1' : a.val % 32 = 31 := h1
  have h2' : a'.val % 32 = 31 := h2
  exact absurd (congrArg pnt (Fin.ext (show a.val = a'.val by omega))) hne

/-- The gain gradient's array. -/
theorem arr7 (k : Fin 1024) : ((dats m 0 c).arrAt 7 cfg0.N (ix2 0 k) : EReal) = ∑ b : Fin 32, dgA m c b k := by
  have e1 := congrFun ((dats m 0 c).read_blk_arrAt_eq_flushed 7 disj7 cfg0.N (pnt 31) (pnt 31).isLt ((flush0_7 _).2 rfl)) (ix2 0 k)
  rw [Value.flushed7] at e1
  refine Eq.trans ?_ (e1.trans (left7 m c k 31 (by omega)))
  blk_ext [idx7]

/-- A block's part of the weight's gradient. -/
def dwA (b : Fin 32) (k : Fin 1024) (y : Fin 1280) : EReal :=
  ∑ r : Fin 512, rowOf (X m c) (row b r) k * Ideal.rsqrt (ms (rowOf (X m c) (row b r))) * G m c (ix1 k) * A m c (ix2 (row b r) y)

theorem dwB_apply (b : Fin 32) (acc : Vec Ideal S1024x1280 .f32) (k : Fin 1024) (y : Fin 1280) :
    (dwB m c (pnt b) acc (ix2 k y) : EReal) = acc (ix2 k y) + dwA m c b k y := by
  unfold dwB dwA
  rw [pay8_apply]
  refine congrArg (acc (ix2 k y) + ·) (Finset.sum_congr rfl fun r _ => ?_)
  rw [pay5_apply, rms_apply, blk0 m c b r k, blk1 m c b k]
  exact congrArg (X m c (ix2 (row b r) k) * Ideal.rsqrt (ms (rowOf (X m c) (row b r))) * G m c (ix1 k) * ·) (blk3 m c b r y)

/-- The weight's gradient after row block `n`. -/
theorem left6 (k : Fin 1024) (y : Fin 1280) (n : ℕ) (hn : n < 32) :
    ((outsAt0 m c (pnt ⟨n, hn⟩).val (pnt ⟨n, hn⟩).isLt).2.1 (ix2 k y) : EReal) = ∑ b : Fin (n + 1), dwA m c ⟨b.val, by omega⟩ k y := by
  induction n with
  | zero =>
    rw [dw_first m c (pnt ⟨0, hn⟩) rfl, dwB_apply, pay2_apply, zero_add]
    simp
  | succ n ih =>
    have h0 : ¬(pnt ⟨n + 1, hn⟩).val % 32 = 0 := by show ¬(n + 1) % 32 = 0; omega
    rw [dw_later m c _ h0, dwB_apply, Fin.sum_univ_castSucc]
    exact congrArg (· + dwA m c ⟨n + 1, hn⟩ k y) (ih (by omega))

/-- The weight's gradient is written back once, after the last block. -/
theorem disj6 : ∀ t t' : Fin cfg0.N, (cfg0.win 6).flush t = true → (cfg0.win 6).flush t' = true → t ≠ t' →
    Disjoint ((cfg0.win 6).blk t).view.set ((cfg0.win 6).blk t').view.set := by
  intro t t' hf hf' hne
  have h1 := (flush0_6 t).1 hf
  have h2 := (flush0_6 t').1 hf'
  obtain ⟨a, rfl⟩ := exists_pnt t
  obtain ⟨a', rfl⟩ := exists_pnt t'
  have h1' : a.val % 32 = 31 := h1
  have h2' : a'.val % 32 = 31 := h2
  exact absurd (congrArg pnt (Fin.ext (show a.val = a'.val by omega))) hne

/-- The weight gradient's array. -/
theorem arr6 (k : Fin 1024) (y : Fin 1280) : ((dats m 0 c).arrAt 6 cfg0.N (ix2 k y) : EReal) = ∑ b : Fin 32, dwA m c b k y := by
  have e1 := congrFun ((dats m 0 c).read_blk_arrAt_eq_flushed 6 disj6 cfg0.N (pnt 31) (pnt 31).isLt ((flush0_6 _).2 rfl)) (ix2 k y)
  rw [Value.flushed6] at e1
  refine Eq.trans ?_ (e1.trans (left6 m c k y 31 (by omega)))
  blk_ext [idx6]

section Reference

open Cert.Reference7Ideal.Read

variable (x : Vec Ideal S16384x1024 .f32) (g : Vec Ideal S1024 .f32) (w : Vec Ideal S1024x1280 .f32) (a : Vec Ideal S16384x1280 .f32)
  (o : Vec Ideal S16384x1024 .f32)

theorem zero_lit : (FloatOps.ofBits (F := Ideal) .f32 0#32 : EReal) = 0 := by simp [FloatOps.ofBits, Ideal.ofBits, Ideal.ieee]

theorem ref_dh (r : Fin 16384) (k : Fin 1024) : (val_main_v19 (F := Ideal) w a (ix2 r k) : EReal) = dh w a r k := by
  rw [val_main_v19_apply]
  exact Finset.sum_congr rfl fun y _ => congrArg₂ (· * ·) (congrArg a (eq_ix2 _)) (congrArg w (eq_ix2 _))

theorem ref_ms (r : Fin 16384) : (val_main_v6 (F := Ideal) x (ix2 r 0) : EReal) = ms (rowOf x r) := by
  rw [val_main_v6_apply, val_main_v4_apply, val_main_v2_apply, val_main_v1_apply, val_main_v3_apply, val_main_v5_apply]
  simp only [val_main_v0_apply, val_main_cst_apply, val_main_cst_0_apply, val_main_cst_1_apply]
  have e : ∀ z, idx_main_v1 (idx_main_v2 (ix2 r 0)) z = ix2 r z := fun z => eq_ix2 _
  simp only [e]
  rw [zero_lit, zero_add]
  rfl

theorem ref_r (r : Fin 16384) : (val_main_v7 (F := Ideal) x (ix2 r 0) : EReal) = Ideal.rsqrt (ms (rowOf x r)) := by
  rw [val_main_v7_apply, ref_ms]; rfl

theorem ref_xhat (r : Fin 16384) (k : Fin 1024) : (val_main_v12 (F := Ideal) x (ix2 r k) : EReal) = rowOf x r k * Ideal.rsqrt (ms (rowOf x r)) := by
  rw [val_main_v12_apply, val_main_v11_apply, show idx_main_v11 (ix2 r k) = ix2 r 0 from eq_ix2 _, ref_r]
  rfl

theorem ref_a (r : Fin 16384) (k : Fin 1024) : (val_main_v24 (F := Ideal) g w a (ix2 r k) : EReal) = dh w a r k * g (ix1 k) := by
  rw [val_main_v24_apply, ref_dh, val_main_v23_apply, val_main_v13_apply, show idx_main_v13 (idx_main_v23 (ix2 r k)) = ix1 k from eq_ix1 _]
  rfl

/-- The factor of a row's own entries. -/
theorem ref_c (r : Fin 16384) (k : Fin 1024) : (val_main_v35 (F := Ideal) x g w a (ix2 r k) : EReal)
    = Ideal.div ((∑ z, rowOf x r z * (dh w a r z * g (ix1 z))) * (Ideal.ofBits .f32 0xBF000000#32 * Ideal.div (Ideal.rsqrt (ms (rowOf x r))) (ms (rowOf x r))))
        (Ideal.ofBits .f32 0x44800000#32) := by
  rw [val_main_v35_apply, show idx_main_v35 (ix2 r k) = ix1 r from eq_ix1 _, val_main_v34_apply, val_main_cst_7_apply, zero_lit, zero_add, Fin.sum_univ_one,
    show idx_main_v34 (ix1 r) 0 = ix2 r 0 from eq_ix2 _, val_main_v33_apply, val_main_v31_apply, val_main_v28_apply, val_main_v32_apply, val_main_cst_6_apply,
    val_main_v10_apply, val_main_v9_apply, val_main_cst_2_apply, val_main_v8_apply, ref_r, ref_ms, val_main_v27_apply, val_main_cst_5_apply, zero_lit, zero_add]
  have e : ∀ z, idx_main_v27 (idx_main_v28 (ix2 r 0)) z = ix2 r z := fun z => funext fun q => Fin.ext (by
    match q with
    | ⟨0, _⟩ => show r.val * 1 + 0 = r.val; omega
    | ⟨1, _⟩ => rfl)
  simp only [e, val_main_v26_apply, ref_a]
  rfl

/-- The reference's gradient of the input … -/
theorem ref_dx (r : Fin 16384) (k : Fin 1024) : (val_main_v40 (F := Ideal) x g w a o (ix2 r k) : EReal)
    = dxK (rowOf x r) (fun z => dh w a r z * g (ix1 z)) (o (ix2 r k)) k := by
  unfold dxK
  rw [norm_grad (rowOf x r) (fun z => dh w a r z * g (ix1 z)) k, val_main_v40_apply, val_main_v39_apply, val_main_v37_apply, val_main_v38_apply, val_main_v36_apply, val_main_v30_apply, val_main_v29_apply,
    show idx_main_v29 (ix2 r k) = ix2 r 0 from eq_ix2 _, ref_r, ref_a, ref_c]
  rfl

/-- … and of the gain. -/
theorem ref_dg (k : Fin 1024) : (val_main_v41 (F := Ideal) x w a (ix2 0 k) : EReal)
    = ∑ r, dh w a r k * (rowOf x r k * Ideal.rsqrt (ms (rowOf x r))) := by
  have e0 : idx_main_v41 (ix2 0 k) = ix1 k := funext fun q => Fin.ext (by match q with | ⟨0, _⟩ => show 0 * 1024 + k.val = k.val; omega)
  have e1 : idx_main_v22 (idx_main_v25 (ix1 k) 0) = ix1 k := funext fun q => Fin.ext (by match q with | ⟨0, _⟩ => show 0 * 1024 + k.val = k.val; omega)
  have e2 : ∀ r, idx_main_v21 (ix1 k) r = ix2 r k := fun r => eq_ix2 _
  rw [val_main_v41_apply, e0, val_main_v25_apply, val_main_cst_4_apply, zero_lit, zero_add, Fin.sum_univ_one, val_main_v22_apply, e1, val_main_v21_apply,
    val_main_cst_3_apply, zero_lit, zero_add]
  simp only [e2, val_main_v20_apply, ref_xhat, ref_dh]
  exact Finset.sum_congr rfl fun r _ => mul_comm _ _

/-- … and of the weight. -/
theorem ref_dw (k : Fin 1024) (y : Fin 1280) : (val_main_v18 (F := Ideal) x g a (ix2 k y) : EReal)
    = ∑ r, rowOf x r k * Ideal.rsqrt (ms (rowOf x r)) * g (ix1 k) * a (ix2 r y) := by
  rw [val_main_v18_apply, val_main_v17_apply]
  refine Finset.sum_congr rfl fun r _ => ?_
  rw [mul_comm]
  refine congrArg₂ (· * ·) ?_ (congrArg a (eq_ix2 _))
  rw [show ridx_main_v17 (idx_main_v18 (ix2 k y)) r = ix2 r k from eq_ix2 _, val_main_v15_apply, ref_xhat, val_main_v14_apply, val_main_v13_apply,
    show idx_main_v13 (idx_main_v14 (ix2 r k)) = ix1 k from eq_ix1 _]
  rfl

end Reference

/-- The kernel's gradient of the input is the reference's, … -/
theorem value5 : (dats m 0 c).arrAt 5 cfg0.N = Cert.Reference7Ideal.Read.val_main_v40 (F := Ideal) (X m c) (G m c) (W m c) (A m c) (O m c) := by
  refine funext fun i => ?_
  rw [show i = ix2 (i 0) (i 1) from eq_ix2 i]
  have hs : ∀ z : Fin 16384, ∃ b r, row b r = z := fun z => ⟨⟨z.val / 512, by omega⟩, ⟨z.val % 512, by omega⟩,
    Fin.ext (show 512 * (z.val / 512) + z.val % 512 = z.val by omega)⟩
  obtain ⟨b, r, hz⟩ := hs (i 0)
  rw [← hz]
  exact (arr5 m c b r (i 1)).trans (ref_dx _ _ _ _ _ _ _).symm

/-- … so is that of the weight … -/
theorem value6 : (dats m 0 c).arrAt 6 cfg0.N = Cert.Reference7Ideal.Read.val_main_v18 (F := Ideal) (X m c) (G m c) (A m c) := by
  refine funext fun i => ?_
  rw [show i = ix2 (i 0) (i 1) from eq_ix2 i]
  refine (arr6 m c (i 0) (i 1)).trans (Eq.trans ?_ (ref_dw _ _ _ _ _).symm)
  exact sum_split (by norm_num) row (fun _ _ => rfl) fun r => rowOf (X m c) r (i 0) * Ideal.rsqrt (ms (rowOf (X m c) r)) * G m c (ix1 (i 0)) * A m c (ix2 r (i 1))

/-- … and that of the gain. -/
theorem value7 : (dats m 0 c).arrAt 7 cfg0.N = Cert.Reference7Ideal.Read.val_main_v41 (F := Ideal) (X m c) (W m c) (A m c) := by
  refine funext fun i => ?_
  rw [show i = ix2 0 (i 1) from (eq_ix2 i).trans (congrArg (ix2 · (i 1)) (Fin.ext (by have : (i 0).val < 1 := (i 0).isLt; show (i 0).val = 0; omega)))]
  refine (arr7 m c (i 1)).trans (Eq.trans ?_ (ref_dg _ _ _ _).symm)
  exact sum_split (by norm_num) row (fun _ _ => rfl) fun r => dh (W m c) (A m c) r (i 1) * (rowOf (X m c) r (i 1) * Ideal.rsqrt (ms (rowOf (X m c) r)))

/-- From equal arguments the kernel and the reference end with equal results. -/
theorem algebraic : Cert.algebraic_Kernel7Ideal_Reference7Ideal := by
  intro m g m' g' _ hargs
  refine ⟨fun c => (dats m 0 c).arrAt 5 cfg0.N, fun c => (dats m 0 c).arrAt 6 cfg0.N, fun c => (dats m 0 c).arrAt 7 cfg0.N, Value.run_blocks m g, ?_⟩
  refine (θ_run _ _ _).mono (fun r h c => ?_) (Cert.Reference7Ideal.Value.run m' g')
  obtain ⟨h0, h1, h2, h3, h4⟩ := hargs c
  obtain ⟨e0, e1, e2, e3⟩ := h c
  refine ⟨?_, ?_, ?_, e3⟩
  · rw [e0, Cert.Reference7Ideal.Read.val_main_v40_eq, h0, h1, h2, h3, h4]
    exact (value5 m c).symm
  · rw [e1, Cert.Reference7Ideal.Read.val_main_v18_eq, h0, h1, h3]
    exact (value6 m c).symm
  · rw [e2, Cert.Reference7Ideal.Read.val_main_v41_eq, h0, h2, h3]
    exact (value7 m c).symm

end Cert.Ffn.W7

end
-- ==== Proof.FF.Adam.lean ====
/- One AdamW step on one entry of a weight: the new first and second moments and the step, with the constants as they are rounded to float32. -/
module

public import Idealize.ShloMosaic.Lib.Pointwise

@[expose] public section

noncomputable section

namespace Cert.Adam

open Idealize.ShloMosaic

/-- The new first moment, from the gradient and the old one. -/
def mom (g m : EReal) : EReal := Ideal.ofBits .f32 0x3F666666#32 * m + Ideal.ofBits .f32 0x3DCCCCCD#32 * g

/-- The new second moment, from the gradient and the old one. -/
def sqr (g v : EReal) : EReal := Ideal.ofBits .f32 0x3F7FBE77#32 * v + Ideal.ofBits .f32 0x3A83126F#32 * (g * g)

/-- The step of the weight, from the gradient, the weight and the old moments. -/
def step (g w m v : EReal) : EReal :=
  Ideal.ofBits .f32 0xBA83126F#32
    * (Ideal.div (Ideal.div (mom g m) (Ideal.ofBits .f32 0x3F26BD02#32))
        (Ideal.sqrt (Ideal.div (sqr g v) (Ideal.ofBits .f32 0x3C231ACC#32)) + Ideal.ofBits .f32 0x322BCC77#32)
      + Ideal.ofBits .f32 0x3C23D70A#32 * w)

theorem step_congr {g g' w w' m m' v v' : EReal} (hg : g = g') (hw : w = w') (hm : m = m') (hv : v = v') : step g w m v = step g' w' m' v' := by
  subst hg hw hm hv
  rfl

end Cert.Adam

end
-- ==== Proof.FF.Adam8.lean ====
/- AdamW on a device's shard of the feed-forward layers' first weights (4096 rows of 704): each of the 32 row blocks holds the sum of the devices' gradients,
   the step and the new moments as the reference has them. -/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W8

open Cert.Kernel8Ideal Cert.Kernel8Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x128x704 .bf16) (w m v : Vec Ideal S128x704 .f32) (r : Fin 128) (y : Fin 704)

/-- The sum of the eight devices' gradients. -/
theorem grad_apply : (k0_pay5 p w m v : FVec Ideal S128x704 .f32) (ix2 r y) = ∑ k : Fin 8, p (ix3 k r y) := by
  unfold k0_pay5 k0_pay4
  pointwise
  rw [Fin.sum_univ_eight]

theorem mom_apply (g : FVec Ideal S128x704 .f32) (i : S128x704.Idx) :
    (k0_pay1 g m (Scalar.ofBits .f32 0x3F666666#32) : FVec Ideal S128x704 .f32) i = mom (g i) (m i) := by
  unfold k0_pay1 mom
  pointwise

theorem sqr_apply (g : FVec Ideal S128x704 .f32) (i : S128x704.Idx) : (k0_pay2 g v : FVec Ideal S128x704 .f32) i = sqr (g i) (v i) := by
  unfold k0_pay2 sqr
  pointwise

theorem step_apply (g : FVec Ideal S128x704 .f32) (i : S128x704.Idx) :
    (k0_pay3 g m (Scalar.ofBits .f32 0x3F666666#32) v w : FVec Ideal S128x704 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S128x704 .f32) (ix2 r y) = ∑ k : Fin 8, p (ix3 k r y) := by
  rw [← grad_apply p w m v r y]
  unfold out0_4
  rw [View.canon_unit_zero hz]

theorem out5 : (out0_5 p w m v : Vec Ideal S128x704 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S128x704) hz]

theorem out6 : (out0_6 p w m v : Vec Ideal S128x704 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S128x704) hz]

theorem out7 : (out0_7 p w m v : Vec Ideal S128x704 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S128x704) hz]

end Block

/-- Row block `b` as a grid point. -/
def pnt (b : Fin 32) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 32) (r : Fin 128) : Fin 4096 := ⟨128 * b.val + r.val, by omega⟩

variable (m : (ℓ : Loc nD τ sig) → Buf (Elt Ideal) ℓ) (c : Dev nD)

/-- The devices' gradients, … -/
def P : Vec Ideal S8x4096x704 .f32 := m ((c.tc : Thread nD τ).loc main_arg0)
/-- … the weight, … -/
def Wt : Vec Ideal S4096x704 .f32 := m ((c.tc : Thread nD τ).loc main_arg1)
/-- … and its first … -/
def M : Vec Ideal S4096x704 .f32 := m ((c.tc : Thread nD τ).loc main_arg2)
/-- … and second moment. -/
def S : Vec Ideal S4096x704 .f32 := m ((c.tc : Thread nD τ).loc main_arg3)

theorem P_host : (V m c main_v0 : Vec Ideal S8x4096x704 .bf16) = P m c := by
  dsimp only [V, hostOps0]
  after_results
  rfl

variable (b : Fin 32) (r : Fin 128) (y : Fin 704)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x128x704 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference8Ideal.Read

variable (p : Vec Ideal S8x4096x704 .f32) (w a s : Vec Ideal S4096x704 .f32) (x : Fin 4096)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 4096) : ∃ b r, row b r = x := ⟨⟨x.val / 128, by omega⟩, ⟨x.val % 128, by omega⟩,
  Fin.ext (show 128 * (x.val / 128) + x.val % 128 = x.val by omega)⟩

/-- The kernel's gradient is the reference's, … -/
theorem value4 : (dats m 0 c).arrAt 4 cfg0.N = Cert.Reference8Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference8Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference8Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference8Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel8Ideal_Reference8Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference8Ideal.Value.run m' g')
  obtain ⟨h0, h1, h2, h3⟩ := hargs c
  obtain ⟨e0, e1, e2, e3, e4⟩ := h c
  refine ⟨?_, ?_, ?_, ?_, e4⟩
  · rw [e0, Cert.Reference8Ideal.Read.val_main_v0_eq, h0]
    exact (value4 m c).symm
  · rw [e1, Cert.Reference8Ideal.Read.val_main_v24_eq, h0, h1, h2, h3]
    exact (value5 m c).symm
  · rw [e2, Cert.Reference8Ideal.Read.val_main_v5_eq, h0, h2]
    exact (value6 m c).symm
  · rw [e3, Cert.Reference8Ideal.Read.val_main_v11_eq, h0, h3]
    exact (value7 m c).symm

end Cert.Adam.W8

end
-- ==== Proof.FF.Adam9.lean ====
/- AdamW on a device's shard of the feed-forward layers' second weights (1408 rows of 1024): each of the 11 row blocks holds the sum of the devices' gradients,
   the step and the new moments as the reference has them. -/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W9

open Cert.Kernel9Ideal Cert.Kernel9Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x128x1024 .bf16) (w m v : Vec Ideal S128x1024 .f32) (r : Fin 128) (y : Fin 1024)

/-- The sum of the eight devices' gradients. -/
theorem grad_apply : (k0_pay5 p w m v : FVec Ideal S128x1024 .f32) (ix2 r y) = ∑ k : Fin 8, p (ix3 k r y) := by
  unfold k0_pay5 k0_pay4
  pointwise
  rw [Fin.sum_univ_eight]

theorem mom_apply (g : FVec Ideal S128x1024 .f32) (i : S128x1024.Idx) :
    (k0_pay1 g m (Scalar.ofBits .f32 0x3F666666#32) : FVec Ideal S128x1024 .f32) i = mom (g i) (m i) := by
  unfold k0_pay1 mom
  pointwise

theorem sqr_apply (g : FVec Ideal S128x1024 .f32) (i : S128x1024.Idx) : (k0_pay2 g v : FVec Ideal S128x1024 .f32) i = sqr (g i) (v i) := by
  unfold k0_pay2 sqr
  pointwise

theorem step_apply (g : FVec Ideal S128x1024 .f32) (i : S128x1024.Idx) :
    (k0_pay3 g m (Scalar.ofBits .f32 0x3F666666#32) v w : FVec Ideal S128x1024 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S128x1024 .f32) (ix2 r y) = ∑ k : Fin 8, p (ix3 k r y) := by
  rw [← grad_apply p w m v r y]
  unfold out0_4
  rw [View.canon_unit_zero hz]

theorem out5 : (out0_5 p w m v : Vec Ideal S128x1024 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S128x1024) hz]

theorem out6 : (out0_6 p w m v : Vec Ideal S128x1024 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S128x1024) hz]

theorem out7 : (out0_7 p w m v : Vec Ideal S128x1024 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S128x1024) hz]

end Block

/-- Row block `b` as a grid point. -/
def pnt (b : Fin 11) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 11) (r : Fin 128) : Fin 1408 := ⟨128 * b.val + r.val, by omega⟩

variable (m : (ℓ : Loc nD τ sig) → Buf (Elt Ideal) ℓ) (c : Dev nD)

/-- The devices' gradients, … -/
def P : Vec Ideal S8x1408x1024 .f32 := m ((c.tc : Thread nD τ).loc main_arg0)
/-- … the weight, … -/
def Wt : Vec Ideal S1408x1024 .f32 := m ((c.tc : Thread nD τ).loc main_arg1)
/-- … and its first … -/
def M : Vec Ideal S1408x1024 .f32 := m ((c.tc : Thread nD τ).loc main_arg2)
/-- … and second moment. -/
def S : Vec Ideal S1408x1024 .f32 := m ((c.tc : Thread nD τ).loc main_arg3)

theorem P_host : (V m c main_v0 : Vec Ideal S8x1408x1024 .bf16) = P m c := by
  dsimp only [V, hostOps0]
  after_results
  rfl

variable (b : Fin 11) (r : Fin 128) (y : Fin 1024)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x128x1024 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference9Ideal.Read

variable (p : Vec Ideal S8x1408x1024 .f32) (w a s : Vec Ideal S1408x1024 .f32) (x : Fin 1408)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 1408) : ∃ b r, row b r = x := ⟨⟨x.val / 128, by omega⟩, ⟨x.val % 128, by omega⟩,
  Fin.ext (show 128 * (x.val / 128) + x.val % 128 = x.val by omega)⟩

/-- The kernel's gradient is the reference's, … -/
theorem value4 : (dats m 0 c).arrAt 4 cfg0.N = Cert.Reference9Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference9Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference9Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference9Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel9Ideal_Reference9Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference9Ideal.Value.run m' g')
  obtain ⟨h0, h1, h2, h3⟩ := hargs c
  obtain ⟨e0, e1, e2, e3, e4⟩ := h c
  refine ⟨?_, ?_, ?_, ?_, e4⟩
  · rw [e0, Cert.Reference9Ideal.Read.val_main_v0_eq, h0]
    exact (value4 m c).symm
  · rw [e1, Cert.Reference9Ideal.Read.val_main_v24_eq, h0, h1, h2, h3]
    exact (value5 m c).symm
  · rw [e2, Cert.Reference9Ideal.Read.val_main_v5_eq, h0, h2]
    exact (value6 m c).symm
  · rw [e3, Cert.Reference9Ideal.Read.val_main_v11_eq, h0, h3]
    exact (value7 m c).symm

end Cert.Adam.W9

end
-- ==== Proof.FF.Adam10.lean ====
/- AdamW on a device's shard of the mixer's first projection (4096 rows of 148): each of the 8 row blocks holds the sum of the devices' gradients,
   the step and the new moments as the reference has them. -/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W10

open Cert.Kernel10Ideal Cert.Kernel10Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x512x148 .bf16) (w m v : Vec Ideal S512x148 .f32) (r : Fin 512) (y : Fin 148)

/-- The sum of the eight devices' gradients. -/
theorem grad_apply : (k0_pay5 p w m v : FVec Ideal S512x148 .f32) (ix2 r y) = ∑ k : Fin 8, p (ix3 k r y) := by
  unfold k0_pay5 k0_pay4
  pointwise
  rw [Fin.sum_univ_eight]

theorem mom_apply (g : FVec Ideal S512x148 .f32) (i : S512x148.Idx) :
    (k0_pay1 g m (Scalar.ofBits .f32 0x3F666666#32) : FVec Ideal S512x148 .f32) i = mom (g i) (m i) := by
  unfold k0_pay1 mom
  pointwise

theorem sqr_apply (g : FVec Ideal S512x148 .f32) (i : S512x148.Idx) : (k0_pay2 g v : FVec Ideal S512x148 .f32) i = sqr (g i) (v i) := by
  unfold k0_pay2 sqr
  pointwise

theorem step_apply (g : FVec Ideal S512x148 .f32) (i : S512x148.Idx) :
    (k0_pay3 g m (Scalar.ofBits .f32 0x3F666666#32) v w : FVec Ideal S512x148 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S512x148 .f32) (ix2 r y) = ∑ k : Fin 8, p (ix3 k r y) := by
  rw [← grad_apply p w m v r y]
  unfold out0_4
  rw [View.canon_unit_zero hz]

theorem out5 : (out0_5 p w m v : Vec Ideal S512x148 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S512x148) hz]

theorem out6 : (out0_6 p w m v : Vec Ideal S512x148 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S512x148) hz]

theorem out7 : (out0_7 p w m v : Vec Ideal S512x148 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S512x148) hz]

end Block

/-- Row block `b` as a grid point. -/
def pnt (b : Fin 8) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 8) (r : Fin 512) : Fin 4096 := ⟨512 * b.val + r.val, by omega⟩

variable (m : (ℓ : Loc nD τ sig) → Buf (Elt Ideal) ℓ) (c : Dev nD)

/-- The devices' gradients, … -/
def P : Vec Ideal S8x4096x148 .f32 := m ((c.tc : Thread nD τ).loc main_arg0)
/-- … the weight, … -/
def Wt : Vec Ideal S4096x148 .f32 := m ((c.tc : Thread nD τ).loc main_arg1)
/-- … and its first … -/
def M : Vec Ideal S4096x148 .f32 := m ((c.tc : Thread nD τ).loc main_arg2)
/-- … and second moment. -/
def S : Vec Ideal S4096x148 .f32 := m ((c.tc : Thread nD τ).loc main_arg3)

theorem P_host : (V m c main_v0 : Vec Ideal S8x4096x148 .bf16) = P m c := by
  dsimp only [V, hostOps0]
  after_results
  rfl

variable (b : Fin 8) (r : Fin 512) (y : Fin 148)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x512x148 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference10Ideal.Read

variable (p : Vec Ideal S8x4096x148 .f32) (w a s : Vec Ideal S4096x148 .f32) (x : Fin 4096)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 4096) : ∃ b r, row b r = x := ⟨⟨x.val / 512, by omega⟩, ⟨x.val % 512, by omega⟩,
  Fin.ext (show 512 * (x.val / 512) + x.val % 512 = x.val by omega)⟩

/-- The kernel's gradient is the reference's, … -/
theorem value4 : (dats m 0 c).arrAt 4 cfg0.N = Cert.Reference10Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference10Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference10Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference10Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel10Ideal_Reference10Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference10Ideal.Value.run m' g')
  obtain ⟨h0, h1, h2, h3⟩ := hargs c
  obtain ⟨e0, e1, e2, e3, e4⟩ := h c
  refine ⟨?_, ?_, ?_, ?_, e4⟩
  · rw [e0, Cert.Reference10Ideal.Read.val_main_v0_eq, h0]
    exact (value4 m c).symm
  · rw [e1, Cert.Reference10Ideal.Read.val_main_v24_eq, h0, h1, h2, h3]
    exact (value5 m c).symm
  · rw [e2, Cert.Reference10Ideal.Read.val_main_v5_eq, h0, h2]
    exact (value6 m c).symm
  · rw [e3, Cert.Reference10Ideal.Read.val_main_v11_eq, h0, h3]
    exact (value7 m c).symm

end Cert.Adam.W10

end
-- ==== Proof.FF.Adam11.lean ====
/- AdamW on a device's shard of the queries' projection (1536 rows of 96): each of the 2 row blocks holds the sum of the devices' gradients,
   the step and the new moments as the reference has them. -/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W11

open Cert.Kernel11Ideal Cert.Kernel11Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x768x96 .bf16) (w m v : Vec Ideal S768x96 .f32) (r : Fin 768) (y : Fin 96)

/-- The sum of the eight devices' gradients. -/
theorem grad_apply : (k0_pay5 p w m v : FVec Ideal S768x96 .f32) (ix2 r y) = ∑ k : Fin 8, p (ix3 k r y) := by
  unfold k0_pay5 k0_pay4
  pointwise
  rw [Fin.sum_univ_eight]

theorem mom_apply (g : FVec Ideal S768x96 .f32) (i : S768x96.Idx) :
    (k0_pay1 g m (Scalar.ofBits .f32 0x3F666666#32) : FVec Ideal S768x96 .f32) i = mom (g i) (m i) := by
  unfold k0_pay1 mom
  pointwise

theorem sqr_apply (g : FVec Ideal S768x96 .f32) (i : S768x96.Idx) : (k0_pay2 g v : FVec Ideal S768x96 .f32) i = sqr (g i) (v i) := by
  unfold k0_pay2 sqr
  pointwise

theorem step_apply (g : FVec Ideal S768x96 .f32) (i : S768x96.Idx) :
    (k0_pay3 g m (Scalar.ofBits .f32 0x3F666666#32) v w : FVec Ideal S768x96 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S768x96 .f32) (ix2 r y) = ∑ k : Fin 8, p (ix3 k r y) := by
  rw [← grad_apply p w m v r y]
  unfold out0_4
  rw [View.canon_unit_zero hz]

theorem out5 : (out0_5 p w m v : Vec Ideal S768x96 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S768x96) hz]

theorem out6 : (out0_6 p w m v : Vec Ideal S768x96 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S768x96) hz]

theorem out7 : (out0_7 p w m v : Vec Ideal S768x96 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S768x96) hz]

end Block

/-- Row block `b` as a grid point. -/
def pnt (b : Fin 2) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 2) (r : Fin 768) : Fin 1536 := ⟨768 * b.val + r.val, by omega⟩

variable (m : (ℓ : Loc nD τ sig) → Buf (Elt Ideal) ℓ) (c : Dev nD)

/-- The devices' gradients, … -/
def P : Vec Ideal S8x1536x96 .f32 := m ((c.tc : Thread nD τ).loc main_arg0)
/-- … the weight, … -/
def Wt : Vec Ideal S1536x96 .f32 := m ((c.tc : Thread nD τ).loc main_arg1)
/-- … and its first … -/
def M : Vec Ideal S1536x96 .f32 := m ((c.tc : Thread nD τ).loc main_arg2)
/-- … and second moment. -/
def S : Vec Ideal S1536x96 .f32 := m ((c.tc : Thread nD τ).loc main_arg3)

theorem P_host : (V m c main_v0 : Vec Ideal S8x1536x96 .bf16) = P m c := by
  dsimp only [V, hostOps0]
  after_results
  rfl

variable (b : Fin 2) (r : Fin 768) (y : Fin 96)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x768x96 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference11Ideal.Read

variable (p : Vec Ideal S8x1536x96 .f32) (w a s : Vec Ideal S1536x96 .f32) (x : Fin 1536)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 1536) : ∃ b r, row b r = x := ⟨⟨x.val / 768, by omega⟩, ⟨x.val % 768, by omega⟩,
  Fin.ext (show 768 * (x.val / 768) + x.val % 768 = x.val by omega)⟩

/-- The kernel's gradient is the reference's, … -/
theorem value4 : (dats m 0 c).arrAt 4 cfg0.N = Cert.Reference11Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference11Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference11Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference11Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel11Ideal_Reference11Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference11Ideal.Value.run m' g')
  obtain ⟨h0, h1, h2, h3⟩ := hargs c
  obtain ⟨e0, e1, e2, e3, e4⟩ := h c
  refine ⟨?_, ?_, ?_, ?_, e4⟩
  · rw [e0, Cert.Reference11Ideal.Read.val_main_v0_eq, h0]
    exact (value4 m c).symm
  · rw [e1, Cert.Reference11Ideal.Read.val_main_v24_eq, h0, h1, h2, h3]
    exact (value5 m c).symm
  · rw [e2, Cert.Reference11Ideal.Read.val_main_v5_eq, h0, h2]
    exact (value6 m c).symm
  · rw [e3, Cert.Reference11Ideal.Read.val_main_v11_eq, h0, h3]
    exact (value7 m c).symm

end Cert.Adam.W11

end
-- ==== Proof.FF.Adam12.lean ====
/- AdamW on a device's shard of the keys' or the values' projection (1024 rows of 64): each of the 1 row blocks holds the sum of the devices' gradients,
   the step and the new moments as the reference has them. -/
module

public import proofs.«01_k».proof.Proof.Gen.Kernel12Ideal.Value
public import proofs.«01_k».proof.Proof.Gen.Reference12Ideal.Run
public import proofs.«01_k».proof.Proof.Gen.Reference12Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W12

open Cert.Kernel12Ideal Cert.Kernel12Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x1024x64 .bf16) (w m v : Vec Ideal S1024x64 .f32) (r : Fin 1024) (y : Fin 64)

/-- The sum of the eight devices' gradients. -/
theorem grad_apply : (k0_pay5 p w m v : FVec Ideal S1024x64 .f32) (ix2 r y) = ∑ k : Fin 8, p (ix3 k r y) := by
  unfold k0_pay5 k0_pay4
  pointwise
  rw [Fin.sum_univ_eight]

theorem mom_apply (g : FVec Ideal S1024x64 .f32) (i : S1024x64.Idx) :
    (k0_pay1 g m (Scalar.ofBits .f32 0x3F666666#32) : FVec Ideal S1024x64 .f32) i = mom (g i) (m i) := by
  unfold k0_pay1 mom
  pointwise

theorem sqr_apply (g : FVec Ideal S1024x64 .f32) (i : S1024x64.Idx) : (k0_pay2 g v : FVec Ideal S1024x64 .f32) i = sqr (g i) (v i) := by
  unfold k0_pay2 sqr
  pointwise

theorem step_apply (g : FVec Ideal S1024x64 .f32) (i : S1024x64.Idx) :
    (k0_pay3 g m (Scalar.ofBits .f32 0x3F666666#32) v w : FVec Ideal S1024x64 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S1024x64 .f32) (ix2 r y) = ∑ k : Fin 8, p (ix3 k r y) := by
  rw [← grad_apply p w m v r y]
  unfold out0_4
  rw [View.canon_unit_zero hz]

theorem out5 : (out0_5 p w m v : Vec Ideal S1024x64 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S1024x64) hz]

theorem out6 : (out0_6 p w m v : Vec Ideal S1024x64 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S1024x64) hz]

theorem out7 : (out0_7 p w m v : Vec Ideal S1024x64 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S1024x64) hz]

end Block

/-- Row block `b` as a grid point. -/
def pnt (b : Fin 1) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 1) (r : Fin 1024) : Fin 1024 := ⟨1024 * b.val + r.val, by omega⟩

variable (m : (ℓ : Loc nD τ sig) → Buf (Elt Ideal) ℓ) (c : Dev nD)

/-- The devices' gradients, … -/
def P : Vec Ideal S8x1024x64 .f32 := m ((c.tc : Thread nD τ).loc main_arg0)
/-- … the weight, … -/
def Wt : Vec Ideal S1024x64 .f32 := m ((c.tc : Thread nD τ).loc main_arg1)
/-- … and its first … -/
def M : Vec Ideal S1024x64 .f32 := m ((c.tc : Thread nD τ).loc main_arg2)
/-- … and second moment. -/
def S : Vec Ideal S1024x64 .f32 := m ((c.tc : Thread nD τ).loc main_arg3)

theorem P_host : (V m c main_v0 : Vec Ideal S8x1024x64 .bf16) = P m c := by
  dsimp only [V, hostOps0]
  after_results
  rfl

variable (b : Fin 1) (r : Fin 1024) (y : Fin 64)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x1024x64 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference12Ideal.Read

variable (p : Vec Ideal S8x1024x64 .f32) (w a s : Vec Ideal S1024x64 .f32) (x : Fin 1024)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 1024) : ∃ b r, row b r = x := ⟨⟨x.val / 1024, by omega⟩, ⟨x.val % 1024, by omega⟩,
  Fin.ext (show 1024 * (x.val / 1024) + x.val % 1024 = x.val by omega)⟩

/-- The kernel's gradient is the reference's, … -/
theorem value4 : (dats m 0 c).arrAt 4 cfg0.N = Cert.Reference12Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference12Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference12Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference12Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel12Ideal_Reference12Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference12Ideal.Value.run m' g')
  obtain ⟨h0, h1, h2, h3⟩ := hargs c
  obtain ⟨e0, e1, e2, e3, e4⟩ := h c
  refine ⟨?_, ?_, ?_, ?_, e4⟩
  · rw [e0, Cert.Reference12Ideal.Read.val_main_v0_eq, h0]
    exact (value4 m c).symm
  · rw [e1, Cert.Reference12Ideal.Read.val_main_v24_eq, h0, h1, h2, h3]
    exact (value5 m c).symm
  · rw [e2, Cert.Reference12Ideal.Read.val_main_v5_eq, h0, h2]
    exact (value6 m c).symm
  · rw [e3, Cert.Reference12Ideal.Read.val_main_v11_eq, h0, h3]
    exact (value7 m c).symm

end Cert.Adam.W12

end
-- ==== Proof.FF.Adam13.lean ====
/- AdamW on a device's shard of the output's projection (512 rows of 1024): each of the 4 row blocks holds the sum of the devices' gradients,
   the step and the new moments as the reference has them. -/
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import proofs.«01_k».proof.Proof.FF.Adam
public import Idealize.ShloMosaic.Lib.Pointwise
public import Idealize.ShloMosaic.Lib.Pipeline.ValueKit.Point

@[expose] public section

set_option maxRecDepth 65536

noncomputable section

open scoped BigOperators

namespace Cert.Adam.W13

open Cert.Kernel13Ideal Cert.Kernel13Ideal.Gen Idealize.ShloMosaic Idealize.ShloMosaic.TcCoe Idealize.ShloMosaic.Tactic

theorem hz : (![0, 0] : Fin 2 → Nat) = fun _ => 0 := funext fun a => by fin_cases a <;> rfl

section Block

variable (p : Vec Ideal S8x128x1024 .bf16) (w m v : Vec Ideal S128x1024 .f32) (r : Fin 128) (y : Fin 1024)

/-- The sum of the eight devices' gradients. -/
theorem grad_apply : (k0_pay5 p w m v : FVec Ideal S128x1024 .f32) (ix2 r y) = ∑ k : Fin 8, p (ix3 k r y) := by
  unfold k0_pay5 k0_pay4
  pointwise
  rw [Fin.sum_univ_eight]

theorem mom_apply (g : FVec Ideal S128x1024 .f32) (i : S128x1024.Idx) :
    (k0_pay1 g m (Scalar.ofBits .f32 0x3F666666#32) : FVec Ideal S128x1024 .f32) i = mom (g i) (m i) := by
  unfold k0_pay1 mom
  pointwise

theorem sqr_apply (g : FVec Ideal S128x1024 .f32) (i : S128x1024.Idx) : (k0_pay2 g v : FVec Ideal S128x1024 .f32) i = sqr (g i) (v i) := by
  unfold k0_pay2 sqr
  pointwise

theorem step_apply (g : FVec Ideal S128x1024 .f32) (i : S128x1024.Idx) :
    (k0_pay3 g m (Scalar.ofBits .f32 0x3F666666#32) v w : FVec Ideal S128x1024 .f32) i = step (g i) (w i) (m i) (v i) := by
  unfold k0_pay3 step
  rw [← mom_apply m g i, ← sqr_apply v g i]
  generalize k0_pay1 g m (Scalar.ofBits .f32 0x3F666666#32) = a
  generalize k0_pay2 g v = b
  pointwise

theorem out4 : (out0_4 p w m v : Vec Ideal S128x1024 .f32) (ix2 r y) = ∑ k : Fin 8, p (ix3 k r y) := by
  rw [← grad_apply p w m v r y]
  unfold out0_4
  rw [View.canon_unit_zero hz]

theorem out5 : (out0_5 p w m v : Vec Ideal S128x1024 .f32) (ix2 r y) = step (∑ k : Fin 8, p (ix3 k r y)) (w (ix2 r y)) (m (ix2 r y)) (v (ix2 r y)) := by
  rw [← grad_apply p w m v r y, ← step_apply w m v]
  unfold out0_5
  rw [View.canon_unit_zero hz]
  simp only [View.ld_unit_zero (S := S128x1024) hz]

theorem out6 : (out0_6 p w m v : Vec Ideal S128x1024 .f32) (ix2 r y) = mom (∑ k : Fin 8, p (ix3 k r y)) (m (ix2 r y)) := by
  rw [← grad_apply p w m v r y, ← mom_apply m]
  unfold out0_6
  rw [View.canon_unit_zero hz]
  simp only [View.ld_unit_zero (S := S128x1024) hz]

theorem out7 : (out0_7 p w m v : Vec Ideal S128x1024 .f32) (ix2 r y) = sqr (∑ k : Fin 8, p (ix3 k r y)) (v (ix2 r y)) := by
  rw [← grad_apply p w m v r y, ← sqr_apply v]
  unfold out0_7
  rw [View.canon_unit_zero hz]
  simp only [View.ld_unit_zero (S := S128x1024) hz]

end Block

/-- Row block `b` as a grid point. -/
def pnt (b : Fin 4) : Fin cfg0.N := ⟨b.val, by have := N_0; show _ < grid0.N; omega⟩

theorem idx0 : ∀ b, win0_0.index (pnt b) = ![0, b.val, 0] := by decide +kernel
theorem idx1 : ∀ b, win0_1.index (pnt b) = ![b.val, 0] := by decide +kernel
theorem idx2 : ∀ b, win0_2.index (pnt b) = ![b.val, 0] := by decide +kernel
theorem idx3 : ∀ b, win0_3.index (pnt b) = ![b.val, 0] := by decide +kernel
theorem idx4 : ∀ b, win0_4.index (pnt b) = ![b.val, 0] := by decide +kernel
theorem idx5 : ∀ b, win0_5.index (pnt b) = ![b.val, 0] := by decide +kernel
theorem idx6 : ∀ b, win0_6.index (pnt b) = ![b.val, 0] := by decide +kernel
theorem idx7 : ∀ b, win0_7.index (pnt b) = ![b.val, 0] := by decide +kernel

/-- Row `r` of block `b`. -/
def row (b : Fin 4) (r : Fin 128) : Fin 512 := ⟨128 * b.val + r.val, by omega⟩

variable (m : (ℓ : Loc nD τ sig) → Buf (Elt Ideal) ℓ) (c : Dev nD)

/-- The devices' gradients, … -/
def P : Vec Ideal S8x512x1024 .f32 := m ((c.tc : Thread nD τ).loc main_arg0)
/-- … the weight, … -/
def Wt : Vec Ideal S512x1024 .f32 := m ((c.tc : Thread nD τ).loc main_arg1)
/-- … and its first … -/
def M : Vec Ideal S512x1024 .f32 := m ((c.tc : Thread nD τ).loc main_arg2)
/-- … and second moment. -/
def S : Vec Ideal S512x1024 .f32 := m ((c.tc : Thread nD τ).loc main_arg3)

theorem P_host : (V m c main_v0 : Vec Ideal S8x512x1024 .bf16) = P m c := by
  dsimp only [V, hostOps0]
  after_results
  rfl

variable (b : Fin 4) (r : Fin 128) (y : Fin 1024)

theorem blk0 (k : Fin 8) : (iblk m c 0 (pnt b) (ix3 k r y) : EReal) = P m c (ix3 k (row b r) y) := by
  rw [← P_host]; unfold row; blk_ext [iblk, idx0]
theorem blk1 : (iblk m c 1 (pnt b) (ix2 r y) : EReal) = Wt m c (ix2 (row b r) y) := by
  unfold Wt; rw [← V_main_arg1 m c]; unfold row; blk_ext [iblk, idx1]
theorem blk2 : (iblk m c 2 (pnt b) (ix2 r y) : EReal) = M m c (ix2 (row b r) y) := by
  unfold M; rw [← V_main_arg2 m c]; unfold row; blk_ext [iblk, idx2]
theorem blk3 : (iblk m c 3 (pnt b) (ix2 r y) : EReal) = S m c (ix2 (row b r) y) := by
  unfold S; rw [← V_main_arg3 m c]; unfold row; blk_ext [iblk, idx3]

/-- The devices' gradients of a block. -/
def pB : Vec Ideal S8x128x1024 .bf16 := iblk m c 0 (pnt b)

theorem sums : (∑ k : Fin 8, pB m c b (ix3 k r y)) = ∑ k : Fin 8, P m c (ix3 k (row b r) y) :=
  Finset.sum_congr rfl fun k _ => blk0 m c b r y k

/-- The gradient's array after the run, … -/
theorem arr4 : ((dats m 0 c).arrAt 4 cfg0.N (ix2 (row b r) y) : EReal) = ∑ k : Fin 8, P m c (ix3 k (row b r) y) := by
  have e1 := congrFun (Value.blocks4 m c (pnt b) (flush0_4 _)) (ix2 r y)
  rw [Value.flushed4] at e1
  have h := (out4 (pB m c b) (iblk m c 1 (pnt b)) (iblk m c 2 (pnt b)) (iblk m c 3 (pnt b)) r y).trans (sums m c b r y)
  refine Eq.trans (Eq.trans ?_ e1) h
  unfold row
  blk_ext [idx4]

/-- … the step's, … -/
theorem arr5 : ((dats m 0 c).arrAt 5 cfg0.N (ix2 (row b r) y) : EReal)
    = step (∑ k : Fin 8, P m c (ix3 k (row b r) y)) (Wt m c (ix2 (row b r) y)) (M m c (ix2 (row b r) y)) (S m c (ix2 (row b r) y)) := by
  have e1 := congrFun (Value.blocks5 m c (pnt b) (flush0_5 _)) (ix2 r y)
  rw [Value.flushed5] at e1
  have h := (out5 (pB m c b) (iblk m c 1 (pnt b)) (iblk m c 2 (pnt b)) (iblk m c 3 (pnt b)) r y).trans (step_congr (sums m c b r y) (blk1 m c b r y) (blk2 m c b r y) (blk3 m c b r y))
  refine Eq.trans (Eq.trans ?_ e1) h
  unfold row
  blk_ext [idx5]

/-- … the first … -/
theorem arr6 : ((dats m 0 c).arrAt 6 cfg0.N (ix2 (row b r) y) : EReal)
    = mom (∑ k : Fin 8, P m c (ix3 k (row b r) y)) (M m c (ix2 (row b r) y)) := by
  have e1 := congrFun (Value.blocks6 m c (pnt b) (flush0_6 _)) (ix2 r y)
  rw [Value.flushed6] at e1
  have h := (out6 (pB m c b) (iblk m c 1 (pnt b)) (iblk m c 2 (pnt b)) (iblk m c 3 (pnt b)) r y).trans (congrArg₂ mom (sums m c b r y) (blk2 m c b r y))
  refine Eq.trans (Eq.trans ?_ e1) h
  unfold row
  blk_ext [idx6]

/-- … and the second moment's. -/
theorem arr7 : ((dats m 0 c).arrAt 7 cfg0.N (ix2 (row b r) y) : EReal)
    = sqr (∑ k : Fin 8, P m c (ix3 k (row b r) y)) (S m c (ix2 (row b r) y)) := by
  have e1 := congrFun (Value.blocks7 m c (pnt b) (flush0_7 _)) (ix2 r y)
  rw [Value.flushed7] at e1
  have h := (out7 (pB m c b) (iblk m c 1 (pnt b)) (iblk m c 2 (pnt b)) (iblk m c 3 (pnt b)) r y).trans (congrArg₂ sqr (sums m c b r y) (blk3 m c b r y))
  refine Eq.trans (Eq.trans ?_ e1) h
  unfold row
  blk_ext [idx7]

section Reference

open Cert.Reference13Ideal.Read

variable (p : Vec Ideal S8x512x1024 .f32) (w a s : Vec Ideal S512x1024 .f32) (x : Fin 512)

theorem zero_lit : (FloatOps.ofBits (F := Ideal) .f32 0#32 : EReal) = 0 := by simp [FloatOps.ofBits, Ideal.ofBits, Ideal.ieee]

/-- The reference's gradient, … -/
theorem ref_grad : (val_main_v0 (F := Ideal) p (ix2 x y) : EReal) = ∑ k : Fin 8, p (ix3 k x y) := by
  rw [val_main_v0_apply, val_main_cst_apply, zero_lit, zero_add]
  exact Finset.sum_congr rfl fun k _ => congrArg p (funext fun q => Fin.ext (by match q with | ⟨0, _⟩ => rfl | ⟨1, _⟩ => rfl | ⟨2, _⟩ => rfl))

/-- … first … -/
theorem ref_mom : (val_main_v5 (F := Ideal) p a (ix2 x y) : EReal) = mom (∑ k : Fin 8, p (ix3 k x y)) (a (ix2 x y)) := by
  rw [← ref_grad, val_main_v5_apply, val_main_v2_apply, val_main_v4_apply, val_main_v1_apply, val_main_v3_apply]
  rfl

/-- … and second moment, … -/
theorem ref_sqr : (val_main_v11 (F := Ideal) p s (ix2 x y) : EReal) = sqr (∑ k : Fin 8, p (ix3 k x y)) (s (ix2 x y)) := by
  rw [← ref_grad, val_main_v11_apply, val_main_v7_apply, val_main_v10_apply, val_main_v8_apply, val_main_v6_apply, val_main_v9_apply]
  rfl

/-- … and step. -/
theorem ref_step : (val_main_v24 (F := Ideal) p w a s (ix2 x y) : EReal)
    = step (∑ k : Fin 8, p (ix3 k x y)) (w (ix2 x y)) (a (ix2 x y)) (s (ix2 x y)) := by
  unfold step
  rw [← ref_mom, ← ref_sqr]
  rw [val_main_v24_apply, val_main_v22_apply, val_main_v19_apply, val_main_v13_apply, val_main_v18_apply, val_main_v16_apply, val_main_v15_apply, val_main_v21_apply, val_main_v12_apply, val_main_v14_apply, val_main_v17_apply, val_main_v20_apply, val_main_v23_apply]
  rfl

end Reference

/-- Each row lies in a block. -/
theorem rows (x : Fin 512) : ∃ b r, row b r = x := ⟨⟨x.val / 128, by omega⟩, ⟨x.val % 128, by omega⟩,
  Fin.ext (show 128 * (x.val / 128) + x.val % 128 = x.val by omega)⟩

/-- The kernel's gradient is the reference's, … -/
theorem value4 : (dats m 0 c).arrAt 4 cfg0.N = Cert.Reference13Ideal.Read.val_main_v0 (F := Ideal) (P m c) := by
  refine funext fun i => ?_
  rw [show i = ix2 (i 0) (i 1) from eq_ix2 i]
  obtain ⟨b, r, hz⟩ := rows (i 0)
  rw [← hz]
  exact (arr4 m c b r (i 1)).trans (ref_grad _ _ _).symm

/-- … so is the step, … -/
theorem value5 : (dats m 0 c).arrAt 5 cfg0.N = Cert.Reference13Ideal.Read.val_main_v24 (F := Ideal) (P m c) (Wt m c) (M m c) (S m c) := by
  refine funext fun i => ?_
  rw [show i = ix2 (i 0) (i 1) from eq_ix2 i]
  obtain ⟨b, r, hz⟩ := rows (i 0)
  rw [← hz]
  exact (arr5 m c b r (i 1)).trans (ref_step _ _ _ _ _ _).symm

/-- … the new first … -/
theorem value6 : (dats m 0 c).arrAt 6 cfg0.N = Cert.Reference13Ideal.Read.val_main_v5 (F := Ideal) (P m c) (M m c) := by
  refine funext fun i => ?_
  rw [show i = ix2 (i 0) (i 1) from eq_ix2 i]
  obtain ⟨b, r, hz⟩ := rows (i 0)
  rw [← hz]
  exact (arr6 m c b r (i 1)).trans (ref_mom _ _ _ _).symm

/-- … and the new second moment. -/
theorem value7 : (dats m 0 c).arrAt 7 cfg0.N = Cert.Reference13Ideal.Read.val_main_v11 (F := Ideal) (P m c) (S m c) := by
  refine funext fun i => ?_
  rw [show i = ix2 (i 0) (i 1) from eq_ix2 i]
  obtain ⟨b, r, hz⟩ := rows (i 0)
  rw [← hz]
  exact (arr7 m c b r (i 1)).trans (ref_sqr _ _ _ _).symm

/-- From equal arguments the kernel and the reference end with equal results. -/
theorem algebraic : Cert.algebraic_Kernel13Ideal_Reference13Ideal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run _ _ _).mono (fun r h c => ?_) (Cert.Reference13Ideal.Value.run m' g')
  obtain ⟨h0, h1, h2, h3⟩ := hargs c
  obtain ⟨e0, e1, e2, e3, e4⟩ := h c
  refine ⟨?_, ?_, ?_, ?_, e4⟩
  · rw [e0, Cert.Reference13Ideal.Read.val_main_v0_eq, h0]
    exact (value4 m c).symm
  · rw [e1, Cert.Reference13Ideal.Read.val_main_v24_eq, h0, h1, h2, h3]
    exact (value5 m c).symm
  · rw [e2, Cert.Reference13Ideal.Read.val_main_v5_eq, h0, h2]
    exact (value6 m c).symm
  · rw [e3, Cert.Reference13Ideal.Read.val_main_v11_eq, h0, h3]
    exact (value7 m c).symm

end Cert.Adam.W13

end
-- ==== Proof.lean ====
/- The certificate's claims: the runs of the programs, the attention's one named constant, the equality of the attention kernel's
   three results with the reference's on finite arguments, the equality of the feed-forward kernels' results with their references'
   on all arguments (the first backward call's on finite arguments), and that of the mixer's projection's backward call and of the six
   AdamW updates on all arguments. -/
module

public import proofs.«01_k».proof.Proof.FF.All
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KV.Reals
public import proofs.«01_k».proof.Proof.KV.Fin
public import proofs.«01_k».proof.Proof.FF.Back
public import proofs.«01_k».proof.Proof.FF.Forward
public import proofs.«01_k».proof.Proof.FF.GradUp
public import proofs.«01_k».proof.Proof.FF.GradDown
public import proofs.«01_k».proof.Proof.FF.ActBits.Frame
public import proofs.«01_k».proof.Proof.FF.ActBack
public import proofs.«01_k».proof.Proof.FF.ProjBack
public import proofs.«01_k».proof.Proof.FF.Adam8
public import proofs.«01_k».proof.Proof.FF.Adam9
public import proofs.«01_k».proof.Proof.FF.Adam10
public import proofs.«01_k».proof.Proof.FF.Adam11
public import proofs.«01_k».proof.Proof.FF.Adam12
public import proofs.«01_k».proof.Proof.FF.Adam13
public import Idealize.ShloMosaic.Adequacy
public import Idealize.ShloMosaic.Init

@[expose] public section

set_option maxRecDepth 65536

noncomputable section

namespace Cert.Proof

open Idealize.ShloMosaic Idealize.SL.Sem Idealize.ShloMosaic.TcCoe Cert.AttnBwd

/-- The kernel's run, its arguments and counters. -/
theorem frame_kernel : Cert.quiescent_Kernel := fun m g _ => Cert.Kernel.Gen.frame m g

/-- The idealized kernel's run. -/
theorem frame_ideal : Cert.quiescent_KernelIdeal := fun m g _ => Cert.KernelIdeal.Gen.frame m g

/-- The reference's run; it has no counters. -/
theorem run_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems rfl _⟩) (Cert.ReferenceIdeal.Value.run m g)

/-- The one named constant: the logarithm of two. -/
theorem preserves : Cert.preserves_Kernel_KernelIdeal :=
  IdealRules.named_const.statement Cert.KernelIdeal.κ "ln2" .f32 0x3F317218#32 ((Real.log 2 : ℝ) : EReal) rfl

theorem pos_surj (x : Fin 16384) : ∃ j y, pos j y = x :=
  ⟨⟨x.val / 1024, by omega⟩, ⟨x.val % 1024, by omega⟩, Fin.ext (show 1024 * (x.val / 1024) + x.val % 1024 = x.val by omega)⟩

theorem col_surj (x : Fin 1024) : ∃ h d, col h d = x :=
  ⟨⟨x.val / 128, by omega⟩, ⟨x.val % 128, by omega⟩, Fin.ext (show 128 * (x.val / 128) + x.val % 128 = x.val by omega)⟩

section Results

variable (m : (ℓ : Loc Cert.KernelIdeal.nD Cert.KernelIdeal.τ Cert.KernelIdeal.sig) → Buf (Elt Ideal) ℓ) (hm : Cert.Pre_KernelIdeal_finite m) (c : Dev Cert.KernelIdeal.nD)

include hm

/-- The queries' gradient. -/
theorem dq_result : (Cert.KernelIdeal.Gen.dats m 0 c).arrAt 6 Cert.KernelIdeal.cfg0.N = Cert.ReferenceIdeal.Read.val_main_v58 (F := Ideal) (aq m c) (ak m c) (av m c) (ag m c) := by
  obtain ⟨hq, hk, hv, hg⟩ := args_real m hm c
  choose Q hq using hq
  choose K hk using hk
  choose W hv using hv
  choose D hg using hg
  refine funext fun i => ?_
  rw [show i = ix4 (i 0) (i 1) (i 2) (i 3) from eq_ix4 i]
  exact (arr6 m c (i 0) (i 1) (i 2) (i 3)).trans (dq_eq m c hq hk hv hg (i 0) (i 1) (i 2) (i 3))

/-- The keys' gradient. -/
theorem dk_result : (Cert.KernelIdeal.Gen.dats m 0 c).arrAt 7 Cert.KernelIdeal.cfg0.N = Cert.ReferenceIdeal.Read.val_main_v61 (F := Ideal) (aq m c) (ak m c) (av m c) (ag m c) := by
  obtain ⟨hq, hk, hv, hg⟩ := args_real m hm c
  choose Q hq using hq
  choose K hk using hk
  choose W hv using hv
  choose D hg using hg
  refine funext fun i => ?_
  rw [show i = ix2 (i 0) (i 1) from eq_ix2 i]
  obtain ⟨j, y, hx⟩ := pos_surj (i 0)
  obtain ⟨h, d, hd⟩ := col_surj (i 1)
  rw [← hx, ← hd]
  exact (arr7 m c h j y d).trans (dk_eq m c hq hk hv hg h j y d)

/-- The values' gradient. -/
theorem dv_result : (Cert.KernelIdeal.Gen.dats m 0 c).arrAt 8 Cert.KernelIdeal.cfg0.N = Cert.ReferenceIdeal.Read.val_main_v63 (F := Ideal) (aq m c) (ak m c) (ag m c) := by
  obtain ⟨hq, hk, hv, hg⟩ := args_real m hm c
  choose Q hq using hq
  choose K hk using hk
  choose D hg using hg
  refine funext fun i => ?_
  rw [show i = ix4 (i 0) (i 1) (i 2) (i 3) from eq_ix4 i]
  exact (arr8 m c (i 0) (i 1) (i 2) (i 3)).trans (dv_eq m c hq hk hg (i 0) (i 1) (i 2) (i 3))

end Results

/-- On finite arguments the kernel's three results are the reference's. -/
theorem algebraic : Cert.algebraic_KernelIdeal_ReferenceIdeal_pre_finite := by
  intro m g m' g' hm hargs
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run _ _ _).mono (fun r h c => ?_) (Cert.ReferenceIdeal.Value.run m' g')
  obtain ⟨h0, h1, h2, h3⟩ := hargs c
  obtain ⟨e0, e1, e2, e3⟩ := h c
  refine ⟨?_, ?_, ?_, e3⟩
  · rw [e0, Cert.ReferenceIdeal.Read.val_main_v58_eq, h0, h1, h2, h3]
    exact (dq_result m hm c).symm
  · rw [e1, Cert.ReferenceIdeal.Read.val_main_v61_eq, h0, h1, h2, h3]
    exact (dk_result m hm c).symm
  · rw [e2, Cert.ReferenceIdeal.Read.val_main_v63_eq, h0, h1, h3]
    exact (dv_result m hm c).symm

/-- The run of the reference for the feed-forward input gradient. -/
theorem run_ref2 : Cert.quiescent_Reference2Ideal := fun m g _ =>
  (θ_run _ _ _).mono (fun r h => ⟨fun c => (h c).2.2, sem_eq_zero_of_no_sems rfl _⟩) (Cert.Reference2Ideal.Value.run m g)

/-- The run of the reference for the feed-forward layer. -/
theorem run_ref3 : Cert.quiescent_Reference3Ideal := fun m g _ =>
  (θ_run _ _ _).mono (fun r h => ⟨fun c => (h c).2, sem_eq_zero_of_no_sems rfl _⟩) (Cert.Reference3Ideal.Value.run m g)

/-- The run of the reference for the first weight's gradient. -/
theorem run_ref4 : Cert.quiescent_Reference4Ideal := fun m g _ =>
  (θ_run _ _ _).mono (fun r h => ⟨fun c => (h c).2, sem_eq_zero_of_no_sems rfl _⟩) (Cert.Reference4Ideal.Value.run m g)

/-- The run of the reference for the second weight's gradient. -/
theorem run_ref5 : Cert.quiescent_Reference5Ideal := fun m g _ =>
  (θ_run _ _ _).mono (fun r h => ⟨fun c => (h c).2, sem_eq_zero_of_no_sems rfl _⟩) (Cert.Reference5Ideal.Value.run m g)

/-- The run of the reference for the gradients of the gate and of the other half. -/
theorem run_ref6 : Cert.quiescent_Reference6Ideal := fun m g _ =>
  (θ_run _ _ _).mono (fun r h => ⟨fun c => (h c).2.2.2.2, sem_eq_zero_of_no_sems rfl _⟩) (Cert.Reference6Ideal.Value.run m g)

/-- The run of the reference for the gradients behind the mixer's first norm and projection. -/
theorem run_ref7 : Cert.quiescent_Reference7Ideal := fun m g _ =>
  (θ_run _ _ _).mono (fun r h => ⟨fun c => (h c).2.2.2, sem_eq_zero_of_no_sems rfl _⟩) (Cert.Reference7Ideal.Value.run m g)

/-- The run of the reference for AdamW on the feed-forward layers' first weights. -/
theorem run_ref8 : Cert.quiescent_Reference8Ideal := fun m g _ =>
  (θ_run _ _ _).mono (fun r h => ⟨fun c => (h c).2.2.2.2, sem_eq_zero_of_no_sems rfl _⟩) (Cert.Reference8Ideal.Value.run m g)

/-- The run of the reference for AdamW on the feed-forward layers' second weights. -/
theorem run_ref9 : Cert.quiescent_Reference9Ideal := fun m g _ =>
  (θ_run _ _ _).mono (fun r h => ⟨fun c => (h c).2.2.2.2, sem_eq_zero_of_no_sems rfl _⟩) (Cert.Reference9Ideal.Value.run m g)

/-- The run of the reference for AdamW on the mixer's first projection. -/
theorem run_ref10 : Cert.quiescent_Reference10Ideal := fun m g _ =>
  (θ_run _ _ _).mono (fun r h => ⟨fun c => (h c).2.2.2.2, sem_eq_zero_of_no_sems rfl _⟩) (Cert.Reference10Ideal.Value.run m g)

/-- The run of the reference for AdamW on the queries' projection. -/
theorem run_ref11 : Cert.quiescent_Reference11Ideal := fun m g _ =>
  (θ_run _ _ _).mono (fun r h => ⟨fun c => (h c).2.2.2.2, sem_eq_zero_of_no_sems rfl _⟩) (Cert.Reference11Ideal.Value.run m g)

/-- The run of the reference for AdamW on the keys' or the values' projection. -/
theorem run_ref12 : Cert.quiescent_Reference12Ideal := fun m g _ =>
  (θ_run _ _ _).mono (fun r h => ⟨fun c => (h c).2.2.2.2, sem_eq_zero_of_no_sems rfl _⟩) (Cert.Reference12Ideal.Value.run m g)

/-- The run of the reference for AdamW on the output's projection. -/
theorem run_ref13 : Cert.quiescent_Reference13Ideal := fun m g _ =>
  (θ_run _ _ _).mono (fun r h => ⟨fun c => (h c).2.2.2.2, sem_eq_zero_of_no_sems rfl _⟩) (Cert.Reference13Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    finFacts, Cert.Ffn.W6.finFacts6,
    frame_kernel, frame_ideal, fun m g _ => Cert.KernelIdeal.Gen.frame m g, fun m g _ => run_ref m g, fun m g _ => run_ref m g,
    fun m g _ => Cert.Kernel2.Gen.frame m g, fun m g _ => Cert.Kernel2Ideal.Gen.frame m g, run_ref2,
    fun m g _ => Cert.Kernel3.Gen.frame m g, fun m g _ => Cert.Kernel3Ideal.Gen.frame m g, run_ref3,
    fun m g _ => Cert.Kernel4.Gen.frame m g, fun m g _ => Cert.Kernel4Ideal.Gen.frame m g, run_ref4,
    fun m g _ => Cert.Kernel5.Gen.frame m g, fun m g _ => Cert.Kernel5Ideal.Gen.frame m g, run_ref5,
    fun m g _ => Cert.Kernel6.Act.frame m g, fun m g _ => Cert.Kernel6Ideal.Act.frame m g, fun m g _ => Cert.Kernel6Ideal.Act.frame m g,
    run_ref6, fun m g _ => run_ref6 m g trivial,
    fun m g _ => Cert.Kernel7.Gen.frame m g, fun m g _ => Cert.Kernel7Ideal.Gen.frame m g, run_ref7,
    fun m g _ => Cert.Kernel8.Gen.frame m g, fun m g _ => Cert.Kernel8Ideal.Gen.frame m g, run_ref8,
    fun m g _ => Cert.Kernel9.Gen.frame m g, fun m g _ => Cert.Kernel9Ideal.Gen.frame m g, run_ref9,
    fun m g _ => Cert.Kernel10.Gen.frame m g, fun m g _ => Cert.Kernel10Ideal.Gen.frame m g, run_ref10,
    fun m g _ => Cert.Kernel11.Gen.frame m g, fun m g _ => Cert.Kernel11Ideal.Gen.frame m g, run_ref11,
    fun m g _ => Cert.Kernel12.Gen.frame m g, fun m g _ => Cert.Kernel12Ideal.Gen.frame m g, run_ref12,
    fun m g _ => Cert.Kernel13.Gen.frame m g, fun m g _ => Cert.Kernel13Ideal.Gen.frame m g, run_ref13,
    preserves, algebraic, trivial, Cert.Ffn.W2.algebraic, trivial, Cert.Ffn.W3.algebraic, trivial, Cert.Ffn.W4.algebraic, trivial, Cert.Ffn.W5.algebraic,
    trivial, Cert.Ffn.W6.algebraic, trivial, Cert.Ffn.W7.algebraic,
    trivial, Cert.Adam.W8.algebraic, trivial, Cert.Adam.W9.algebraic, trivial, Cert.Adam.W10.algebraic, trivial, Cert.Adam.W11.algebraic, trivial, Cert.Adam.W12.algebraic, trivial, Cert.Adam.W13.algebraic⟩

end Cert.Proof

end
